-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ preserves_Kernel2_Kernel2Ideal
    ∧ algebraic_Kernel2Ideal_Reference2Ideal (hKernel2Ideal := hKernel2Ideal) (hReference2Ideal := hReference2Ideal)
-- ==== Kernel.lean ====
abbrev S8 : Shape := ⟨1, ![8]⟩
abbrev S32768x5632 : Shape := ⟨2, ![32768, 5632]⟩
abbrev S256x4x64x256 : Shape := ⟨4, ![256, 4, 64, 256]⟩
abbrev S32768x2048 : Shape := ⟨2, ![32768, 2048]⟩
abbrev S16x384x128 : Shape := ⟨3, ![16, 384, 128]⟩
abbrev S384x128 : Shape := ⟨2, ![384, 128]⟩
abbrev S4x1x512 : Shape := ⟨3, ![4, 1, 512]⟩
abbrev S1x1024 : Shape := ⟨2, ![1, 1024]⟩
abbrev S2048x2048 : Shape := ⟨2, ![2048, 2048]⟩
abbrev S1x2048 : Shape := ⟨2, ![1, 2048]⟩
abbrev S512x1024 : Shape := ⟨2, ![512, 1024]⟩
abbrev S128x512 : Shape := ⟨2, ![128, 512]⟩
abbrev S512x512 : Shape := ⟨2, ![512, 512]⟩
abbrev S4x4x64x256 : Shape := ⟨4, ![4, 4, 64, 256]⟩
abbrev S512x2048 : Shape := ⟨2, ![512, 2048]⟩
abbrev S3x2048x256 : Shape := ⟨3, ![3, 2048, 256]⟩
abbrev S3 : Shape := ⟨1, ![3]⟩
abbrev S4x128x256 : Shape := ⟨3, ![4, 128, 256]⟩
abbrev S8x128x128 : Shape := ⟨3, ![8, 128, 128]⟩
abbrev S4x128x128 : Shape := ⟨3, ![4, 128, 128]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S128x128 : Shape := ⟨2, ![128, 128]⟩
abbrev S1x128x128 : Shape := ⟨3, ![1, 128, 128]⟩
abbrev S128x256 : Shape := ⟨2, ![128, 256]⟩
abbrev S1x128x256 : Shape := ⟨3, ![1, 128, 256]⟩
abbrev S768x512 : Shape := ⟨2, ![768, 512]⟩
abbrev S768x128 : Shape := ⟨2, ![768, 128]⟩
abbrev S64x256 : Shape := ⟨2, ![64, 256]⟩
abbrev S256x128 : Shape := ⟨2, ![256, 128]⟩
abbrev S384x256 : Shape := ⟨2, ![384, 256]⟩
abbrev S384x512 : Shape := ⟨2, ![384, 512]⟩
abbrev S1x384x128 : Shape := ⟨3, ![1, 384, 128]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S1x1x64x256 : Shape := ⟨4, ![1, 1, 64, 256]⟩
abbrev S512x256 : Shape := ⟨2, ![512, 256]⟩
abbrev S128 : Shape := ⟨1, ![128]⟩
abbrev S128x1 : Shape := ⟨2, ![128, 1]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x2048 : Shape := ⟨2, ![256, 2048]⟩
abbrev S1024x2048 : Shape := ⟨2, ![1024, 2048]⟩

abbrev nBuf : Space → Nat
  | .hbm => 13
  | .vmem => 46
  | .smem => 2
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S32768x5632, .bf16⟩
  | .hbm, ⟨3, _⟩ => ⟨S256x4x64x256, .bf16⟩
  | .hbm, ⟨4, _⟩ => ⟨S32768x2048, .f32⟩
  | .hbm, ⟨5, _⟩ => ⟨S16x384x128, .f32⟩
  | .hbm, ⟨6, _⟩ => ⟨S384x128, .f32⟩
  | .hbm, ⟨7, _⟩ => ⟨S4x1x512, .f32⟩
  | .hbm, ⟨8, _⟩ => ⟨S1x1024, .f32⟩
  | .hbm, ⟨9, _⟩ => ⟨S1x1024, .f32⟩
  | .hbm, ⟨10, _⟩ => ⟨S2048x2048, .f32⟩
  | .hbm, ⟨11, _⟩ => ⟨S1x2048, .f32⟩
  | .hbm, ⟨12, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S16x384x128, .f32⟩
  | .local _ .vmem, ⟨9, _⟩ => ⟨S384x128, .f32⟩
  | .local _ .vmem, ⟨10, _⟩ => ⟨S4x1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S4x4x64x256, .bf16⟩
  | .local _ .vmem, ⟨28, _⟩ => ⟨S4x4x64x256, .bf16⟩
  | .local _ .vmem, ⟨29, _⟩ => ⟨S1x1024, .f32⟩
  | .local _ .vmem, ⟨30, _⟩ => ⟨S512x2048, .f32⟩
  | .local _ .vmem, ⟨31, _⟩ => ⟨S512x2048, .f32⟩
  | .local _ .vmem, ⟨32, _⟩ => ⟨S1x1024, .f32⟩
  | .local _ .vmem, ⟨33, _⟩ => ⟨S1x2048, .f32⟩
  | .local _ .vmem, ⟨34, _⟩ => ⟨S512x2048, .f32⟩
  | .local _ .vmem, ⟨35, _⟩ => ⟨S512x2048, .f32⟩
  | .local _ .vmem, ⟨36, _⟩ => ⟨S2048x2048, .bf16⟩
  | .local _ .vmem, ⟨37, _⟩ => ⟨S3x2048x256, .f32⟩
  | .local _ .vmem, ⟨38, _⟩ => ⟨S512x1024, .bf16⟩
  | .local _ .vmem, ⟨39, _⟩ => ⟨S512x1024, .bf16⟩
  | .local _ .vmem, ⟨40, _⟩ => ⟨S4x128x256, .f32⟩
  | .local _ .vmem, ⟨41, _⟩ => ⟨S8x128x128, .f32⟩
  | .local _ .vmem, ⟨42, _⟩ => ⟨S4x128x128, .f32⟩
  | .local _ .vmem, ⟨43, _⟩ => ⟨S4x128x128, .f32⟩
  | .local _ .vmem, ⟨44, _⟩ => ⟨S4x128x128, .f32⟩
  | .local _ .vmem, ⟨45, _⟩ => ⟨S4x128x256, .f32⟩
  | .local _ .smem, ⟨0, _⟩ => ⟨S8, .f32⟩
  | .local _ .smem, ⟨1, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_scratch8 : Ref sig .tc := ⟨.vmem, 43, rfl⟩
abbrev cc0_scratch9 : Ref sig .tc := ⟨.vmem, 44, rfl⟩
abbrev cc0_scratch10 : Ref sig .tc := ⟨.vmem, 45, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_1924 : BitVec 32 := 0#32
  let c8_i32 : BitVec 32 := 8#32
  let v3838 : BitVec 32 := Scalar.addi c0_i32_1924 c8_i32
  let c1_i32_1925 : BitVec 32 := 1#32
  ⟨c0_i32_1924, v3838, c1_i32_1925⟩
def k0_mult1 (k0_t1 : Fin k0_t1_loop.trips) : BitVec 32 :=
  let c0_i32_1924 : BitVec 32 := 0#32
  let c1_i32_1925 : BitVec 32 := 1#32
  let arg37 : BitVec 32 := Scf.iv c0_i32_1924 c1_i32_1925 k0_t1
  let c256_i32_2250 : BitVec 32 := 256#32
  let v4479 : BitVec 32 := Scalar.muli arg37 c256_i32_2250
  v4479
def k0_off1 (k0_t1 : Fin k0_t1_loop.trips) : Fin 3 → Nat :=
  let c0_2251 : Index := 0#32
  let c0_i32_1924 : BitVec 32 := 0#32
  let c1_i32_1925 : BitVec 32 := 1#32
  let arg37 : BitVec 32 := Scf.iv c0_i32_1924 c1_i32_1925 k0_t1
  let c256_i32_2250 : BitVec 32 := 256#32
  let v4479 : BitVec 32 := Scalar.muli arg37 c256_i32_2250
  let v4480 : BitVec 32 := v4479
  let v4481 : Index := Scalar.indexCast v4480
  let c0_2252 : Index := 0#32
  ![0, v4481.toNat, 0]
def k0_off2 (k0_t1 : Fin k0_t1_loop.trips) : Fin 2 → Nat :=
  let c0_i32_1924 : BitVec 32 := 0#32
  let c1_i32_1925 : BitVec 32 := 1#32
  let arg37 : BitVec 32 := Scf.iv c0_i32_1924 c1_i32_1925 k0_t1
  let c256_i32_2250 : BitVec 32 := 256#32
  let v4479 : BitVec 32 := Scalar.muli arg37 c256_i32_2250
  let v4480 : BitVec 32 := v4479
  let v4485 : Index := Scalar.indexCast v4480
  let c0_2253 : Index := 0#32
  ![v4485.toNat, 0]
@[reducible] def k0_t2_loop : Scf.Loop 32 :=
  let c0_i32_1938 : BitVec 32 := 0#32
  let c8_i32_1939 : BitVec 32 := 8#32
  let v3849 : BitVec 32 := Scalar.addi c0_i32_1938 c8_i32_1939
  let c1_i32_1940 : BitVec 32 := 1#32
  ⟨c0_i32_1938, v3849, c1_i32_1940⟩
def k0_mult2 (k0_t2 : Fin k0_t2_loop.trips) : BitVec 32 :=
  let c0_i32_1938 : BitVec 32 := 0#32
  let c1_i32_1940 : BitVec 32 := 1#32
  let arg37 : BitVec 32 := Scf.iv c0_i32_1938 c1_i32_1940 k0_t2
  let c256_i32_2250 : BitVec 32 := 256#32
  let v4479 : BitVec 32 := Scalar.muli arg37 c256_i32_2250
  v4479
def k0_off3 (k0_t2 : Fin k0_t2_loop.trips) : Fin 3 → Nat :=
  let c1_2251 : Index := 1#32
  let c0_i32_1938 : BitVec 32 := 0#32
  let c1_i32_1940 : BitVec 32 := 1#32
  let arg37 : BitVec 32 := Scf.iv c0_i32_1938 c1_i32_1940 k0_t2
  let c256_i32_2250 : BitVec 32 := 256#32
  let v4479 : BitVec 32 := Scalar.muli arg37 c256_i32_2250
  let v4480 : BitVec 32 := v4479
  let v4481 : Index := Scalar.indexCast v4480
  let c0_2252 : Index := 0#32
  ![1, v4481.toNat, 0]
def k0_off4 (k0_t2 : Fin k0_t2_loop.trips) : Fin 2 → Nat :=
  let c0_i32_1938 : BitVec 32 := 0#32
  let c1_i32_1940 : BitVec 32 := 1#32
  let arg37 : BitVec 32 := Scf.iv c0_i32_1938 c1_i32_1940 k0_t2
  let c256_i32_2250 : BitVec 32 := 256#32
  let v4479 : BitVec 32 := Scalar.muli arg37 c256_i32_2250
  let v4480 : BitVec 32 := v4479
  let v4485 : Index := Scalar.indexCast v4480
  let c256_2253 : Index := 256#32
  ![v4485.toNat, 256]
@[reducible] def k0_t3_loop : Scf.Loop 32 :=
  let c0_i32_1953 : BitVec 32 := 0#32
  let c8_i32_1954 : BitVec 32 := 8#32
  let v3860 : BitVec 32 := Scalar.addi c0_i32_1953 c8_i32_1954
  let c1_i32_1955 : BitVec 32 := 1#32
  ⟨c0_i32_1953, v3860, c1_i32_1955⟩
def k0_mult3 (k0_t3 : Fin k0_t3_loop.trips) : BitVec 32 :=
  let c0_i32_1953 : BitVec 32 := 0#32
  let c1_i32_1955 : BitVec 32 := 1#32
  let arg37 : BitVec 32 := Scf.iv c0_i32_1953 c1_i32_1955 k0_t3
  let c256_i32_2250 : BitVec 32 := 256#32
  let v4479 : BitVec 32 := Scalar.muli arg37 c256_i32_2250
  v4479
def k0_off5 (k0_t3 : Fin k0_t3_loop.trips) : Fin 3 → Nat :=
  let c2_2251 : Index := 2#32
  let c0_i32_1953 : BitVec 32 := 0#32
  let c1_i32_1955 : BitVec 32 := 1#32
  let arg37 : BitVec 32 := Scf.iv c0_i32_1953 c1_i32_1955 k0_t3
  let c256_i32_2250 : BitVec 32 := 256#32
  let v4479 : BitVec 32 := Scalar.muli arg37 c256_i32_2250
  let v4480 : BitVec 32 := v4479
  let v4481 : Index := Scalar.indexCast v4480
  let c0_2252 : Index := 0#32
  ![2, v4481.toNat, 0]
def k0_off6 (k0_t3 : Fin k0_t3_loop.trips) : Fin 2 → Nat :=
  let c0_i32_1953 : BitVec 32 := 0#32
  let c1_i32_1955 : BitVec 32 := 1#32
  let arg37 : BitVec 32 := Scf.iv c0_i32_1953 c1_i32_1955 k0_t3
  let c256_i32_2250 : BitVec 32 := 256#32
  let v4479 : BitVec 32 := Scalar.muli arg37 c256_i32_2250
  let v4480 : BitVec 32 := v4479
  let v4485 : Index := Scalar.indexCast v4480
  let c512_2253 : Index := 512#32
  ![v4485.toNat, 512]
@[reducible] def k0_t4_loop : Scf.Loop 32 :=
  let c0_i32_1968 : BitVec 32 := 0#32
  let c8_i32_1969 : BitVec 32 := 8#32
  let v3871 : BitVec 32 := Scalar.addi c0_i32_1968 c8_i32_1969
  let c1_i32_1970 : BitVec 32 := 1#32
  ⟨c0_i32_1968, v3871, c1_i32_1970⟩
def k0_mult4 (k0_t4 : Fin k0_t4_loop.trips) : BitVec 32 :=
  let c0_i32_1968 : BitVec 32 := 0#32
  let c1_i32_1970 : BitVec 32 := 1#32
  let arg37 : BitVec 32 := Scf.iv c0_i32_1968 c1_i32_1970 k0_t4
  let c256_i32_2250 : BitVec 32 := 256#32
  let v4479 : BitVec 32 := Scalar.muli arg37 c256_i32_2250
  v4479
def k0_off7 (k0_t4 : Fin k0_t4_loop.trips) : Fin 3 → Nat :=
  let c0_2251 : Index := 0#32
  let c0_i32_1968 : BitVec 32 := 0#32
  let c1_i32_1970 : BitVec 32 := 1#32
  let arg37 : BitVec 32 := Scf.iv c0_i32_1968 c1_i32_1970 k0_t4
  let c256_i32_2250 : BitVec 32 := 256#32
  let v4479 : BitVec 32 := Scalar.muli arg37 c256_i32_2250
  let v4480 : BitVec 32 := v4479
  let v4481 : Index := Scalar.indexCast v4480
  let c0_2252 : Index := 0#32
  ![0, v4481.toNat, 0]
def k0_off8 (k0_t4 : Fin k0_t4_loop.trips) : Fin 2 → Nat :=
  let c0_i32_1968 : BitVec 32 := 0#32
  let c1_i32_1970 : BitVec 32 := 1#32
  let arg37 : BitVec 32 := Scf.iv c0_i32_1968 c1_i32_1970 k0_t4
  let c256_i32_2250 : BitVec 32 := 256#32
  let v4479 : BitVec 32 := Scalar.muli arg37 c256_i32_2250
  let v4480 : BitVec 32 := v4479
  let v4485 : Index := Scalar.indexCast v4480
  let c768_2253 : Index := 768#32
  ![v4485.toNat, 768]
@[reducible] def k0_t5_loop : Scf.Loop 32 :=
  let c0_i32_1983 : BitVec 32 := 0#32
  let c8_i32_1984 : BitVec 32 := 8#32
  let v3882 : BitVec 32 := Scalar.addi c0_i32_1983 c8_i32_1984
  let c1_i32_1985 : BitVec 32 := 1#32
  ⟨c0_i32_1983, v3882, c1_i32_1985⟩
def k0_mult5 (k0_t5 : Fin k0_t5_loop.trips) : BitVec 32 :=
  let c0_i32_1983 : BitVec 32 := 0#32
  let c1_i32_1985 : BitVec 32 := 1#32
  let arg37 : BitVec 32 := Scf.iv c0_i32_1983 c1_i32_1985 k0_t5
  let c256_i32_2250 : BitVec 32 := 256#32
  let v4479 : BitVec 32 := Scalar.muli arg37 c256_i32_2250
  v4479
def k0_off9 (k0_t5 : Fin k0_t5_loop.trips) : Fin 3 → Nat :=
  let c1_2251 : Index := 1#32
  let c0_i32_1983 : BitVec 32 := 0#32
  let c1_i32_1985 : BitVec 32 := 1#32
  let arg37 : BitVec 32 := Scf.iv c0_i32_1983 c1_i32_1985 k0_t5
  let c256_i32_2250 : BitVec 32 := 256#32
  let v4479 : BitVec 32 := Scalar.muli arg37 c256_i32_2250
  let v4480 : BitVec 32 := v4479
  let v4481 : Index := Scalar.indexCast v4480
  let c0_2252 : Index := 0#32
  ![1, v4481.toNat, 0]
def k0_off10 (k0_t5 : Fin k0_t5_loop.trips) : Fin 2 → Nat :=
  let c0_i32_1983 : BitVec 32 := 0#32
  let c1_i32_1985 : BitVec 32 := 1#32
  let arg37 : BitVec 32 := Scf.iv c0_i32_1983 c1_i32_1985 k0_t5
  let c256_i32_2250 : BitVec 32 := 256#32
  let v4479 : BitVec 32 := Scalar.muli arg37 c256_i32_2250
  let v4480 : BitVec 32 := v4479
  let v4485 : Index := Scalar.indexCast v4480
  let c1024_2253 : Index := 1024#32
  ![v4485.toNat, 1024]
@[reducible] def k0_t6_loop : Scf.Loop 32 :=
  let c0_i32_1998 : BitVec 32 := 0#32
  let c8_i32_1999 : BitVec 32 := 8#32
  let v3893 : BitVec 32 := Scalar.addi c0_i32_1998 c8_i32_1999
  let c1_i32_2000 : BitVec 32 := 1#32
  ⟨c0_i32_1998, v3893, c1_i32_2000⟩
def k0_mult6 (k0_t6 : Fin k0_t6_loop.trips) : BitVec 32 :=
  let c0_i32_1998 : BitVec 32 := 0#32
  let c1_i32_2000 : BitVec 32 := 1#32
  let arg37 : BitVec 32 := Scf.iv c0_i32_1998 c1_i32_2000 k0_t6
  let c256_i32_2250 : BitVec 32 := 256#32
  let v4479 : BitVec 32 := Scalar.muli arg37 c256_i32_2250
  v4479
def k0_off11 (k0_t6 : Fin k0_t6_loop.trips) : Fin 3 → Nat :=
  let c2_2251 : Index := 2#32
  let c0_i32_1998 : BitVec 32 := 0#32
  let c1_i32_2000 : BitVec 32 := 1#32
  let arg37 : BitVec 32 := Scf.iv c0_i32_1998 c1_i32_2000 k0_t6
  let c256_i32_2250 : BitVec 32 := 256#32
  let v4479 : BitVec 32 := Scalar.muli arg37 c256_i32_2250
  let v4480 : BitVec 32 := v4479
  let v4481 : Index := Scalar.indexCast v4480
  let c0_2252 : Index := 0#32
  ![2, v4481.toNat, 0]
def k0_off12 (k0_t6 : Fin k0_t6_loop.trips) : Fin 2 → Nat :=
  let c0_i32_1998 : BitVec 32 := 0#32
  let c1_i32_2000 : BitVec 32 := 1#32
  let arg37 : BitVec 32 := Scf.iv c0_i32_1998 c1_i32_2000 k0_t6
  let c256_i32_2250 : BitVec 32 := 256#32
  let v4479 : BitVec 32 := Scalar.muli arg37 c256_i32_2250
  let v4480 : BitVec 32 := v4479
  let v4485 : Index := Scalar.indexCast v4480
  let c1280 : Index := 1280#32
  ![v4485.toNat, 1280]
@[reducible] def k0_t7_loop : Scf.Loop 32 :=
  let c0_i32_2008 : BitVec 32 := 0#32
  let c8_i32_2009 : BitVec 32 := 8#32
  let v3899 : BitVec 32 := Scalar.addi c0_i32_2008 c8_i32_2009
  let c1_i32_2010 : BitVec 32 := 1#32
  ⟨c0_i32_2008, v3899, c1_i32_2010⟩
def k0_mult7 (k0_t7 : Fin k0_t7_loop.trips) : BitVec 32 :=
  let c0_i32_2008 : BitVec 32 := 0#32
  let c1_i32_2010 : BitVec 32 := 1#32
  let arg37 : BitVec 32 := Scf.iv c0_i32_2008 c1_i32_2010 k0_t7
  let c256_i32_2250 : BitVec 32 := 256#32
  let v4479 : BitVec 32 := Scalar.muli arg37 c256_i32_2250
  v4479
def k0_off13 (k0_t7 : Fin k0_t7_loop.trips) : Fin 3 → Nat :=
  let c0_2251 : Index := 0#32
  let c0_i32_2008 : BitVec 32 := 0#32
  let c1_i32_2010 : BitVec 32 := 1#32
  let arg37 : BitVec 32 := Scf.iv c0_i32_2008 c1_i32_2010 k0_t7
  let c256_i32_2250 : BitVec 32 := 256#32
  let v4479 : BitVec 32 := Scalar.muli arg37 c256_i32_2250
  let v4480 : BitVec 32 := v4479
  let v4481 : Index := Scalar.indexCast v4480
  let c0_2252 : Index := 0#32
  ![0, v4481.toNat, 0]
def k0_off14 (k0_t7 : Fin k0_t7_loop.trips) : Fin 2 → Nat :=
  let c0_i32_2008 : BitVec 32 := 0#32
  let c1_i32_2010 : BitVec 32 := 1#32
  let arg37 : BitVec 32 := Scf.iv c0_i32_2008 c1_i32_2010 k0_t7
  let c256_i32_2250 : BitVec 32 := 256#32
  let v4479 : BitVec 32 := Scalar.muli arg37 c256_i32_2250
  let v4480 : BitVec 32 := v4479
  let v4485 : Index := Scalar.indexCast v4480
  let c1536 : Index := 1536#32
  ![v4485.toNat, 1536]
@[reducible] def k0_t8_loop : Scf.Loop 32 :=
  let c0_i32_2018 : BitVec 32 := 0#32
  let c8_i32_2019 : BitVec 32 := 8#32
  let v3905 : BitVec 32 := Scalar.addi c0_i32_2018 c8_i32_2019
  let c1_i32_2020 : BitVec 32 := 1#32
  ⟨c0_i32_2018, v3905, c1_i32_2020⟩
def k0_mult8 (k0_t8 : Fin k0_t8_loop.trips) : BitVec 32 :=
  let c0_i32_2018 : BitVec 32 := 0#32
  let c1_i32_2020 : BitVec 32 := 1#32
  let arg37 : BitVec 32 := Scf.iv c0_i32_2018 c1_i32_2020 k0_t8
  let c256_i32_2250 : BitVec 32 := 256#32
  let v4479 : BitVec 32 := Scalar.muli arg37 c256_i32_2250
  v4479
def k0_off15 (k0_t8 : Fin k0_t8_loop.trips) : Fin 3 → Nat :=
  let c1_2251 : Index := 1#32
  let c0_i32_2018 : BitVec 32 := 0#32
  let c1_i32_2020 : BitVec 32 := 1#32
  let arg37 : BitVec 32 := Scf.iv c0_i32_2018 c1_i32_2020 k0_t8
  let c256_i32_2250 : BitVec 32 := 256#32
  let v4479 : BitVec 32 := Scalar.muli arg37 c256_i32_2250
  let v4480 : BitVec 32 := v4479
  let v4481 : Index := Scalar.indexCast v4480
  let c0_2252 : Index := 0#32
  ![1, v4481.toNat, 0]
def k0_off16 (k0_t8 : Fin k0_t8_loop.trips) : Fin 2 → Nat :=
  let c0_i32_2018 : BitVec 32 := 0#32
  let c1_i32_2020 : BitVec 32 := 1#32
  let arg37 : BitVec 32 := Scf.iv c0_i32_2018 c1_i32_2020 k0_t8
  let c256_i32_2250 : BitVec 32 := 256#32
  let v4479 : BitVec 32 := Scalar.muli arg37 c256_i32_2250
  let v4480 : BitVec 32 := v4479
  let v4485 : Index := Scalar.indexCast v4480
  let c1792 : Index := 1792#32
  ![v4485.toNat, 1792]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.addi arg1 c1_i32
  let c4_i32 : BitVec 32 := 4#32
  let v2 : BitVec 32 := Scalar.muli c4_i32 v1
  let c127_i32 : BitVec 32 := 127#32
  let v3 : BitVec 32 := Scalar.minsi v2 c127_i32
  let v4 : BitVec 32 := Scalar.addi v0 v3
  let c2_i32 : BitVec 32 := 2#32
  let c0_i32 : BitVec 32 := 0#32
  ![v4.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  ![v1.toNat, c6_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  ![v1.toNat, c7_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  ![v1.toNat, c10_i32.toNat]

def cc0_transform_17 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x4x64x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S512x2048 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Kernel2.lean ====
abbrev S32768x2048 : Shape := ⟨2, ![32768, 2048]⟩
abbrev S1x2048 : Shape := ⟨2, ![1, 2048]⟩
abbrev S2048x5632 : Shape := ⟨2, ![2048, 5632]⟩
abbrev S3x256x128 : Shape := ⟨3, ![3, 256, 128]⟩
abbrev S128x3x128 : Shape := ⟨3, ![128, 3, 128]⟩
abbrev S8 : Shape := ⟨1, ![8]⟩
abbrev S32768x5632 : Shape := ⟨2, ![32768, 5632]⟩
abbrev S256x4x64x256 : Shape := ⟨4, ![256, 4, 64, 256]⟩
abbrev S512x2048 : Shape := ⟨2, ![512, 2048]⟩
abbrev S512x5632 : Shape := ⟨2, ![512, 5632]⟩
abbrev S4x4x64x256 : Shape := ⟨4, ![4, 4, 64, 256]⟩
abbrev S3x2048x256 : Shape := ⟨3, ![3, 2048, 256]⟩
abbrev S3 : Shape := ⟨1, ![3]⟩
abbrev S4x128x256 : Shape := ⟨3, ![4, 128, 256]⟩
abbrev S4x128x128 : Shape := ⟨3, ![4, 128, 128]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S128x128 : Shape := ⟨2, ![128, 128]⟩
abbrev S1x128x128 : Shape := ⟨3, ![1, 128, 128]⟩
abbrev S128x256 : Shape := ⟨2, ![128, 256]⟩
abbrev S1x128x256 : Shape := ⟨3, ![1, 128, 256]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x3x128 : Shape := ⟨3, ![1, 3, 128]⟩
abbrev S3x128 : Shape := ⟨2, ![3, 128]⟩
abbrev S1x128 : Shape := ⟨2, ![1, 128]⟩
abbrev S2048x512 : Shape := ⟨2, ![2048, 512]⟩
abbrev S256x512 : Shape := ⟨2, ![256, 512]⟩
abbrev S64x256 : Shape := ⟨2, ![64, 256]⟩
abbrev S1x1x64x256 : Shape := ⟨4, ![1, 1, 64, 256]⟩

abbrev nBuf : Space → Nat
  | .hbm => 8
  | .vmem => 14
  | .smem => 1
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5632, .f32⟩
  | .hbm, ⟨3, _⟩ => ⟨S3x256x128, .f32⟩
  | .hbm, ⟨4, _⟩ => ⟨S128x3x128, .f32⟩
  | .hbm, ⟨5, _⟩ => ⟨S8, .f32⟩
  | .hbm, ⟨6, _⟩ => ⟨S32768x5632, .bf16⟩
  | .hbm, ⟨7, _⟩ => ⟨S256x4x64x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3x256x128, .f32⟩
  | .local _ .vmem, ⟨4, _⟩ => ⟨S128x3x128, .f32⟩
  | .local _ .vmem, ⟨5, _⟩ => ⟨S512x5632, .bf16⟩
  | .local _ .vmem, ⟨6, _⟩ => ⟨S512x5632, .bf16⟩
  | .local _ .vmem, ⟨7, _⟩ => ⟨S4x4x64x256, .bf16⟩
  | .local _ .vmem, ⟨8, _⟩ => ⟨S4x4x64x256, .bf16⟩
  | .local _ .vmem, ⟨9, _⟩ => ⟨S2048x5632, .bf16⟩
  | .local _ .vmem, ⟨10, _⟩ => ⟨S3x2048x256, .f32⟩
  | .local _ .vmem, ⟨11, _⟩ => ⟨S4x128x256, .f32⟩
  | .local _ .vmem, ⟨12, _⟩ => ⟨S4x128x128, .f32⟩
  | .local _ .vmem, ⟨13, _⟩ => ⟨S4x128x256, .f32⟩
  | .local _ .smem, ⟨0, _⟩ => ⟨S8, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

@[reducible] def k0_t1_loop : Scf.Loop 32 :=
  let c0_i32_840 : BitVec 32 := 0#32
  let c8_i32 : BitVec 32 := 8#32
  let v1709 : BitVec 32 := Scalar.addi c0_i32_840 c8_i32
  let c1_i32_841 : BitVec 32 := 1#32
  ⟨c0_i32_840, v1709, c1_i32_841⟩
def k0_mult1 (k0_t1 : Fin k0_t1_loop.trips) : BitVec 32 :=
  let c0_i32_840 : BitVec 32 := 0#32
  let c1_i32_841 : BitVec 32 := 1#32
  let arg15 : BitVec 32 := Scf.iv c0_i32_840 c1_i32_841 k0_t1
  let c256_i32_1256 : BitVec 32 := 256#32
  let v2253 : BitVec 32 := Scalar.muli arg15 c256_i32_1256
  v2253
def k0_off1 (k0_t1 : Fin k0_t1_loop.trips) : Fin 3 → Nat :=
  let c0_1257 : Index := 0#32
  let c0_i32_840 : BitVec 32 := 0#32
  let c1_i32_841 : BitVec 32 := 1#32
  let arg15 : BitVec 32 := Scf.iv c0_i32_840 c1_i32_841 k0_t1
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off2 (k0_t1 : Fin k0_t1_loop.trips) : Fin 2 → Nat :=
  let c0_i32_840 : BitVec 32 := 0#32
  let c1_i32_841 : BitVec 32 := 1#32
  let arg15 : BitVec 32 := Scf.iv c0_i32_840 c1_i32_841 k0_t1
  let c256_i32_1256 : BitVec 32 := 256#32
  let v2253 : BitVec 32 := Scalar.muli arg15 c256_i32_1256
  let v2254 : BitVec 32 := v2253
  let v2261 : Index := Scalar.indexCast v2254
  let c0_1260 : Index := 0#32
  ![v2261.toNat, 0]
@[reducible] def k0_t2_loop : Scf.Loop 32 :=
  let c0_i32_854 : BitVec 32 := 0#32
  let c8_i32_855 : BitVec 32 := 8#32
  let v1720 : BitVec 32 := Scalar.addi c0_i32_854 c8_i32_855
  let c1_i32_856 : BitVec 32 := 1#32
  ⟨c0_i32_854, v1720, c1_i32_856⟩
def k0_mult2 (k0_t2 : Fin k0_t2_loop.trips) : BitVec 32 :=
  let c0_i32_854 : BitVec 32 := 0#32
  let c1_i32_856 : BitVec 32 := 1#32
  let arg15 : BitVec 32 := Scf.iv c0_i32_854 c1_i32_856 k0_t2
  let c256_i32_1256 : BitVec 32 := 256#32
  let v2253 : BitVec 32 := Scalar.muli arg15 c256_i32_1256
  v2253
def k0_off3 (k0_t2 : Fin k0_t2_loop.trips) : Fin 3 → Nat :=
  let c1_1257 : Index := 1#32
  let c0_i32_854 : BitVec 32 := 0#32
  let c1_i32_856 : BitVec 32 := 1#32
  let arg15 : BitVec 32 := Scf.iv c0_i32_854 c1_i32_856 k0_t2
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off4 (k0_t2 : Fin k0_t2_loop.trips) : Fin 2 → Nat :=
  let c0_i32_854 : BitVec 32 := 0#32
  let c1_i32_856 : BitVec 32 := 1#32
  let arg15 : BitVec 32 := Scf.iv c0_i32_854 c1_i32_856 k0_t2
  let c256_i32_1256 : BitVec 32 := 256#32
  let v2253 : BitVec 32 := Scalar.muli arg15 c256_i32_1256
  let v2254 : BitVec 32 := v2253
  let v2261 : Index := Scalar.indexCast v2254
  let c256_1260 : Index := 256#32
  ![v2261.toNat, 256]
@[reducible] def k0_t3_loop : Scf.Loop 32 :=
  let c0_i32_869 : BitVec 32 := 0#32
  let c8_i32_870 : BitVec 32 := 8#32
  let v1731 : BitVec 32 := Scalar.addi c0_i32_869 c8_i32_870
  let c1_i32_871 : BitVec 32 := 1#32
  ⟨c0_i32_869, v1731, c1_i32_871⟩
def k0_mult3 (k0_t3 : Fin k0_t3_loop.trips) : BitVec 32 :=
  let c0_i32_869 : BitVec 32 := 0#32
  let c1_i32_871 : BitVec 32 := 1#32
  let arg15 : BitVec 32 := Scf.iv c0_i32_869 c1_i32_871 k0_t3
  let c256_i32_1256 : BitVec 32 := 256#32
  let v2253 : BitVec 32 := Scalar.muli arg15 c256_i32_1256
  v2253
def k0_off5 (k0_t3 : Fin k0_t3_loop.trips) : Fin 3 → Nat :=
  let c2_1257 : Index := 2#32
  let c0_i32_869 : BitVec 32 := 0#32
  let c1_i32_871 : BitVec 32 := 1#32
  let arg15 : BitVec 32 := Scf.iv c0_i32_869 c1_i32_871 k0_t3
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off6 (k0_t3 : Fin k0_t3_loop.trips) : Fin 2 → Nat :=
  let c0_i32_869 : BitVec 32 := 0#32
  let c1_i32_871 : BitVec 32 := 1#32
  let arg15 : BitVec 32 := Scf.iv c0_i32_869 c1_i32_871 k0_t3
  let c256_i32_1256 : BitVec 32 := 256#32
  let v2253 : BitVec 32 := Scalar.muli arg15 c256_i32_1256
  let v2254 : BitVec 32 := v2253
  let v2261 : Index := Scalar.indexCast v2254
  let c512_1260 : Index := 512#32
  ![v2261.toNat, 512]
@[reducible] def k0_t4_loop : Scf.Loop 32 :=
  let c0_i32_884 : BitVec 32 := 0#32
  let c8_i32_885 : BitVec 32 := 8#32
  let v1742 : BitVec 32 := Scalar.addi c0_i32_884 c8_i32_885
  let c1_i32_886 : BitVec 32 := 1#32
  ⟨c0_i32_884, v1742, c1_i32_886⟩
def k0_mult4 (k0_t4 : Fin k0_t4_loop.trips) : BitVec 32 :=
  let c0_i32_884 : BitVec 32 := 0#32
  let c1_i32_886 : BitVec 32 := 1#32
  let arg15 : BitVec 32 := Scf.iv c0_i32_884 c1_i32_886 k0_t4
  let c256_i32_1256 : BitVec 32 := 256#32
  let v2253 : BitVec 32 := Scalar.muli arg15 c256_i32_1256
  v2253
def k0_off7 (k0_t4 : Fin k0_t4_loop.trips) : Fin 3 → Nat :=
  let c0_1257 : Index := 0#32
  let c0_i32_884 : BitVec 32 := 0#32
  let c1_i32_886 : BitVec 32 := 1#32
  let arg15 : BitVec 32 := Scf.iv c0_i32_884 c1_i32_886 k0_t4
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off8 (k0_t4 : Fin k0_t4_loop.trips) : Fin 2 → Nat :=
  let c0_i32_884 : BitVec 32 := 0#32
  let c1_i32_886 : BitVec 32 := 1#32
  let arg15 : BitVec 32 := Scf.iv c0_i32_884 c1_i32_886 k0_t4
  let c256_i32_1256 : BitVec 32 := 256#32
  let v2253 : BitVec 32 := Scalar.muli arg15 c256_i32_1256
  let v2254 : BitVec 32 := v2253
  let v2261 : Index := Scalar.indexCast v2254
  let c768 : Index := 768#32
  ![v2261.toNat, 768]
@[reducible] def k0_t5_loop : Scf.Loop 32 :=
  let c0_i32_899 : BitVec 32 := 0#32
  let c8_i32_900 : BitVec 32 := 8#32
  let v1753 : BitVec 32 := Scalar.addi c0_i32_899 c8_i32_900
  let c1_i32_901 : BitVec 32 := 1#32
  ⟨c0_i32_899, v1753, c1_i32_901⟩
def k0_mult5 (k0_t5 : Fin k0_t5_loop.trips) : BitVec 32 :=
  let c0_i32_899 : BitVec 32 := 0#32
  let c1_i32_901 : BitVec 32 := 1#32
  let arg15 : BitVec 32 := Scf.iv c0_i32_899 c1_i32_901 k0_t5
  let c256_i32_1256 : BitVec 32 := 256#32
  let v2253 : BitVec 32 := Scalar.muli arg15 c256_i32_1256
  v2253
def k0_off9 (k0_t5 : Fin k0_t5_loop.trips) : Fin 3 → Nat :=
  let c1_1257 : Index := 1#32
  let c0_i32_899 : BitVec 32 := 0#32
  let c1_i32_901 : BitVec 32 := 1#32
  let arg15 : BitVec 32 := Scf.iv c0_i32_899 c1_i32_901 k0_t5
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off10 (k0_t5 : Fin k0_t5_loop.trips) : Fin 2 → Nat :=
  let c0_i32_899 : BitVec 32 := 0#32
  let c1_i32_901 : BitVec 32 := 1#32
  let arg15 : BitVec 32 := Scf.iv c0_i32_899 c1_i32_901 k0_t5
  let c256_i32_1256 : BitVec 32 := 256#32
  let v2253 : BitVec 32 := Scalar.muli arg15 c256_i32_1256
  let v2254 : BitVec 32 := v2253
  let v2259 : Index := Scalar.indexCast v2254
  let c1024_1259 : Index := 1024#32
  ![v2259.toNat, 1024]
@[reducible] def k0_t6_loop : Scf.Loop 32 :=
  let c0_i32_914 : BitVec 32 := 0#32
  let c8_i32_915 : BitVec 32 := 8#32
  let v1764 : BitVec 32 := Scalar.addi c0_i32_914 c8_i32_915
  let c1_i32_916 : BitVec 32 := 1#32
  ⟨c0_i32_914, v1764, c1_i32_916⟩
def k0_mult6 (k0_t6 : Fin k0_t6_loop.trips) : BitVec 32 :=
  let c0_i32_914 : BitVec 32 := 0#32
  let c1_i32_916 : BitVec 32 := 1#32
  let arg15 : BitVec 32 := Scf.iv c0_i32_914 c1_i32_916 k0_t6
  let c256_i32_1256 : BitVec 32 := 256#32
  let v2253 : BitVec 32 := Scalar.muli arg15 c256_i32_1256
  v2253
def k0_off11 (k0_t6 : Fin k0_t6_loop.trips) : Fin 3 → Nat :=
  let c2_1257 : Index := 2#32
  let c0_i32_914 : BitVec 32 := 0#32
  let c1_i32_916 : BitVec 32 := 1#32
  let arg15 : BitVec 32 := Scf.iv c0_i32_914 c1_i32_916 k0_t6
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off12 (k0_t6 : Fin k0_t6_loop.trips) : Fin 2 → Nat :=
  let c0_i32_914 : BitVec 32 := 0#32
  let c1_i32_916 : BitVec 32 := 1#32
  let arg15 : BitVec 32 := Scf.iv c0_i32_914 c1_i32_916 k0_t6
  let c256_i32_1256 : BitVec 32 := 256#32
  let v2253 : BitVec 32 := Scalar.muli arg15 c256_i32_1256
  let v2254 : BitVec 32 := v2253
  let v2259 : Index := Scalar.indexCast v2254
  let c1280 : Index := 1280#32
  ![v2259.toNat, 1280]
@[reducible] def k0_t7_loop : Scf.Loop 32 :=
  let c0_i32_929 : BitVec 32 := 0#32
  let c8_i32_930 : BitVec 32 := 8#32
  let v1775 : BitVec 32 := Scalar.addi c0_i32_929 c8_i32_930
  let c1_i32_931 : BitVec 32 := 1#32
  ⟨c0_i32_929, v1775, c1_i32_931⟩
def k0_mult7 (k0_t7 : Fin k0_t7_loop.trips) : BitVec 32 :=
  let c0_i32_929 : BitVec 32 := 0#32
  let c1_i32_931 : BitVec 32 := 1#32
  let arg15 : BitVec 32 := Scf.iv c0_i32_929 c1_i32_931 k0_t7
  let c256_i32_1256 : BitVec 32 := 256#32
  let v2253 : BitVec 32 := Scalar.muli arg15 c256_i32_1256
  v2253
def k0_off13 (k0_t7 : Fin k0_t7_loop.trips) : Fin 3 → Nat :=
  let c0_1257 : Index := 0#32
  let c0_i32_929 : BitVec 32 := 0#32
  let c1_i32_931 : BitVec 32 := 1#32
  let arg15 : BitVec 32 := Scf.iv c0_i32_929 c1_i32_931 k0_t7
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off14 (k0_t7 : Fin k0_t7_loop.trips) : Fin 2 → Nat :=
  let c0_i32_929 : BitVec 32 := 0#32
  let c1_i32_931 : BitVec 32 := 1#32
  let arg15 : BitVec 32 := Scf.iv c0_i32_929 c1_i32_931 k0_t7
  let c256_i32_1256 : BitVec 32 := 256#32
  let v2253 : BitVec 32 := Scalar.muli arg15 c256_i32_1256
  let v2254 : BitVec 32 := v2253
  let v2259 : Index := Scalar.indexCast v2254
  let c1536_1259 : Index := 1536#32
  ![v2259.toNat, 1536]
@[reducible] def k0_t8_loop : Scf.Loop 32 :=
  let c0_i32_944 : BitVec 32 := 0#32
  let c8_i32_945 : BitVec 32 := 8#32
  let v1786 : BitVec 32 := Scalar.addi c0_i32_944 c8_i32_945
  let c1_i32_946 : BitVec 32 := 1#32
  ⟨c0_i32_944, v1786, c1_i32_946⟩
def k0_mult8 (k0_t8 : Fin k0_t8_loop.trips) : BitVec 32 :=
  let c0_i32_944 : BitVec 32 := 0#32
  let c1_i32_946 : BitVec 32 := 1#32
  let arg15 : BitVec 32 := Scf.iv c0_i32_944 c1_i32_946 k0_t8
  let c256_i32_1256 : BitVec 32 := 256#32
  let v2253 : BitVec 32 := Scalar.muli arg15 c256_i32_1256
  v2253
def k0_off15 (k0_t8 : Fin k0_t8_loop.trips) : Fin 3 → Nat :=
  let c1_1257 : Index := 1#32
  let c0_i32_944 : BitVec 32 := 0#32
  let c1_i32_946 : BitVec 32 := 1#32
  let arg15 : BitVec 32 := Scf.iv c0_i32_944 c1_i32_946 k0_t8
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off16 (k0_t8 : Fin k0_t8_loop.trips) : Fin 2 → Nat :=
  let c0_i32_944 : BitVec 32 := 0#32
  let c1_i32_946 : BitVec 32 := 1#32
  let arg15 : BitVec 32 := Scf.iv c0_i32_944 c1_i32_946 k0_t8
  let c256_i32_1256 : BitVec 32 := 256#32
  let v2253 : BitVec 32 := Scalar.muli arg15 c256_i32_1256
  let v2254 : BitVec 32 := v2253
  let v2259 : Index := Scalar.indexCast v2254
  let c1792 : Index := 1792#32
  ![v2259.toNat, 1792]
@[reducible] def k0_t9_loop : Scf.Loop 32 :=
  let c0_i32_959 : BitVec 32 := 0#32
  let c8_i32_960 : BitVec 32 := 8#32
  let v1797 : BitVec 32 := Scalar.addi c0_i32_959 c8_i32_960
  let c1_i32_961 : BitVec 32 := 1#32
  ⟨c0_i32_959, v1797, c1_i32_961⟩
def k0_mult9 (k0_t9 : Fin k0_t9_loop.trips) : BitVec 32 :=
  let c0_i32_959 : BitVec 32 := 0#32
  let c1_i32_961 : BitVec 32 := 1#32
  let arg15 : BitVec 32 := Scf.iv c0_i32_959 c1_i32_961 k0_t9
  let c256_i32_1256 : BitVec 32 := 256#32
  let v2253 : BitVec 32 := Scalar.muli arg15 c256_i32_1256
  v2253
def k0_off17 (k0_t9 : Fin k0_t9_loop.trips) : Fin 3 → Nat :=
  let c2_1257 : Index := 2#32
  let c0_i32_959 : BitVec 32 := 0#32
  let c1_i32_961 : BitVec 32 := 1#32
  let arg15 : BitVec 32 := Scf.iv c0_i32_959 c1_i32_961 k0_t9
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off18 (k0_t9 : Fin k0_t9_loop.trips) : Fin 2 → Nat :=
  let c0_i32_959 : BitVec 32 := 0#32
  let c1_i32_961 : BitVec 32 := 1#32
  let arg15 : BitVec 32 := Scf.iv c0_i32_959 c1_i32_961 k0_t9
  let c256_i32_1256 : BitVec 32 := 256#32
  let v2253 : BitVec 32 := Scalar.muli arg15 c256_i32_1256
  let v2254 : BitVec 32 := v2253
  let v2259 : Index := Scalar.indexCast v2254
  let c2048_1259 : Index := 2048#32
  ![v2259.toNat, 2048]
@[reducible] def k0_t10_loop : Scf.Loop 32 :=
  let c0_i32_974 : BitVec 32 := 0#32
  let c8_i32_975 : BitVec 32 := 8#32
  let v1808 : BitVec 32 := Scalar.addi c0_i32_974 c8_i32_975
  let c1_i32_976 : BitVec 32 := 1#32
  ⟨c0_i32_974, v1808, c1_i32_976⟩
def k0_mult10 (k0_t10 : Fin k0_t10_loop.trips) : BitVec 32 :=
  let c0_i32_974 : BitVec 32 := 0#32
  let c1_i32_976 : BitVec 32 := 1#32
  let arg15 : BitVec 32 := Scf.iv c0_i32_974 c1_i32_976 k0_t10
  let c256_i32_1256 : BitVec 32 := 256#32
  let v2253 : BitVec 32 := Scalar.muli arg15 c256_i32_1256
  v2253
def k0_off19 (k0_t10 : Fin k0_t10_loop.trips) : Fin 3 → Nat :=
  let c0_1257 : Index := 0#32
  let c0_i32_974 : BitVec 32 := 0#32
  let c1_i32_976 : BitVec 32 := 1#32
  let arg15 : BitVec 32 := Scf.iv c0_i32_974 c1_i32_976 k0_t10
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off20 (k0_t10 : Fin k0_t10_loop.trips) : Fin 2 → Nat :=
  let c0_i32_974 : BitVec 32 := 0#32
  let c1_i32_976 : BitVec 32 := 1#32
  let arg15 : BitVec 32 := Scf.iv c0_i32_974 c1_i32_976 k0_t10
  let c256_i32_1256 : BitVec 32 := 256#32
  let v2253 : BitVec 32 := Scalar.muli arg15 c256_i32_1256
  let v2254 : BitVec 32 := v2253
  let v2259 : Index := Scalar.indexCast v2254
  let c2304 : Index := 2304#32
  ![v2259.toNat, 2304]
@[reducible] def k0_t11_loop : Scf.Loop 32 :=
  let c0_i32_989 : BitVec 32 := 0#32
  let c8_i32_990 : BitVec 32 := 8#32
  let v1819 : BitVec 32 := Scalar.addi c0_i32_989 c8_i32_990
  let c1_i32_991 : BitVec 32 := 1#32
  ⟨c0_i32_989, v1819, c1_i32_991⟩
def k0_mult11 (k0_t11 : Fin k0_t11_loop.trips) : BitVec 32 :=
  let c0_i32_989 : BitVec 32 := 0#32
  let c1_i32_991 : BitVec 32 := 1#32
  let arg15 : BitVec 32 := Scf.iv c0_i32_989 c1_i32_991 k0_t11
  let c256_i32_1256 : BitVec 32 := 256#32
  let v2253 : BitVec 32 := Scalar.muli arg15 c256_i32_1256
  v2253
def k0_off21 (k0_t11 : Fin k0_t11_loop.trips) : Fin 3 → Nat :=
  let c1_1257 : Index := 1#32
  let c0_i32_989 : BitVec 32 := 0#32
  let c1_i32_991 : BitVec 32 := 1#32
  let arg15 : BitVec 32 := Scf.iv c0_i32_989 c1_i32_991 k0_t11
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off22 (k0_t11 : Fin k0_t11_loop.trips) : Fin 2 → Nat :=
  let c0_i32_989 : BitVec 32 := 0#32
  let c1_i32_991 : BitVec 32 := 1#32
  let arg15 : BitVec 32 := Scf.iv c0_i32_989 c1_i32_991 k0_t11
  let c256_i32_1256 : BitVec 32 := 256#32
  let v2253 : BitVec 32 := Scalar.muli arg15 c256_i32_1256
  let v2254 : BitVec 32 := v2253
  let v2259 : Index := Scalar.indexCast v2254
  let c2560_1259 : Index := 2560#32
  ![v2259.toNat, 2560]
@[reducible] def k0_t12_loop : Scf.Loop 32 :=
  let c0_i32_1004 : BitVec 32 := 0#32
  let c8_i32_1005 : BitVec 32 := 8#32
  let v1830 : BitVec 32 := Scalar.addi c0_i32_1004 c8_i32_1005
  let c1_i32_1006 : BitVec 32 := 1#32
  ⟨c0_i32_1004, v1830, c1_i32_1006⟩
def k0_mult12 (k0_t12 : Fin k0_t12_loop.trips) : BitVec 32 :=
  let c0_i32_1004 : BitVec 32 := 0#32
  let c1_i32_1006 : BitVec 32 := 1#32
  let arg15 : BitVec 32 := Scf.iv c0_i32_1004 c1_i32_1006 k0_t12
  let c256_i32_1256 : BitVec 32 := 256#32
  let v2253 : BitVec 32 := Scalar.muli arg15 c256_i32_1256
  v2253
def k0_off23 (k0_t12 : Fin k0_t12_loop.trips) : Fin 3 → Nat :=
  let c2_1257 : Index := 2#32
  let c0_i32_1004 : BitVec 32 := 0#32
  let c1_i32_1006 : BitVec 32 := 1#32
  let arg15 : BitVec 32 := Scf.iv c0_i32_1004 c1_i32_1006 k0_t12
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off24 (k0_t12 : Fin k0_t12_loop.trips) : Fin 2 → Nat :=
  let c0_i32_1004 : BitVec 32 := 0#32
  let c1_i32_1006 : BitVec 32 := 1#32
  let arg15 : BitVec 32 := Scf.iv c0_i32_1004 c1_i32_1006 k0_t12
  let c256_i32_1256 : BitVec 32 := 256#32
  let v2253 : BitVec 32 := Scalar.muli arg15 c256_i32_1256
  let v2254 : BitVec 32 := v2253
  let v2259 : Index := Scalar.indexCast v2254
  let c2816 : Index := 2816#32
  ![v2259.toNat, 2816]
@[reducible] def k0_t13_loop : Scf.Loop 32 :=
  let c0_i32_1019 : BitVec 32 := 0#32
  let c8_i32_1020 : BitVec 32 := 8#32
  let v1841 : BitVec 32 := Scalar.addi c0_i32_1019 c8_i32_1020
  let c1_i32_1021 : BitVec 32 := 1#32
  ⟨c0_i32_1019, v1841, c1_i32_1021⟩
def k0_mult13 (k0_t13 : Fin k0_t13_loop.trips) : BitVec 32 :=
  let c0_i32_1019 : BitVec 32 := 0#32
  let c1_i32_1021 : BitVec 32 := 1#32
  let arg15 : BitVec 32 := Scf.iv c0_i32_1019 c1_i32_1021 k0_t13
  let c256_i32_1256 : BitVec 32 := 256#32
  let v2253 : BitVec 32 := Scalar.muli arg15 c256_i32_1256
  v2253
def k0_off25 (k0_t13 : Fin k0_t13_loop.trips) : Fin 3 → Nat :=
  let c0_1257 : Index := 0#32
  let c0_i32_1019 : BitVec 32 := 0#32
  let c1_i32_1021 : BitVec 32 := 1#32
  let arg15 : BitVec 32 := Scf.iv c0_i32_1019 c1_i32_1021 k0_t13
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off26 (k0_t13 : Fin k0_t13_loop.trips) : Fin 2 → Nat :=
  let c0_i32_1019 : BitVec 32 := 0#32
  let c1_i32_1021 : BitVec 32 := 1#32
  let arg15 : BitVec 32 := Scf.iv c0_i32_1019 c1_i32_1021 k0_t13
  let c256_i32_1256 : BitVec 32 := 256#32
  let v2253 : BitVec 32 := Scalar.muli arg15 c256_i32_1256
  let v2254 : BitVec 32 := v2253
  let v2261 : Index := Scalar.indexCast v2254
  let c3072_1260 : Index := 3072#32
  ![v2261.toNat, 3072]
@[reducible] def k0_t14_loop : Scf.Loop 32 :=
  let c0_i32_1034 : BitVec 32 := 0#32
  let c8_i32_1035 : BitVec 32 := 8#32
  let v1852 : BitVec 32 := Scalar.addi c0_i32_1034 c8_i32_1035
  let c1_i32_1036 : BitVec 32 := 1#32
  ⟨c0_i32_1034, v1852, c1_i32_1036⟩
def k0_mult14 (k0_t14 : Fin k0_t14_loop.trips) : BitVec 32 :=
  let c0_i32_1034 : BitVec 32 := 0#32
  let c1_i32_1036 : BitVec 32 := 1#32
  let arg15 : BitVec 32 := Scf.iv c0_i32_1034 c1_i32_1036 k0_t14
  let c256_i32_1256 : BitVec 32 := 256#32
  let v2253 : BitVec 32 := Scalar.muli arg15 c256_i32_1256
  v2253
def k0_off27 (k0_t14 : Fin k0_t14_loop.trips) : Fin 3 → Nat :=
  let c1_1257 : Index := 1#32
  let c0_i32_1034 : BitVec 32 := 0#32
  let c1_i32_1036 : BitVec 32 := 1#32
  let arg15 : BitVec 32 := Scf.iv c0_i32_1034 c1_i32_1036 k0_t14
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off28 (k0_t14 : Fin k0_t14_loop.trips) : Fin 2 → Nat :=
  let c0_i32_1034 : BitVec 32 := 0#32
  let c1_i32_1036 : BitVec 32 := 1#32
  let arg15 : BitVec 32 := Scf.iv c0_i32_1034 c1_i32_1036 k0_t14
  let c256_i32_1256 : BitVec 32 := 256#32
  let v2253 : BitVec 32 := Scalar.muli arg15 c256_i32_1256
  let v2254 : BitVec 32 := v2253
  let v2261 : Index := Scalar.indexCast v2254
  let c3328_1260 : Index := 3328#32
  ![v2261.toNat, 3328]
@[reducible] def k0_t15_loop : Scf.Loop 32 :=
  let c0_i32_1049 : BitVec 32 := 0#32
  let c8_i32_1050 : BitVec 32 := 8#32
  let v1863 : BitVec 32 := Scalar.addi c0_i32_1049 c8_i32_1050
  let c1_i32_1051 : BitVec 32 := 1#32
  ⟨c0_i32_1049, v1863, c1_i32_1051⟩
def k0_mult15 (k0_t15 : Fin k0_t15_loop.trips) : BitVec 32 :=
  let c0_i32_1049 : BitVec 32 := 0#32
  let c1_i32_1051 : BitVec 32 := 1#32
  let arg15 : BitVec 32 := Scf.iv c0_i32_1049 c1_i32_1051 k0_t15
  let c256_i32_1256 : BitVec 32 := 256#32
  let v2253 : BitVec 32 := Scalar.muli arg15 c256_i32_1256
  v2253
def k0_off29 (k0_t15 : Fin k0_t15_loop.trips) : Fin 3 → Nat :=
  let c2_1257 : Index := 2#32
  let c0_i32_1049 : BitVec 32 := 0#32
  let c1_i32_1051 : BitVec 32 := 1#32
  let arg15 : BitVec 32 := Scf.iv c0_i32_1049 c1_i32_1051 k0_t15
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off30 (k0_t15 : Fin k0_t15_loop.trips) : Fin 2 → Nat :=
  let c0_i32_1049 : BitVec 32 := 0#32
  let c1_i32_1051 : BitVec 32 := 1#32
  let arg15 : BitVec 32 := Scf.iv c0_i32_1049 c1_i32_1051 k0_t15
  let c256_i32_1256 : BitVec 32 := 256#32
  let v2253 : BitVec 32 := Scalar.muli arg15 c256_i32_1256
  let v2254 : BitVec 32 := v2253
  let v2259 : Index := Scalar.indexCast v2254
  let c3584_1259 : Index := 3584#32
  ![v2259.toNat, 3584]
@[reducible] def k0_t16_loop : Scf.Loop 32 :=
  let c0_i32_1064 : BitVec 32 := 0#32
  let c8_i32_1065 : BitVec 32 := 8#32
  let v1874 : BitVec 32 := Scalar.addi c0_i32_1064 c8_i32_1065
  let c1_i32_1066 : BitVec 32 := 1#32
  ⟨c0_i32_1064, v1874, c1_i32_1066⟩
def k0_mult16 (k0_t16 : Fin k0_t16_loop.trips) : BitVec 32 :=
  let c0_i32_1064 : BitVec 32 := 0#32
  let c1_i32_1066 : BitVec 32 := 1#32
  let arg15 : BitVec 32 := Scf.iv c0_i32_1064 c1_i32_1066 k0_t16
  let c256_i32_1256 : BitVec 32 := 256#32
  let v2253 : BitVec 32 := Scalar.muli arg15 c256_i32_1256
  v2253
def k0_off31 (k0_t16 : Fin k0_t16_loop.trips) : Fin 3 → Nat :=
  let c0_1257 : Index := 0#32
  let c0_i32_1064 : BitVec 32 := 0#32
  let c1_i32_1066 : BitVec 32 := 1#32
  let arg15 : BitVec 32 := Scf.iv c0_i32_1064 c1_i32_1066 k0_t16
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off32 (k0_t16 : Fin k0_t16_loop.trips) : Fin 2 → Nat :=
  let c0_i32_1064 : BitVec 32 := 0#32
  let c1_i32_1066 : BitVec 32 := 1#32
  let arg15 : BitVec 32 := Scf.iv c0_i32_1064 c1_i32_1066 k0_t16
  let c256_i32_1256 : BitVec 32 := 256#32
  let v2253 : BitVec 32 := Scalar.muli arg15 c256_i32_1256
  let v2254 : BitVec 32 := v2253
  let v2259 : Index := Scalar.indexCast v2254
  let c3840_1259 : Index := 3840#32
  ![v2259.toNat, 3840]
@[reducible] def k0_t17_loop : Scf.Loop 32 :=
  let c0_i32_1079 : BitVec 32 := 0#32
  let c8_i32_1080 : BitVec 32 := 8#32
  let v1885 : BitVec 32 := Scalar.addi c0_i32_1079 c8_i32_1080
  let c1_i32_1081 : BitVec 32 := 1#32
  ⟨c0_i32_1079, v1885, c1_i32_1081⟩
def k0_mult17 (k0_t17 : Fin k0_t17_loop.trips) : BitVec 32 :=
  let c0_i32_1079 : BitVec 32 := 0#32
  let c1_i32_1081 : BitVec 32 := 1#32
  let arg15 : BitVec 32 := Scf.iv c0_i32_1079 c1_i32_1081 k0_t17
  let c256_i32_1256 : BitVec 32 := 256#32
  let v2253 : BitVec 32 := Scalar.muli arg15 c256_i32_1256
  v2253
def k0_off33 (k0_t17 : Fin k0_t17_loop.trips) : Fin 3 → Nat :=
  let c1_1257 : Index := 1#32
  let c0_i32_1079 : BitVec 32 := 0#32
  let c1_i32_1081 : BitVec 32 := 1#32
  let arg15 : BitVec 32 := Scf.iv c0_i32_1079 c1_i32_1081 k0_t17
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off34 (k0_t17 : Fin k0_t17_loop.trips) : Fin 2 → Nat :=
  let c0_i32_1079 : BitVec 32 := 0#32
  let c1_i32_1081 : BitVec 32 := 1#32
  let arg15 : BitVec 32 := Scf.iv c0_i32_1079 c1_i32_1081 k0_t17
  let c256_i32_1256 : BitVec 32 := 256#32
  let v2253 : BitVec 32 := Scalar.muli arg15 c256_i32_1256
  let v2254 : BitVec 32 := v2253
  let v2259 : Index := Scalar.indexCast v2254
  let c4096_1259 : Index := 4096#32
  ![v2259.toNat, 4096]
@[reducible] def k0_t18_loop : Scf.Loop 32 :=
  let c0_i32_1094 : BitVec 32 := 0#32
  let c8_i32_1095 : BitVec 32 := 8#32
  let v1896 : BitVec 32 := Scalar.addi c0_i32_1094 c8_i32_1095
  let c1_i32_1096 : BitVec 32 := 1#32
  ⟨c0_i32_1094, v1896, c1_i32_1096⟩
def k0_mult18 (k0_t18 : Fin k0_t18_loop.trips) : BitVec 32 :=
  let c0_i32_1094 : BitVec 32 := 0#32
  let c1_i32_1096 : BitVec 32 := 1#32
  let arg15 : BitVec 32 := Scf.iv c0_i32_1094 c1_i32_1096 k0_t18
  let c256_i32_1256 : BitVec 32 := 256#32
  let v2253 : BitVec 32 := Scalar.muli arg15 c256_i32_1256
  v2253
def k0_off35 (k0_t18 : Fin k0_t18_loop.trips) : Fin 3 → Nat :=
  let c2_1257 : Index := 2#32
  let c0_i32_1094 : BitVec 32 := 0#32
  let c1_i32_1096 : BitVec 32 := 1#32
  let arg15 : BitVec 32 := Scf.iv c0_i32_1094 c1_i32_1096 k0_t18
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off36 (k0_t18 : Fin k0_t18_loop.trips) : Fin 2 → Nat :=
  let c0_i32_1094 : BitVec 32 := 0#32
  let c1_i32_1096 : BitVec 32 := 1#32
  let arg15 : BitVec 32 := Scf.iv c0_i32_1094 c1_i32_1096 k0_t18
  let c256_i32_1256 : BitVec 32 := 256#32
  let v2253 : BitVec 32 := Scalar.muli arg15 c256_i32_1256
  let v2254 : BitVec 32 := v2253
  let v2259 : Index := Scalar.indexCast v2254
  let c4352_1259 : Index := 4352#32
  ![v2259.toNat, 4352]
@[reducible] def k0_t19_loop : Scf.Loop 32 :=
  let c0_i32_1109 : BitVec 32 := 0#32
  let c8_i32_1110 : BitVec 32 := 8#32
  let v1907 : BitVec 32 := Scalar.addi c0_i32_1109 c8_i32_1110
  let c1_i32_1111 : BitVec 32 := 1#32
  ⟨c0_i32_1109, v1907, c1_i32_1111⟩
def k0_mult19 (k0_t19 : Fin k0_t19_loop.trips) : BitVec 32 :=
  let c0_i32_1109 : BitVec 32 := 0#32
  let c1_i32_1111 : BitVec 32 := 1#32
  let arg15 : BitVec 32 := Scf.iv c0_i32_1109 c1_i32_1111 k0_t19
  let c256_i32_1256 : BitVec 32 := 256#32
  let v2253 : BitVec 32 := Scalar.muli arg15 c256_i32_1256
  v2253
def k0_off37 (k0_t19 : Fin k0_t19_loop.trips) : Fin 3 → Nat :=
  let c0_1257 : Index := 0#32
  let c0_i32_1109 : BitVec 32 := 0#32
  let c1_i32_1111 : BitVec 32 := 1#32
  let arg15 : BitVec 32 := Scf.iv c0_i32_1109 c1_i32_1111 k0_t19
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off38 (k0_t19 : Fin k0_t19_loop.trips) : Fin 2 → Nat :=
  let c0_i32_1109 : BitVec 32 := 0#32
  let c1_i32_1111 : BitVec 32 := 1#32
  let arg15 : BitVec 32 := Scf.iv c0_i32_1109 c1_i32_1111 k0_t19
  let c256_i32_1256 : BitVec 32 := 256#32
  let v2253 : BitVec 32 := Scalar.muli arg15 c256_i32_1256
  let v2254 : BitVec 32 := v2253
  let v2259 : Index := Scalar.indexCast v2254
  let c4608_1259 : Index := 4608#32
  ![v2259.toNat, 4608]
@[reducible] def k0_t20_loop : Scf.Loop 32 :=
  let c0_i32_1124 : BitVec 32 := 0#32
  let c8_i32_1125 : BitVec 32 := 8#32
  let v1918 : BitVec 32 := Scalar.addi c0_i32_1124 c8_i32_1125
  let c1_i32_1126 : BitVec 32 := 1#32
  ⟨c0_i32_1124, v1918, c1_i32_1126⟩
def k0_mult20 (k0_t20 : Fin k0_t20_loop.trips) : BitVec 32 :=
  let c0_i32_1124 : BitVec 32 := 0#32
  let c1_i32_1126 : BitVec 32 := 1#32
  let arg15 : BitVec 32 := Scf.iv c0_i32_1124 c1_i32_1126 k0_t20
  let c256_i32_1256 : BitVec 32 := 256#32
  let v2253 : BitVec 32 := Scalar.muli arg15 c256_i32_1256
  v2253
def k0_off39 (k0_t20 : Fin k0_t20_loop.trips) : Fin 3 → Nat :=
  let c1_1257 : Index := 1#32
  let c0_i32_1124 : BitVec 32 := 0#32
  let c1_i32_1126 : BitVec 32 := 1#32
  let arg15 : BitVec 32 := Scf.iv c0_i32_1124 c1_i32_1126 k0_t20
  let c256_i32_1256 : BitVec 32 := 256#32
  let v2253 : BitVec 32 := Scalar.muli arg15 c256_i32_1256
  let v2254 : BitVec 32 := v2253
  let v2255 : Index := Scalar.indexCast v2254
  let c0_1258 : Index := 0#32
  ![1, v2255.toNat, 0]
def k0_off40 (k0_t20 : Fin k0_t20_loop.trips) : Fin 2 → Nat :=
  let c0_i32_1124 : BitVec 32 := 0#32
  let c1_i32_1126 : BitVec 32 := 1#32
  let arg15 : BitVec 32 := Scf.iv c0_i32_1124 c1_i32_1126 k0_t20
  let c256_i32_1256 : BitVec 32 := 256#32
  let v2253 : BitVec 32 := Scalar.muli arg15 c256_i32_1256
  let v2254 : BitVec 32 := v2253
  let v2259 : Index := Scalar.indexCast v2254
  let c4864 : Index := 4864#32
  ![v2259.toNat, 4864]
@[reducible] def k0_t21_loop : Scf.Loop 32 :=
  let c0_i32_1134 : BitVec 32 := 0#32
  let c8_i32_1135 : BitVec 32 := 8#32
  let v1924 : BitVec 32 := Scalar.addi c0_i32_1134 c8_i32_1135
  let c1_i32_1136 : BitVec 32 := 1#32
  ⟨c0_i32_1134, v1924, c1_i32_1136⟩
def k0_mult21 (k0_t21 : Fin k0_t21_loop.trips) : BitVec 32 :=
  let c0_i32_1134 : BitVec 32 := 0#32
  let c1_i32_1136 : BitVec 32 := 1#32
  let arg15 : BitVec 32 := Scf.iv c0_i32_1134 c1_i32_1136 k0_t21
  let c256_i32_1256 : BitVec 32 := 256#32
  let v2253 : BitVec 32 := Scalar.muli arg15 c256_i32_1256
  v2253
def k0_off41 (k0_t21 : Fin k0_t21_loop.trips) : Fin 3 → Nat :=
  let c2_1257 : Index := 2#32
  let c0_i32_1134 : BitVec 32 := 0#32
  let c1_i32_1136 : BitVec 32 := 1#32
  let arg15 : BitVec 32 := Scf.iv c0_i32_1134 c1_i32_1136 k0_t21
  let c256_i32_1256 : BitVec 32 := 256#32
  let v2253 : BitVec 32 := Scalar.muli arg15 c256_i32_1256
  let v2254 : BitVec 32 := v2253
  let v2255 : Index := Scalar.indexCast v2254
  let c0_1258 : Index := 0#32
  ![2, v2255.toNat, 0]
def k0_off42 (k0_t21 : Fin k0_t21_loop.trips) : Fin 2 → Nat :=
  let c0_i32_1134 : BitVec 32 := 0#32
  let c1_i32_1136 : BitVec 32 := 1#32
  let arg15 : BitVec 32 := Scf.iv c0_i32_1134 c1_i32_1136 k0_t21
  let c256_i32_1256 : BitVec 32 := 256#32
  let v2253 : BitVec 32 := Scalar.muli arg15 c256_i32_1256
  let v2254 : BitVec 32 := v2253
  let v2259 : Index := Scalar.indexCast v2254
  let c5120_1259 : Index := 5120#32
  ![v2259.toNat, 5120]
@[reducible] def k0_t22_loop : Scf.Loop 32 :=
  let c0_i32_1144 : BitVec 32 := 0#32
  let c8_i32_1145 : BitVec 32 := 8#32
  let v1930 : BitVec 32 := Scalar.addi c0_i32_1144 c8_i32_1145
  let c1_i32_1146 : BitVec 32 := 1#32
  ⟨c0_i32_1144, v1930, c1_i32_1146⟩
def k0_mult22 (k0_t22 : Fin k0_t22_loop.trips) : BitVec 32 :=
  let c0_i32_1144 : BitVec 32 := 0#32
  let c1_i32_1146 : BitVec 32 := 1#32
  let arg15 : BitVec 32 := Scf.iv c0_i32_1144 c1_i32_1146 k0_t22
  let c256_i32_1256 : BitVec 32 := 256#32
  let v2253 : BitVec 32 := Scalar.muli arg15 c256_i32_1256
  v2253
def k0_off43 (k0_t22 : Fin k0_t22_loop.trips) : Fin 3 → Nat :=
  let c0_1257 : Index := 0#32
  let c0_i32_1144 : BitVec 32 := 0#32
  let c1_i32_1146 : BitVec 32 := 1#32
  let arg15 : BitVec 32 := Scf.iv c0_i32_1144 c1_i32_1146 k0_t22
  let c256_i32_1256 : BitVec 32 := 256#32
  let v2253 : BitVec 32 := Scalar.muli arg15 c256_i32_1256
  let v2254 : BitVec 32 := v2253
  let v2255 : Index := Scalar.indexCast v2254
  let c0_1258 : Index := 0#32
  ![0, v2255.toNat, 0]
def k0_off44 (k0_t22 : Fin k0_t22_loop.trips) : Fin 2 → Nat :=
  let c0_i32_1144 : BitVec 32 := 0#32
  let c1_i32_1146 : BitVec 32 := 1#32
  let arg15 : BitVec 32 := Scf.iv c0_i32_1144 c1_i32_1146 k0_t22
  let c256_i32_1256 : BitVec 32 := 256#32
  let v2253 : BitVec 32 := Scalar.muli arg15 c256_i32_1256
  let v2254 : BitVec 32 := v2253
  let v2259 : Index := Scalar.indexCast v2254
  let c5376 : Index := 5376#32
  ![v2259.toNat, 5376]
def k0_off45 (i : grid0.Coords) (c0_i32_25 : BitVec 32) : Fin 3 → Nat :=
  let c31_i32 : BitVec 32 := 31#32
  let arg0 : BitVec 32 := BitVec.ofNat 32 (i 0).val
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v11 : BitVec 32 := Scalar.subi c31_i32 v10
  let c4_i32 : BitVec 32 := 4#32
  let v12 : BitVec 32 := Scalar.muli v11 c4_i32
  let v49 : BitVec 32 := Scalar.addi v12 c0_i32_25
  let v50 : Index := Scalar.indexCast v49
  let c0_26 : Index := 0#32
  let c0_27 : Index := 0#32
  ![v50.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.muli v16 c32_i32_4
  let c32_i32_5 : BitVec 32 := 32#32
  let c0_i32_6 : BitVec 32 := 0#32
  let v18 : BitVec 1 := Scalar.cmpi .eq c32_i32_5 c0_i32_6
  let c1_i32_7 : BitVec 32 := 1#32
  let v19 : BitVec 32 := Scalar.select v18 c1_i32_7 c32_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c31_i32 : BitVec 32 := 31#32
  let v28 : BitVec 32 := Scalar.subi c31_i32 v27
  let v29 : BitVec 32 := Scalar.addi v17 v28
  let c0_i32_11 : BitVec 32 := 0#32
  let c0_i32_12 : BitVec 32 := 0#32
  ![v29.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.muli v16 c32_i32_4
  let c32_i32_5 : BitVec 32 := 32#32
  let c0_i32_6 : BitVec 32 := 0#32
  let v18 : BitVec 1 := Scalar.cmpi .eq c32_i32_5 c0_i32_6
  let c1_i32_7 : BitVec 32 := 1#32
  let v19 : BitVec 32 := Scalar.select v18 c1_i32_7 c32_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c31_i32 : BitVec 32 := 31#32
  let v28 : BitVec 32 := Scalar.subi c31_i32 v27
  let v29 : BitVec 32 := Scalar.addi v17 v28
  let c0_i32_11 : BitVec 32 := 0#32
  let c0_i32_12 : BitVec 32 := 0#32
  ![v29.toNat, c0_i32_11.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.muli v16 c32_i32_4
  let c32_i32_5 : BitVec 32 := 32#32
  let c0_i32_6 : BitVec 32 := 0#32
  let v18 : BitVec 1 := Scalar.cmpi .eq c32_i32_5 c0_i32_6
  let c1_i32_7 : BitVec 32 := 1#32
  let v19 : BitVec 32 := Scalar.select v18 c1_i32_7 c32_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c31_i32 : BitVec 32 := 31#32
  let v28 : BitVec 32 := Scalar.subi c31_i32 v27
  let v29 : BitVec 32 := Scalar.addi v17 v28
  let c0_i32_11 : BitVec 32 := 0#32
  let c0_i32_12 : BitVec 32 := 0#32
  let c0_i32_13 : BitVec 32 := 0#32
  let c0_i32_14 : BitVec 32 := 0#32
  ![v29.toNat, c0_i32_11.toNat, c0_i32_12.toNat, c0_i32_13.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x2048 : Shape := ⟨2, ![32768, 2048]⟩
abbrev S1x2048 : Shape := ⟨2, ![1, 2048]⟩
abbrev S2048x5632 : Shape := ⟨2, ![2048, 5632]⟩
abbrev S3x256x128 : Shape := ⟨3, ![3, 256, 128]⟩
abbrev S128x3x128 : Shape := ⟨3, ![128, 3, 128]⟩
abbrev S8 : Shape := ⟨1, ![8]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x1024 : Shape := ⟨2, ![32768, 1024]⟩
abbrev S32768x512 : Shape := ⟨2, ![32768, 512]⟩
abbrev S64x3x128 : Shape := ⟨3, ![64, 3, 128]⟩
abbrev S3x64x128 : Shape := ⟨3, ![3, 64, 128]⟩
abbrev S3x64x1x128 : Shape := ⟨4, ![3, 64, 1, 128]⟩
abbrev S3x1x256x128 : Shape := ⟨4, ![3, 1, 256, 128]⟩
abbrev S1x1x256x128 : Shape := ⟨4, ![1, 1, 256, 128]⟩
abbrev S1x256x128 : Shape := ⟨3, ![1, 256, 128]⟩
abbrev S1x64x1x128 : Shape := ⟨4, ![1, 64, 1, 128]⟩
abbrev S64x1x128 : Shape := ⟨3, ![64, 1, 128]⟩
abbrev S64x256x128 : Shape := ⟨3, ![64, 256, 128]⟩
abbrev S16384x128 : Shape := ⟨2, ![16384, 128]⟩
abbrev S1x16384x1x128 : Shape := ⟨4, ![1, 16384, 1, 128]⟩
abbrev S2x16384x4x128 : Shape := ⟨4, ![2, 16384, 4, 128]⟩
abbrev S32768x256x2 : Shape := ⟨3, ![32768, 256, 2]⟩

abbrev nBuf : Space → Nat
  | .hbm => 109
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5632, .f32⟩
  | .hbm, ⟨3, _⟩ => ⟨S3x256x128, .f32⟩
  | .hbm, ⟨4, _⟩ => ⟨S128x3x128, .f32⟩
  | .hbm, ⟨5, _⟩ => ⟨S8, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x5632, .f32⟩
  | .hbm, ⟨22, _⟩ => ⟨S32768x1024, .f32⟩
  | .hbm, ⟨23, _⟩ => ⟨S32768x512, .f32⟩
  | .hbm, ⟨24, _⟩ => ⟨S32768x1024, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S64x3x128, .f32⟩
  | .hbm, ⟨30, _⟩ => ⟨S3x64x128, .f32⟩
  | .hbm, ⟨31, _⟩ => ⟨S3x64x1x128, .f32⟩
  | .hbm, ⟨32, _⟩ => ⟨S3x1x256x128, .f32⟩
  | .hbm, ⟨33, _⟩ => ⟨S1x1x256x128, .f32⟩
  | .hbm, ⟨34, _⟩ => ⟨S1x256x128, .f32⟩
  | .hbm, ⟨35, _⟩ => ⟨S1x64x1x128, .f32⟩
  | .hbm, ⟨36, _⟩ => ⟨S64x1x128, .f32⟩
  | .hbm, ⟨37, _⟩ => ⟨S64x256x128, .f32⟩
  | .hbm, ⟨38, _⟩ => ⟨S64x256x128, .f32⟩
  | .hbm, ⟨39, _⟩ => ⟨S64x256x128, .f32⟩
  | .hbm, ⟨40, _⟩ => ⟨S1x1x256x128, .f32⟩
  | .hbm, ⟨41, _⟩ => ⟨S1x256x128, .f32⟩
  | .hbm, ⟨42, _⟩ => ⟨S1x64x1x128, .f32⟩
  | .hbm, ⟨43, _⟩ => ⟨S64x1x128, .f32⟩
  | .hbm, ⟨44, _⟩ => ⟨S64x256x128, .f32⟩
  | .hbm, ⟨45, _⟩ => ⟨S64x256x128, .f32⟩
  | .hbm, ⟨46, _⟩ => ⟨S64x256x128, .f32⟩
  | .hbm, ⟨47, _⟩ => ⟨S64x256x128, .f32⟩
  | .hbm, ⟨48, _⟩ => ⟨S16384x128, .f32⟩
  | .hbm, ⟨49, _⟩ => ⟨S1x1x256x128, .f32⟩
  | .hbm, ⟨50, _⟩ => ⟨S1x256x128, .f32⟩
  | .hbm, ⟨51, _⟩ => ⟨S1x64x1x128, .f32⟩
  | .hbm, ⟨52, _⟩ => ⟨S64x1x128, .f32⟩
  | .hbm, ⟨53, _⟩ => ⟨S64x256x128, .f32⟩
  | .hbm, ⟨54, _⟩ => ⟨S64x256x128, .f32⟩
  | .hbm, ⟨55, _⟩ => ⟨S64x256x128, .f32⟩
  | .hbm, ⟨56, _⟩ => ⟨S1x1x256x128, .f32⟩
  | .hbm, ⟨57, _⟩ => ⟨S1x256x128, .f32⟩
  | .hbm, ⟨58, _⟩ => ⟨S1x64x1x128, .f32⟩
  | .hbm, ⟨59, _⟩ => ⟨S64x1x128, .f32⟩
  | .hbm, ⟨60, _⟩ => ⟨S64x256x128, .f32⟩
  | .hbm, ⟨61, _⟩ => ⟨S64x256x128, .f32⟩
  | .hbm, ⟨62, _⟩ => ⟨S64x256x128, .f32⟩
  | .hbm, ⟨63, _⟩ => ⟨S64x256x128, .f32⟩
  | .hbm, ⟨64, _⟩ => ⟨S16384x128, .f32⟩
  | .hbm, ⟨65, _⟩ => ⟨S1x16384x1x128, .f32⟩
  | .hbm, ⟨66, _⟩ => ⟨S2x16384x4x128, .f32⟩
  | .hbm, ⟨67, _⟩ => ⟨S32768x512, .f32⟩
  | .hbm, ⟨68, _⟩ => ⟨S1x16384x1x128, .f32⟩
  | .hbm, ⟨69, _⟩ => ⟨S2x16384x4x128, .f32⟩
  | .hbm, ⟨70, _⟩ => ⟨S32768x512, .f32⟩
  | .hbm, ⟨71, _⟩ => ⟨S_, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x256x2, .f32⟩
  | .hbm, ⟨84, _⟩ => ⟨S32768x256x2, .f32⟩
  | .hbm, ⟨85, _⟩ => ⟨S32768x512, .f32⟩
  | .hbm, ⟨86, _⟩ => ⟨S32768x512, .f32⟩
  | .hbm, ⟨87, _⟩ => ⟨S32768x512, .f32⟩
  | .hbm, ⟨88, _⟩ => ⟨S32768x512, .f32⟩
  | .hbm, ⟨89, _⟩ => ⟨S32768x256x2, .f32⟩
  | .hbm, ⟨90, _⟩ => ⟨S32768x256x2, .f32⟩
  | .hbm, ⟨91, _⟩ => ⟨S32768x512, .f32⟩
  | .hbm, ⟨92, _⟩ => ⟨S32768x512, .f32⟩
  | .hbm, ⟨93, _⟩ => ⟨S32768x512, .f32⟩
  | .hbm, ⟨94, _⟩ => ⟨S32768x512, .f32⟩
  | .hbm, ⟨95, _⟩ => ⟨S_, .f32⟩
  | .hbm, ⟨96, _⟩ => ⟨S32768x512, .f32⟩
  | .hbm, ⟨97, _⟩ => ⟨S32768x512, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1024, .f32⟩
  | .hbm, ⟨102, _⟩ => ⟨S32768x1024, .f32⟩
  | .hbm, ⟨103, _⟩ => ⟨S_, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S32768x5632, .f32⟩
  | .hbm, ⟨108, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_2 : Ref sig .tc := ⟨.hbm, 71, rfl⟩
abbrev main_v62 : Ref sig .tc := ⟨.hbm, 72, rfl⟩
abbrev main_v63 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_3 : Ref sig .tc := ⟨.hbm, 95, rfl⟩
abbrev main_v77 : Ref sig .tc := ⟨.hbm, 96, rfl⟩
abbrev main_v78 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Proof.Stage.lean ====
module

public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdxCore

/-!
  One trip of a weight-staging loop: a block of rows is loaded from a staging slot, converted, and stored
  into the resident weight buffer.  Stated once for any two buffers and any conversion, with the two facts
  about the contents that the loops need: where the slot's elements lie in the staging buffer, and how a
  store of one block changes the resident buffer.
-/

@[expose] public section

noncomputable section

namespace Cert.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

section Trip

variable {nD : ℕ} {τ : Topo} {sig : RefSig} {F : FTy → Type} [FloatOps F]
local notation "𝕄" => MT nD τ sig Unit (Elt F) ℕ (Pipeline.UD sig nD τ) ℕ

variable {Λ : Labels} (defs : Defs nD τ sig (Elt F) Λ) (c : Dev nD)

/-- Load the block `r1` of the staging buffer, load (and drop) the block `r2` of the resident buffer, store the
    converted block there: the resident buffer changes by that store, the staging buffer not at all. -/
theorem trip {s1 s2 : Shape} {e1 e2 : EltTy} (m1 : Memref sig .tc .vmem s1 e1) (m2 : Memref sig .tc .vmem s2 e2)
    (r1 : Rect s1) (r2 : Rect s2) (h1 : m1.view.LoadsAt r1.toLoadRect) (h2 : m2.view.LoadsAt r2.toLoadRect)
    (pay : (r1.shape.Idx → Elt F e1) → r2.shape.Idx → Elt F e2)
    (hx : (m2.access r2).Stores Finset.univ) (hm : (Finset.univ : Finset r2.shape.Idx) = Finset.univ ∨ ∀ a, r2.stride a = 1)
    (S1 : Finset (Idx ((m1.access r1).loc (c : Thread nD τ)))) (hS1 : (m1.access r1).set ⊆ S1)
    (f1 : Buf (Elt F) ((m1.access r1).loc (c : Thread nD τ)))
    (f2 : Buf (Elt F) ((m2.access r2).loc (c : Thread nD τ))) (Q : Unit → sProp 𝕄) :
    iprop(((m1.access r1).loc (c : Thread nD τ) ↦[S1]{fullShare} f1) ∗ ((m2.access r2).loc (c : Thread nD τ) ↦{fullShare} f2)
      ∗ ((((m1.access r1).loc (c : Thread nD τ) ↦[S1]{fullShare} f1)
          ∗ ((m2.access r2).loc (c : Thread nD τ) ↦{fullShare} (m2.access r2).write (Elt F) f2 (pay ((m1.access r1).read (Elt F) f1)) Finset.univ)) -∗ Q ()))
      ⊢ wp frame (wpE defs Variants.none c none) Set.univ
        (Prog.lift (.load m1 r1.toLoadRect h1) >>= fun v => Prog.lift (.load m2 r2.toLoadRect h2) >>= fun _ =>
          Prog.lift (.store m2 r2 (pay v) Finset.univ hx hm) >>= fun _ => pure ()) Q := by
  iintro ⟨H1, H2, HQ⟩
  iapply (wp_load_rect (defs := defs) Variants.none (c : Thread nD τ) none Set.univ (m := m1) (r := r1) hS1) $$ H1
  iintro H1
  iapply (wp_load_rect (defs := defs) Variants.none (c : Thread nD τ) none Set.univ (m := m2) (r := r2) (Finset.subset_univ _)) $$ H2
  iintro H2
  iapply (wp_store (defs := defs) Variants.none (c : Thread nD τ) none Set.univ (m := m2) (r := r2) (Finset.subset_univ _)) $$ H2
  iintro H2
  iapply (le_wp_ret _ _ _ () _)
  iapply HQ
  isplitl [H1]
  · iexact H1
  · iexact H2

end Trip

end Cert.Stage
-- ==== Proof.Load2.lean ====
module

public import proofs.«01_k».proof.Proof.Gen.Kernel2.Launch
public import proofs.«01_k».proof.Proof.Gen.Kernel2.Skeleton
public import proofs.«01_k».proof.Proof.Gen.Kernel2.Points
public import proofs.«01_k».proof.Proof.Stage
public import Idealize.ShloMosaic.Lib.WordCmp

/-!
  The input projection's weight load: what the resident weight buffer holds block by block while the 22
  column blocks go through the three-slot staging ring.
-/

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ (Pipeline.UD sig nD τ) ℕ

/-- The weights in HBM, the resident weights, the staging buffer. -/
abbrev hbW : Memref sig .tc .hbm S2048x5632 .f32 := Memref.whole main_arg2
abbrev scW : Memref sig .tc .vmem S2048x5632 .bf16 := Memref.whole cc0_scratch0
abbrev scS : Memref sig .tc .vmem S3x2048x256 .f32 := Memref.whole cc0_scratch1

/-- One slot of the staging buffer as a matrix. -/
abbrev slotM (r : Fin 3 → ℕ) (h : ∀ a, r a + S1x2048x256.size a ≤ S3x2048x256.size a) : Memref sig .tc .vmem S2048x256 .f32 :=
  (scS.slice (Rect.unit (s := S3x2048x256) r S1x2048x256.size h) (fun _ => rfl)).squeeze S2048x256 squeezes_S1x2048x256_S2048x256
abbrev slot0 := slotM ![0,0,0] inb_S3x2048x256_S1x2048x256_0_0_0
abbrev slot1 := slotM ![1,0,0] inb_S3x2048x256_S1x2048x256_1_0_0
abbrev slot2 := slotM ![2,0,0] inb_S3x2048x256_S1x2048x256_2_0_0

/-- The conversion of one weight of column `j`: the query columns of the attention branch and the key columns of
    the retention branch carry their scale. -/
def pcol (j : ℕ) (a : F .f32) : F .bf16 :=
  if j < 1024 then FloatOps.truncf .bf16 bitsLt_bf16_f32 (FloatOps.mulf a (Scalar.ofBits .f32 0x3E38AA3B#32))
  else if 3072 ≤ j ∧ j < 3584 then FloatOps.truncf .bf16 bitsLt_bf16_f32 (FloatOps.mulf a (Scalar.ofBits .f32 0x3E000000#32))
  else FloatOps.truncf .bf16 bitsLt_bf16_f32 a

/-- The resident weights in full. -/
def WV (fw : S2048x5632.Idx → F .f32) : S2048x5632.Idx → F .bf16 := fun x => pcol (x 1).val (fw x)

/-- The resident buffer holds the blocks before `b`, and of block `b` the first `k` groups of 256 rows. -/
def Good (fw : S2048x5632.Idx → F .f32) (b k : ℕ) (f : S2048x5632.Idx → F .bf16) : Prop :=
  ∀ x : S2048x5632.Idx, ((x 1).val < 256 * b ∨ ((x 1).val < 256 * b + 256 ∧ (x 0).val < 256 * k)) → f x = WV fw x

theorem Good.zero (fw f) : Good (F := F) fw 0 0 f := by
  intro x hx; omega

theorem Good.next {fw f} {b : ℕ} (h : Good (F := F) fw b 8 f) : Good (F := F) fw (b + 1) 0 f := by
  intro x hx
  have h0 : (x 0).val < 2048 := (x 0).isLt
  exact h x (by omega)

theorem Good.next' {fw f} {b k : ℕ} (h : Good (F := F) fw b k f) (hk : k = 8) : Good (F := F) fw (b + 1) 0 f := by
  subst hk; exact h.next

theorem Good.full {fw f} (h : Good (F := F) fw 22 0 f) : f = WV (F := F) fw := by
  funext x
  have h1 : (x 1).val < 5632 := (x 1).isLt
  exact h x (by omega)

/-- Slot `s` holds block `b` of the weights. -/
def SlotIs (fw : S2048x5632.Idx → F .f32) (s b : ℕ) (fs : S3x2048x256.Idx → F .f32) : Prop :=
  ∀ (z : S3x2048x256.Idx) (x : S2048x5632.Idx), (z 0).val = s → (x 0).val = (z 1).val → (x 1).val = 256 * b + (z 2).val → fs z = fw x

theorem slotIs_writes (fw : S2048x5632.Idx → F .f32) (r : Fin 3 → ℕ) (h) (s b : ℕ) (hr : r = ![s, 0, 0]) (o : Fin 2 → ℕ) (ho) (hob : o = ![0, 256 * b])
    (f : S3x2048x256.Idx → F .f32) :
    SlotIs fw s b ((slotM r h).view.writes (Elt F) f [⟨Rect.whole S2048x256,
      View.read (Elt F) (hbW.slice (Rect.unit (s := S2048x5632) o S2048x256.size ho) (fun _ => rfl)).view fw⟩]) := by
  intro z x h0 h1 h2
  subst hr hob
  rw [← View.write_univ_eq_writes_whole, View.writes_nil]
  have hz1 : (z 1).val < 2048 := (z 1).isLt
  have hz2 : (z 2).val < 256 := (z 2).isLt
  have hz : z = (slotM ![s,0,0] h).view.emb (ix2 ⟨(z 1).val, hz1⟩ ⟨(z 2).val, hz2⟩) := by
    have e : (Shape.reshapeEquiv squeezes_S1x2048x256_S2048x256.numel_eq (ix2 ⟨(z 1).val, hz1⟩ ⟨(z 2).val, hz2⟩) : S1x2048x256.Idx)
        = Fin.cons ⟨0, Nat.one_pos⟩ (ix2 ⟨(z 1).val, hz1⟩ ⟨(z 2).val, hz2⟩) :=
      shapeCast_dropUnit_apply (![2048, 256]) (fun y => y) _ _
    show z = (Rect.unit (s := S3x2048x256) ![s,0,0] S1x2048x256.size h).emb (Shape.reshapeEquiv _ _)
    rw [e]
    funext a
    apply Fin.ext
    match a with
    | ⟨0, _⟩ => show (z 0).val = s + 1 * 0; omega
    | ⟨1, _⟩ => show (z 1).val = 0 + 1 * (z 1).val; omega
    | ⟨2, _⟩ => show (z 2).val = 0 + 1 * (z 2).val; omega
  rw [hz, View.write_emb_of_mem _ _ (Finset.mem_univ _)]
  show fw _ = fw x
  congr 1
  funext a
  apply Fin.ext
  match a with
  | ⟨0, _⟩ => show 0 + 1 * (z 1).val = (x 0).val; omega
  | ⟨1, _⟩ => show 256 * b + 1 * (z 2).val = (x 1).val; omega

/-- One trip's store extends the part of block `b` the resident buffer holds. -/
theorem Good.step {fw fs} {s b k : ℕ} (hfs : SlotIs (F := F) fw s b fs) {f} (hf : Good fw b k f)
    (o1 : Fin 3 → ℕ) (i1) (ho1 : o1 = ![s, 256 * k, 0]) (o2 : Fin 2 → ℕ) (i2) (ho2 : o2 = ![256 * k, 256 * b])
    (pay : Vec F S1x256x256 .f32 → FVec F S256x256 .bf16)
    (hpay : ∀ (v : Vec F S1x256x256 .f32) (y : S256x256.Idx), pay v y = pcol (256 * b) (v (Fin.cons ⟨0, Nat.one_pos⟩ y))) :
    Good fw b (k + 1) ((scW.access (Rect.unit (s := S2048x5632) o2 S256x256.size i2)).write (Elt F) f
      (pay ((scS.access (Rect.unit (s := S3x2048x256) o1 S1x256x256.size i1)).read (Elt F) fs)) Finset.univ) := by
  subst ho1 ho2
  intro x hx
  by_cases hin : 256 * k ≤ (x 0).val ∧ (x 0).val < 256 * k + 256 ∧ 256 * b ≤ (x 1).val ∧ (x 1).val < 256 * b + 256
  · have e : x = (scW.access (Rect.unit (s := S2048x5632) ![256 * k, 256 * b] S256x256.size i2)).emb
        (ix2 ⟨(x 0).val - 256 * k, by omega⟩ ⟨(x 1).val - 256 * b, by omega⟩) := by
      funext a
      apply Fin.ext
      match a with
      | ⟨0, _⟩ => show (x 0).val = 256 * k + 1 * ((x 0).val - 256 * k); omega
      | ⟨1, _⟩ => show (x 1).val = 256 * b + 1 * ((x 1).val - 256 * b); omega
    conv_lhs => rw [e]
    rw [View.write_emb_of_mem _ _ (Finset.mem_univ _)]
    show pay _ _ = _
    rw [hpay]
    have hp : ∀ a : F .f32, pcol (256 * b) a = pcol (F := F) (x 1).val a := by
      intro a; unfold pcol
      have e1 : (256 * b < 1024) = ((x 1).val < 1024) := by apply propext; omega
      have e2 : (3072 ≤ 256 * b ∧ 256 * b < 3584) = (3072 ≤ (x 1).val ∧ (x 1).val < 3584) := by apply propext; omega
      simp only [e1, e2]
    rw [hp]
    show pcol _ (fs _) = pcol _ (fw x)
    congr 1
    apply hfs
    · show s + 1 * 0 = s; omega
    · show (x 0).val = 256 * k + 1 * ((x 0).val - 256 * k); omega
    · show (x 1).val = 256 * b + (0 + 1 * ((x 1).val - 256 * b)); omega
  · rw [View.write_of_not_mem]
    · exact hf x (by omega)
    · rw [View.setOn_univ, View.set_slice_whole, Rect.mem_set_unit]
      intro hm
      have m0 : 256 * k ≤ (x 0).val ∧ (x 0).val < 256 * k + 256 := hm 0
      have m1 : 256 * b ≤ (x 1).val ∧ (x 1).val < 256 * b + 256 := hm 1
      omega

/-- A trip's rectangle lies in its slot. -/
theorem trip_sub (r : Fin 3 → ℕ) (h) (s k : ℕ) (hr : r = ![s, 0, 0]) (hk : k < 8) (o1 : Fin 3 → ℕ) (i1) (ho1 : o1 = ![s, 256 * k, 0]) :
    (scS.access (Rect.unit (s := S3x2048x256) o1 S1x256x256.size i1)).set ⊆ (slotM r h).view.set := by
  subst hr ho1
  rw [show (slotM ![s,0,0] h).view.set = (scS.view.slice (Rect.unit (s := S3x2048x256) ![s,0,0] S1x2048x256.size h)).set from View.set_reshape _ _]
  rw [View.set_slice_whole, View.set_slice_whole]
  intro x hx
  rw [Rect.mem_set_unit] at hx ⊢
  intro a
  have := hx a
  match a with
  | ⟨0, _⟩ => exact this
  | ⟨1, _⟩ =>
    have t : 256 * k ≤ (x 1).val ∧ (x 1).val < 256 * k + 256 := this
    show 0 ≤ (x 1).val ∧ (x 1).val < 0 + 2048
    omega
  | ⟨2, _⟩ => exact this

abbrev slPt (c : Dev nD) (M : Memref sig .tc .vmem S2048x256 .f32) (f : Buf (Elt F) (M.view.loc (c : Thread nD τ))) : sProp 𝕄 :=
  M.view.loc (c : Thread nD τ) ↦[M.view.set]{fullShare} f

/-- The loop of block `b` before trip `k`: the slot holds the block, the resident buffer is good so far. -/
def LI (c : Dev nD) (fw : S2048x5632.Idx → F .f32) (s b : ℕ) (r : Fin 3 → ℕ) (h : ∀ a, r a + S1x2048x256.size a ≤ S3x2048x256.size a) (k : ℕ) (_ : Unit) : sProp 𝕄 :=
  iprop(∃ fs : Buf (Elt F) ((slotM r h).view.loc (c : Thread nD τ)), ((slotM r h).view.loc (c : Thread nD τ) ↦[(slotM r h).view.set]{fullShare} fs)
    ∗ ⌜SlotIs fw s b fs⌝
    ∗ ∃ f9 : Buf (Elt F) (scW.view.loc (c : Thread nD τ)), (scW.view.loc (c : Thread nD τ) ↦{fullShare} f9) ∗ ⌜Good fw b k f9⌝)

theorem loop_trip (c : Dev nD) (fw : S2048x5632.Idx → F .f32) (r : Fin 3 → ℕ) (h) (s b k : ℕ) (hr : r = ![s, 0, 0]) (hk : k < 8)
    (o1 : Fin 3 → ℕ) (i1) (ho1 : o1 = ![s, 256 * k, 0]) (o2 : Fin 2 → ℕ) (i2) (ho2 : o2 = ![256 * k, 256 * b])
    (pay : Vec F S1x256x256 .f32 → FVec F S256x256 .bf16)
    (hpay : ∀ (v : Vec F S1x256x256 .f32) (y : S256x256.Idx), pay v y = pcol (256 * b) (v (Fin.cons ⟨0, Nat.one_pos⟩ y)))
    (h1) (h2) (hx) (hm) (acc : Unit) :
    LI c fw s b r h k acc ⊢ wp frame (wpE (defs₀ (F := F)) Variants.none c none) Set.univ
      (Prog.lift (.load scS (Rect.unit (s := S3x2048x256) o1 S1x256x256.size i1).toLoadRect h1) >>= fun v =>
        Prog.lift (.load scW (Rect.unit (s := S2048x5632) o2 S256x256.size i2).toLoadRect h2) >>= fun _ =>
          Prog.lift (.store scW (Rect.unit (s := S2048x5632) o2 S256x256.size i2) (pay v) Finset.univ hx hm) >>= fun _ => pure ())
      (LI c fw s b r h (k + 1)) := by
  unfold LI
  iintro ⟨%fs, H1, %hfs, %f9, H2, %hg⟩
  iapply (Cert.Stage.trip (defs := defs₀ (F := F)) c scS scW _ _ h1 h2 pay hx hm _ (trip_sub r h s k hr hk o1 i1 ho1))
  isplitl [H1]; · iexact H1
  isplitl [H2]; · iexact H2
  iintro ⟨H1, H2⟩
  iexists fs
  isplitl [H1]; · iexact H1
  isplitr
  · ipureintro; exact hfs
  iexists _
  isplitl [H2]; · iexact H2
  ipureintro
  exact Good.step hfs hg o1 i1 ho1 o2 i2 ho2 pay hpay

abbrev sc12 : Memref sig .tc .vmem S4x128x256 .f32 := Memref.whole cc0_scratch3
abbrev sc13 : Memref sig .tc .vmem S4x128x128 .f32 := Memref.whole cc0_scratch4
abbrev sc14 : Memref sig .tc .vmem S4x128x256 .f32 := Memref.whole cc0_scratch5

/-- The word that tells whether a step opens a sequence, from the grid coordinate's word. -/
def openW (a : BitVec 32) : BitVec 1 :=
  Scalar.cmpi .ne (Scalar.extui (Scalar.cmpi .eq
    (Scalar.select
      (Scalar.andi (Scalar.xori
          (Scalar.cmpi .slt (Scalar.remsi a (Scalar.select (Scalar.cmpi .eq 32#32 0#32) 1#32 32#32)) 0#32)
          (Scalar.cmpi .slt (Scalar.select (Scalar.cmpi .eq 32#32 0#32) 1#32 32#32) 0#32))
        (Scalar.cmpi .ne (Scalar.remsi a (Scalar.select (Scalar.cmpi .eq 32#32 0#32) 1#32 32#32)) 0#32))
      (Scalar.addi (Scalar.remsi a (Scalar.select (Scalar.cmpi .eq 32#32 0#32) 1#32 32#32)) (Scalar.select (Scalar.cmpi .eq 32#32 0#32) 1#32 32#32))
      (Scalar.remsi a (Scalar.select (Scalar.cmpi .eq 32#32 0#32) 1#32 32#32))) 0#32) : BitVec 32) 0#32

theorem openW_eq : ∀ n : Fin 64, openW (BitVec.ofNat 32 n.val) = if n.val % 32 = 0 then 1#1 else 0#1 := by decide

theorem cond1_eq (i : grid0.Coords) : k0_cond1 i = if (i 0).val = 0 then 1#1 else 0#1 := by
  have h : ∀ n : Fin 64, Scalar.cmpi .ne (Scalar.extui (Scalar.cmpi .eq (BitVec.ofNat 32 n.val) 0#32) : BitVec 32) 0#32 = if n.val = 0 then 1#1 else 0#1 := by decide
  exact h (i 0)

theorem cond1_zero (i : grid0.Coords) (h : k0_cond1 i = 1#1) : (i 0).val = 0 := by
  rw [cond1_eq] at h; by_contra h0; rw [if_neg h0] at h; exact absurd h (by decide)

theorem cond2_one (i : grid0.Coords) (h : (i 0).val % 32 = 0) : openW (BitVec.ofNat 32 (i 0).val) = 1#1 := by
  rw [openW_eq (i 0), if_pos h]

theorem cond2_zero (i : grid0.Coords) (h : (i 0).val % 32 ≠ 0) : openW (BitVec.ofNat 32 (i 0).val) ≠ 1#1 := by
  rw [openW_eq (i 0), if_neg h]; decide

theorem castDrop (v : Vec F S1x256x256 .f32) (h) (y : S256x256.Idx) :
    shapeCast S256x256 v h y = v (Fin.cons ⟨0, Nat.one_pos⟩ y) :=
  shapeCast_dropUnit_apply (![256, 256]) v h y

theorem pay_q (v : Vec F S1x256x256 .f32) (h h') (y : S256x256.Idx) (j : ℕ) (hj : j < 1024) :
    shapeCast S256x256 (truncf .bf16 (mulf (shapeCast S256x256 v h) (broadcast S256x256 (Scalar.ofBits .f32 0x3E38AA3B#32 : F .f32))) bitsLt_bf16_f32) h' y
      = pcol j (v (Fin.cons ⟨0, Nat.one_pos⟩ y)) := by
  rw [shapeCast_self, pcol, if_pos hj, ← castDrop v h]; rfl

theorem pay_k (v : Vec F S1x256x256 .f32) (h h') (y : S256x256.Idx) (j : ℕ) (hj : 3072 ≤ j ∧ j < 3584) :
    shapeCast S256x256 (truncf .bf16 (mulf (shapeCast S256x256 v h) (broadcast S256x256 (Scalar.ofBits .f32 0x3E000000#32 : F .f32))) bitsLt_bf16_f32) h' y
      = pcol j (v (Fin.cons ⟨0, Nat.one_pos⟩ y)) := by
  rw [shapeCast_self, pcol, if_neg (by omega), if_pos hj, ← castDrop v h]; rfl

theorem pay_p (v : Vec F S1x256x256 .f32) (h h') (y : S256x256.Idx) (j : ℕ) (hj : ¬ j < 1024) (hk : ¬ (3072 ≤ j ∧ j < 3584)) :
    shapeCast S256x256 (truncf .bf16 (shapeCast S256x256 v h) bitsLt_bf16_f32) h' y
      = pcol j (v (Fin.cons ⟨0, Nat.one_pos⟩ y)) := by
  rw [shapeCast_self, pcol, if_neg hj, if_neg hk, ← castDrop v h]; rfl

theorem pay_0 (v : Vec F S1x256x256 .f32) (y : S256x256.Idx) : k0_pay2 v y = pcol (256 * 0) (v (Fin.cons ⟨0, Nat.one_pos⟩ y)) :=
  pay_q v _ _ y _ (by omega)
theorem pay_1 (v : Vec F S1x256x256 .f32) (y : S256x256.Idx) : k0_pay3 v y = pcol (256 * 1) (v (Fin.cons ⟨0, Nat.one_pos⟩ y)) :=
  pay_q v _ _ y _ (by omega)
theorem pay_2 (v : Vec F S1x256x256 .f32) (y : S256x256.Idx) : k0_pay4 v y = pcol (256 * 2) (v (Fin.cons ⟨0, Nat.one_pos⟩ y)) :=
  pay_q v _ _ y _ (by omega)
theorem pay_3 (v : Vec F S1x256x256 .f32) (y : S256x256.Idx) : k0_pay5 v y = pcol (256 * 3) (v (Fin.cons ⟨0, Nat.one_pos⟩ y)) :=
  pay_q v _ _ y _ (by omega)
theorem pay_4 (v : Vec F S1x256x256 .f32) (y : S256x256.Idx) : k0_pay6 v y = pcol (256 * 4) (v (Fin.cons ⟨0, Nat.one_pos⟩ y)) :=
  pay_p v _ _ y _ (by omega) (by omega)
theorem pay_5 (v : Vec F S1x256x256 .f32) (y : S256x256.Idx) : k0_pay7 v y = pcol (256 * 5) (v (Fin.cons ⟨0, Nat.one_pos⟩ y)) :=
  pay_p v _ _ y _ (by omega) (by omega)
theorem pay_6 (v : Vec F S1x256x256 .f32) (y : S256x256.Idx) : k0_pay8 v y = pcol (256 * 6) (v (Fin.cons ⟨0, Nat.one_pos⟩ y)) :=
  pay_p v _ _ y _ (by omega) (by omega)
theorem pay_7 (v : Vec F S1x256x256 .f32) (y : S256x256.Idx) : k0_pay9 v y = pcol (256 * 7) (v (Fin.cons ⟨0, Nat.one_pos⟩ y)) :=
  pay_p v _ _ y _ (by omega) (by omega)
theorem pay_8 (v : Vec F S1x256x256 .f32) (y : S256x256.Idx) : k0_pay10 v y = pcol (256 * 8) (v (Fin.cons ⟨0, Nat.one_pos⟩ y)) :=
  pay_p v _ _ y _ (by omega) (by omega)
theorem pay_9 (v : Vec F S1x256x256 .f32) (y : S256x256.Idx) : k0_pay11 v y = pcol (256 * 9) (v (Fin.cons ⟨0, Nat.one_pos⟩ y)) :=
  pay_p v _ _ y _ (by omega) (by omega)
theorem pay_10 (v : Vec F S1x256x256 .f32) (y : S256x256.Idx) : k0_pay12 v y = pcol (256 * 10) (v (Fin.cons ⟨0, Nat.one_pos⟩ y)) :=
  pay_p v _ _ y _ (by omega) (by omega)
theorem pay_11 (v : Vec F S1x256x256 .f32) (y : S256x256.Idx) : k0_pay13 v y = pcol (256 * 11) (v (Fin.cons ⟨0, Nat.one_pos⟩ y)) :=
  pay_p v _ _ y _ (by omega) (by omega)
theorem pay_12 (v : Vec F S1x256x256 .f32) (y : S256x256.Idx) : k0_pay14 v y = pcol (256 * 12) (v (Fin.cons ⟨0, Nat.one_pos⟩ y)) :=
  pay_k v _ _ y _ (by omega)
theorem pay_13 (v : Vec F S1x256x256 .f32) (y : S256x256.Idx) : k0_pay15 v y = pcol (256 * 13) (v (Fin.cons ⟨0, Nat.one_pos⟩ y)) :=
  pay_k v _ _ y _ (by omega)
theorem pay_14 (v : Vec F S1x256x256 .f32) (y : S256x256.Idx) : k0_pay16 v y = pcol (256 * 14) (v (Fin.cons ⟨0, Nat.one_pos⟩ y)) :=
  pay_p v _ _ y _ (by omega) (by omega)
theorem pay_15 (v : Vec F S1x256x256 .f32) (y : S256x256.Idx) : k0_pay17 v y = pcol (256 * 15) (v (Fin.cons ⟨0, Nat.one_pos⟩ y)) :=
  pay_p v _ _ y _ (by omega) (by omega)
theorem pay_16 (v : Vec F S1x256x256 .f32) (y : S256x256.Idx) : k0_pay18 v y = pcol (256 * 16) (v (Fin.cons ⟨0, Nat.one_pos⟩ y)) :=
  pay_p v _ _ y _ (by omega) (by omega)
theorem pay_17 (v : Vec F S1x256x256 .f32) (y : S256x256.Idx) : k0_pay19 v y = pcol (256 * 17) (v (Fin.cons ⟨0, Nat.one_pos⟩ y)) :=
  pay_p v _ _ y _ (by omega) (by omega)
theorem pay_18 (v : Vec F S1x256x256 .f32) (y : S256x256.Idx) : k0_pay20 v y = pcol (256 * 18) (v (Fin.cons ⟨0, Nat.one_pos⟩ y)) :=
  pay_p v _ _ y _ (by omega) (by omega)
theorem pay_19 (v : Vec F S1x256x256 .f32) (y : S256x256.Idx) : k0_pay21 v y = pcol (256 * 19) (v (Fin.cons ⟨0, Nat.one_pos⟩ y)) :=
  pay_p v _ _ y _ (by omega) (by omega)
theorem pay_20 (v : Vec F S1x256x256 .f32) (y : S256x256.Idx) : k0_pay22 v y = pcol (256 * 20) (v (Fin.cons ⟨0, Nat.one_pos⟩ y)) :=
  pay_p v _ _ y _ (by omega) (by omega)
theorem pay_21 (v : Vec F S1x256x256 .f32) (y : S256x256.Idx) : k0_pay23 v y = pcol (256 * 21) (v (Fin.cons ⟨0, Nat.one_pos⟩ y)) :=
  pay_p v _ _ y _ (by omega) (by omega)

end Cert.Kernel2.Hand
-- ==== Proof.Tail2.lean ====
module

public import proofs.«01_k».proof.Proof.Gen.Kernel2.Launch
public import proofs.«01_k».proof.Proof.Gen.Kernel2.Skeleton
public import proofs.«01_k».proof.Proof.Gen.Kernel2.Points
public import proofs.«01_k».proof.Proof.Load2
public import Idealize.ShloMosaic.Lib.WordCmp

/-!
  The input projection's body cut after its prologue: what follows the weight load, the decay tables and the
  state's opening is one program of the values the prologue hands on.
-/

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ (Pipeline.UD sig nD τ) ℕ

/-- What the prologue hands on: the normalization weights, the first chunk's index, the first row split, its sums of
    squares and the row length. -/
abbrev Pro (F : FTy → Type) : Type := Σ' (v0 : Vec F S1x2048 .f32) (v12 : BitVec 32) (v29 : Vec F S256x2048 .f32) (v32 : FVec F S256x1 .f32), F .f32

/-- The body after its prologue. -/
noncomputable def tail (i : grid0.Coords) (arg1 : Memref sig .tc .smem S8 .f32) (harg1 : arg1.IsWhole) (arg2 : Memref sig .tc .vmem S512x2048 .f32) (harg2 : arg2.IsWhole) (arg3 : Memref sig .tc .vmem S1x2048 .f32) (harg3 : arg3.IsWhole) (arg4 : Memref sig .tc .hbm S2048x5632 .f32) (harg4 : arg4.IsWhole) (arg5 : Memref sig .tc .vmem S3x256x128 .f32) (harg5 : arg5.IsWhole) (arg6 : Memref sig .tc .vmem S128x3x128 .f32) (harg6 : arg6.IsWhole) (arg7 : Memref sig .tc .vmem S512x5632 .bf16) (harg7 : arg7.IsWhole) (arg8 : Memref sig .tc .vmem S4x4x64x256 .bf16) (harg8 : arg8.IsWhole) (arg9 : Memref sig .tc .vmem S2048x5632 .bf16) (harg9 : arg9.IsWhole) (arg10 : Memref sig .tc .vmem S3x2048x256 .f32) (harg10 : arg10.IsWhole) (arg11 : DmaSems sig S3) (arg12 : Memref sig .tc .vmem S4x128x256 .f32) (harg12 : arg12.IsWhole) (arg13 : Memref sig .tc .vmem S4x128x128 .f32) (harg13 : arg13.IsWhole) (arg14 : Memref sig .tc .vmem S4x128x256 .f32) (harg14 : arg14.IsWhole) (r : Pro F) :
    Prog (TpuEff nD τ sig (Elt F) Λ₀ .tc) PUnit := do
  let ⟨v0, v12, v29, v32, cst_16⟩ := r
  let ⟨v42, v60, v65, v68, v70, v72, v74⟩ : Σ' (v42 : FVec F S256x2048 .bf16) (v60 : FVec F S256x128 .f32) (v65 : FVec F S256x128 .f32) (v68 : BitVec 32) (v70 : IVec S256x128 32) (v72 : IVec S256x128 1), IVec S256x128 1 ← k0_part20 i arg1 harg1 arg2 harg2 arg3 harg3 arg4 harg4 arg5 harg5 arg6 harg6 arg7 harg7 arg8 harg8 arg9 harg9 arg10 harg10 arg11 arg12 harg12 arg13 harg13 arg14 harg14 v0 v12 v29 v32 cst_16
  let v84 : IVec S256x128 1 ← k0_part21 i arg1 harg1 arg2 harg2 arg3 harg3 arg4 harg4 arg5 harg5 arg6 harg6 arg7 harg7 arg8 harg8 arg9 harg9 arg10 harg10 arg11 arg12 harg12 arg13 harg13 arg14 harg14 v42 v68 v70 v72 v74
  let v147 : FVec F S256x512 .f32 ← k0_part22 i arg1 harg1 arg2 harg2 arg3 harg3 arg4 harg4 arg5 harg5 arg6 harg6 arg7 harg7 arg8 harg8 arg9 harg9 arg10 harg10 arg11 arg12 harg12 arg13 harg13 arg14 harg14 v42 v60 v65 v84
  let v185 : FVec F S256x512 .bf16 ← k0_part23 i arg1 harg1 arg2 harg2 arg3 harg3 arg4 harg4 arg5 harg5 arg6 harg6 arg7 harg7 arg8 harg8 arg9 harg9 arg10 harg10 arg11 arg12 harg12 arg13 harg13 arg14 harg14 v42 v60 v65 v84 v147
  let ⟨v211, v216, v217⟩ : Σ' (v211 : Vec F S256x2048 .f32) (v216 : FVec F S256x1 .f32), FVec F S256x1 .f32 ← k0_part24 i arg1 harg1 arg2 harg2 arg3 harg3 arg4 harg4 arg5 harg5 arg6 harg6 arg7 harg7 arg8 harg8 arg9 harg9 arg10 harg10 arg11 arg12 harg12 arg13 harg13 arg14 harg14 v42 v185
  let ⟨v224, v242, v247, v250, v252, v254, v256, v259⟩ : Σ' (v224 : FVec F S256x2048 .bf16) (v242 : FVec F S256x128 .f32) (v247 : FVec F S256x128 .f32) (v250 : BitVec 32) (v252 : IVec S256x128 32) (v254 : IVec S256x128 1) (v256 : IVec S256x128 1), IVec S256x128 1 ← k0_part25 i arg1 harg1 arg2 harg2 arg3 harg3 arg4 harg4 arg5 harg5 arg6 harg6 arg7 harg7 arg8 harg8 arg9 harg9 arg10 harg10 arg11 arg12 harg12 arg13 harg13 arg14 harg14 v0 v12 v211 v216 v217
  let ⟨v266, v289, cst_149⟩ : Σ' (v266 : IVec S256x128 1) (v289 : Vec F S2048x512 .bf16), FVec F S256x512 .f32 ← k0_part26 i arg1 harg1 arg2 harg2 arg3 harg3 arg4 harg4 arg5 harg5 arg6 harg6 arg7 harg7 arg8 harg8 arg9 harg9 arg10 harg10 arg11 arg12 harg12 arg13 harg13 arg14 harg14 v224 v250 v252 v254 v256 v259
  let v330 : FVec F S256x512 .bf16 ← k0_part27 i arg1 harg1 arg2 harg2 arg3 harg3 arg4 harg4 arg5 harg5 arg6 harg6 arg7 harg7 arg8 harg8 arg9 harg9 arg10 harg10 arg11 arg12 harg12 arg13 harg13 arg14 harg14 v224 v242 v247 v266 v289 cst_149
  k0_part28 i arg1 harg1 arg2 harg2 arg3 harg3 arg4 harg4 arg5 harg5 arg6 harg6 arg7 harg7 arg8 harg8 arg9 harg9 arg10 harg10 arg11 arg12 harg12 arg13 harg13 arg14 harg14 v224 v242 v247 v266 v330
  let v401 : FVec F S1x1x64x256 .bf16 ← k0_part29 i arg1 harg1 arg2 harg2 arg3 harg3 arg4 harg4 arg5 harg5 arg6 harg6 arg7 harg7 arg8 harg8 arg9 harg9 arg10 harg10 arg11 arg12 harg12 arg13 harg13 arg14 harg14 v224
  let ⟨v413, v416, v418, v420, v439, c1_i32_228⟩ : Σ' (v413 : FVec F S128x256 .f32) (v416 : FVec F S128x256 .f32) (v418 : IVec S128x256 32) (v420 : IVec S128x256 32) (v439 : IVec S128x256 1), BitVec 32 ← k0_part30 i arg1 harg1 arg2 harg2 arg3 harg3 arg4 harg4 arg5 harg5 arg6 harg6 arg7 harg7 arg8 harg8 arg9 harg9 arg10 harg10 arg11 arg12 harg12 arg13 harg13 arg14 harg14 v401
  let ⟨v479, v480⟩ : Σ' (v479 : FVec F S64x256 .bf16), Vec F S1x1x64x256 .bf16 ← k0_part31 i arg1 harg1 arg2 harg2 arg3 harg3 arg4 harg4 arg5 harg5 arg6 harg6 arg7 harg7 arg8 harg8 arg9 harg9 arg10 harg10 arg11 arg12 harg12 arg13 harg13 arg14 harg14 v413 v416 v418 v420 v439 c1_i32_228
  let ⟨v494, v497, v499, v501, v515, v519⟩ : Σ' (v494 : FVec F S128x256 .f32) (v497 : FVec F S128x256 .f32) (v499 : IVec S128x256 32) (v501 : IVec S128x256 32) (v515 : IVec S128x256 1), IVec S128x256 1 ← k0_part32 i arg1 harg1 arg2 harg2 arg3 harg3 arg4 harg4 arg5 harg5 arg6 harg6 arg7 harg7 arg8 harg8 arg9 harg9 arg10 harg10 arg11 arg12 harg12 arg13 harg13 arg14 harg14 v479 v480
  let v560 : FVec F S64x256 .bf16 ← k0_part33 i arg1 harg1 arg2 harg2 arg3 harg3 arg4 harg4 arg5 harg5 arg6 harg6 arg7 harg7 arg8 harg8 arg9 harg9 arg10 harg10 arg11 arg12 harg12 arg13 harg13 arg14 harg14 v494 v497 v499 v501 v515 v519
  let ⟨v575, v578, v580, v582, v596, v598, c0_i32_301⟩ : Σ' (v575 : FVec F S128x256 .f32) (v578 : FVec F S128x256 .f32) (v580 : IVec S128x256 32) (v582 : IVec S128x256 32) (v596 : IVec S128x256 1) (v598 : IVec S128x256 32), BitVec 32 ← k0_part34 i arg1 harg1 arg2 harg2 arg3 harg3 arg4 harg4 arg5 harg5 arg6 harg6 arg7 harg7 arg8 harg8 arg9 harg9 arg10 harg10 arg11 arg12 harg12 arg13 harg13 arg14 harg14 v560
  let v641 : FVec F S64x256 .bf16 ← k0_part35 i arg1 harg1 arg2 harg2 arg3 harg3 arg4 harg4 arg5 harg5 arg6 harg6 arg7 harg7 arg8 harg8 arg9 harg9 arg10 harg10 arg11 arg12 harg12 arg13 harg13 arg14 harg14 v575 v578 v580 v582 v596 v598 c0_i32_301
  let ⟨v656, v659, v660, v661, v663, v677, v678⟩ : Σ' (v656 : FVec F S128x256 .f32) (v659 : FVec F S128x256 .f32) (v660 : IVec S128x256 32) (v661 : IVec S128x256 32) (v663 : IVec S128x256 32) (v677 : IVec S128x256 1), IVec S128x256 32 ← k0_part36 i arg1 harg1 arg2 harg2 arg3 harg3 arg4 harg4 arg5 harg5 arg6 harg6 arg7 harg7 arg8 harg8 arg9 harg9 arg10 harg10 arg11 arg12 harg12 arg13 harg13 arg14 harg14 v641
  let v721 : FVec F S64x256 .f32 ← k0_part37 i arg1 harg1 arg2 harg2 arg3 harg3 arg4 harg4 arg5 harg5 arg6 harg6 arg7 harg7 arg8 harg8 arg9 harg9 arg10 harg10 arg11 arg12 harg12 arg13 harg13 arg14 harg14 v656 v659 v660 v661 v663 v677 v678
  let ⟨v737, v740, v741, v742, c64_i32_372, v744, v751, v757⟩ : Σ' (v737 : FVec F S128x256 .f32) (v740 : FVec F S128x256 .f32) (v741 : IVec S128x256 32) (v742 : IVec S128x256 32) (c64_i32_372 : BitVec 32) (v744 : IVec S128x256 32) (v751 : IVec S128x256 32), IVec S128x256 32 ← k0_part38 i arg1 harg1 arg2 harg2 arg3 harg3 arg4 harg4 arg5 harg5 arg6 harg6 arg7 harg7 arg8 harg8 arg9 harg9 arg10 harg10 arg11 arg12 harg12 arg13 harg13 arg14 harg14 v721
  let ⟨v799, v800⟩ : Σ' (v799 : FVec F S128x256 .f32), FVec F S64x256 .f32 ← k0_part39 i arg1 harg1 arg2 harg2 arg3 harg3 arg4 harg4 arg5 harg5 arg6 harg6 arg7 harg7 arg8 harg8 arg9 harg9 arg10 harg10 arg11 arg12 harg12 arg13 harg13 arg14 harg14 v737 v740 v741 v742 c64_i32_372 v744 v751 v757
  let ⟨v818, v821, v822, v823, c64_i32_411, v825, v832, v834, v836⟩ : Σ' (v818 : FVec F S128x256 .f32) (v821 : FVec F S128x256 .f32) (v822 : IVec S128x256 32) (v823 : IVec S128x256 32) (c64_i32_411 : BitVec 32) (v825 : IVec S128x256 32) (v832 : IVec S128x256 32) (v834 : BitVec 32), BitVec 32 ← k0_part40 i arg1 harg1 arg2 harg2 arg3 harg3 arg4 harg4 arg5 harg5 arg6 harg6 arg7 harg7 arg8 harg8 arg9 harg9 arg10 harg10 arg11 arg12 harg12 arg13 harg13 arg14 harg14 v799 v800
  let v879 : Vec F S1x128x256 .f32 ← k0_part41 i arg1 harg1 arg2 harg2 arg3 harg3 arg4 harg4 arg5 harg5 arg6 harg6 arg7 harg7 arg8 harg8 arg9 harg9 arg10 harg10 arg11 arg12 harg12 arg13 harg13 arg14 harg14 v818 v821 v822 v823 c64_i32_411 v825 v832 v834 v836
  let ⟨v899, v902, v903, v904, c64_i32_450, v906, v913, v915, c0_i32_454⟩ : Σ' (v899 : FVec F S128x256 .f32) (v902 : FVec F S128x256 .f32) (v903 : IVec S128x256 32) (v904 : IVec S128x256 32) (c64_i32_450 : BitVec 32) (v906 : IVec S128x256 32) (v913 : IVec S128x256 32) (v915 : BitVec 32), BitVec 32 ← k0_part42 i arg1 harg1 arg2 harg2 arg3 harg3 arg4 harg4 arg5 harg5 arg6 harg6 arg7 harg7 arg8 harg8 arg9 harg9 arg10 harg10 arg11 arg12 harg12 arg13 harg13 arg14 harg14 v879
  k0_part43 i arg1 harg1 arg2 harg2 arg3 harg3 arg4 harg4 arg5 harg5 arg6 harg6 arg7 harg7 arg8 harg8 arg9 harg9 arg10 harg10 arg11 arg12 harg12 arg13 harg13 arg14 harg14 v899 v902 v903 v904 c64_i32_450 v906 v913 v915 c0_i32_454
  let ⟨v980, v983, v984, v985, c64_i32_489, v987, v994, v995⟩ : Σ' (v980 : FVec F S128x256 .f32) (v983 : FVec F S128x256 .f32) (v984 : IVec S128x256 32) (v985 : IVec S128x256 32) (c64_i32_489 : BitVec 32) (v987 : IVec S128x256 32) (v994 : IVec S128x256 32), BitVec 1 ← k0_part44 i arg1 harg1 arg2 harg2 arg3 harg3 arg4 harg4 arg5 harg5 arg6 harg6 arg7 harg7 arg8 harg8 arg9 harg9 arg10 harg10 arg11 arg12 harg12 arg13 harg13 arg14 harg14
  k0_part45 i arg1 harg1 arg2 harg2 arg3 harg3 arg4 harg4 arg5 harg5 arg6 harg6 arg7 harg7 arg8 harg8 arg9 harg9 arg10 harg10 arg11 arg12 harg12 arg13 harg13 arg14 harg14 v980 v983 v984 v985 c64_i32_489 v987 v994 v995
  let ⟨v1061, v1064, v1065, v1066, c64_i32_527, v1068, v1075⟩ : Σ' (v1061 : FVec F S128x256 .f32) (v1064 : FVec F S128x256 .f32) (v1065 : IVec S128x256 32) (v1066 : IVec S128x256 32) (c64_i32_527 : BitVec 32) (v1068 : IVec S128x256 32), IVec S128x256 32 ← k0_part46 i arg1 harg1 arg2 harg2 arg3 harg3 arg4 harg4 arg5 harg5 arg6 harg6 arg7 harg7 arg8 harg8 arg9 harg9 arg10 harg10 arg11 arg12 harg12 arg13 harg13 arg14 harg14
  let v1118 : FVec F S128x256 .f32 ← k0_part47 i arg1 harg1 arg2 harg2 arg3 harg3 arg4 harg4 arg5 harg5 arg6 harg6 arg7 harg7 arg8 harg8 arg9 harg9 arg10 harg10 arg11 arg12 harg12 arg13 harg13 arg14 harg14 v1061 v1064 v1065 v1066 c64_i32_527 v1068 v1075
  let ⟨v1142, v1145, v1146, v1147, c64_i32_566, v1149, v1152, v1154⟩ : Σ' (v1142 : FVec F S128x256 .f32) (v1145 : FVec F S128x256 .f32) (v1146 : IVec S128x256 32) (v1147 : IVec S128x256 32) (c64_i32_566 : BitVec 32) (v1149 : IVec S128x256 32) (v1152 : IVec S128x256 32), IVec S128x256 1 ← k0_part48 i arg1 harg1 arg2 harg2 arg3 harg3 arg4 harg4 arg5 harg5 arg6 harg6 arg7 harg7 arg8 harg8 arg9 harg9 arg10 harg10 arg11 arg12 harg12 arg13 harg13 arg14 harg14 v1118
  let v1199 : FVec F S128x256 .f32 ← k0_part49 i arg1 harg1 arg2 harg2 arg3 harg3 arg4 harg4 arg5 harg5 arg6 harg6 arg7 harg7 arg8 harg8 arg9 harg9 arg10 harg10 arg11 arg12 harg12 arg13 harg13 arg14 harg14 v1142 v1145 v1146 v1147 c64_i32_566 v1149 v1152 v1154
  let ⟨v1223, v1226, v1227, v1228, c64_i32_605, v1230, v1233, c0_i32_607⟩ : Σ' (v1223 : FVec F S128x256 .f32) (v1226 : FVec F S128x256 .f32) (v1227 : IVec S128x256 32) (v1228 : IVec S128x256 32) (c64_i32_605 : BitVec 32) (v1230 : IVec S128x256 32) (v1233 : IVec S128x256 32), BitVec 32 ← k0_part50 i arg1 harg1 arg2 harg2 arg3 harg3 arg4 harg4 arg5 harg5 arg6 harg6 arg7 harg7 arg8 harg8 arg9 harg9 arg10 harg10 arg11 arg12 harg12 arg13 harg13 arg14 harg14 v1199
  let v1280 : FVec F S128x256 .f32 ← k0_part51 i arg1 harg1 arg2 harg2 arg3 harg3 arg4 harg4 arg5 harg5 arg6 harg6 arg7 harg7 arg8 harg8 arg9 harg9 arg10 harg10 arg11 arg12 harg12 arg13 harg13 arg14 harg14 v1223 v1226 v1227 v1228 c64_i32_605 v1230 v1233 c0_i32_607
  let ⟨v1304, v1307, v1308, v1309, c64_i32_644, v1311, v1313⟩ : Σ' (v1304 : FVec F S128x256 .f32) (v1307 : FVec F S128x256 .f32) (v1308 : IVec S128x256 32) (v1309 : IVec S128x256 32) (c64_i32_644 : BitVec 32) (v1311 : IVec S128x256 32), IVec S128x256 1 ← k0_part52 i arg1 harg1 arg2 harg2 arg3 harg3 arg4 harg4 arg5 harg5 arg6 harg6 arg7 harg7 arg8 harg8 arg9 harg9 arg10 harg10 arg11 arg12 harg12 arg13 harg13 arg14 harg14 v1280
  let v1360 : FVec F S128x256 .f32 ← k0_part53 i arg1 harg1 arg2 harg2 arg3 harg3 arg4 harg4 arg5 harg5 arg6 harg6 arg7 harg7 arg8 harg8 arg9 harg9 arg10 harg10 arg11 arg12 harg12 arg13 harg13 arg14 harg14 v1304 v1308 v1309 c64_i32_644 v1311 v1313
  let ⟨v1385, v1388, v1389, v1390, c64_i32_683, v1392, c0_i32_684⟩ : Σ' (v1385 : FVec F S128x256 .f32) (v1388 : FVec F S128x256 .f32) (v1389 : IVec S128x256 32) (v1390 : IVec S128x256 32) (c64_i32_683 : BitVec 32) (v1392 : IVec S128x256 32), BitVec 32 ← k0_part54 i arg1 harg1 arg2 harg2 arg3 harg3 arg4 harg4 arg5 harg5 arg6 harg6 arg7 harg7 arg8 harg8 arg9 harg9 arg10 harg10 arg11 arg12 harg12 arg13 harg13 arg14 harg14 v1307 v1360
  let ⟨v1439, cst_697⟩ : Σ' (v1439 : IVec S128x256 1), F .f32 ← k0_part55 i arg1 harg1 arg2 harg2 arg3 harg3 arg4 harg4 arg5 harg5 arg6 harg6 arg7 harg7 arg8 harg8 arg9 harg9 arg10 harg10 arg11 arg12 harg12 arg13 harg13 arg14 harg14 v1389 v1390 c64_i32_683 v1392 c0_i32_684
  let ⟨v1466, v1469, v1470, v1471, c64_i32_722, v1472⟩ : Σ' (v1466 : FVec F S128x256 .f32) (v1469 : FVec F S128x256 .f32) (v1470 : IVec S128x256 32) (v1471 : IVec S128x256 32) (c64_i32_722 : BitVec 32), IVec S128x256 32 ← k0_part56 i arg1 harg1 arg2 harg2 arg3 harg3 arg4 harg4 arg5 harg5 arg6 harg6 arg7 harg7 arg8 harg8 arg9 harg9 arg10 harg10 arg11 arg12 harg12 arg13 harg13 arg14 harg14 v1385 v1388 v1439 cst_697
  let ⟨v1495, v1519⟩ : Σ' (v1495 : IVec S128x256 32), IVec S128x256 32 ← k0_part57 i arg1 harg1 arg2 harg2 arg3 harg3 arg4 harg4 arg5 harg5 arg6 harg6 arg7 harg7 arg8 harg8 arg9 harg9 arg10 harg10 arg11 arg12 harg12 arg13 harg13 arg14 harg14 v1470 v1471 c64_i32_722 v1472
  let ⟨v1547, v1550, v1551, v1552⟩ : Σ' (v1547 : FVec F S128x256 .f32) (v1550 : FVec F S128x256 .f32) (v1551 : IVec S128x256 32), IVec S128x256 32 ← k0_part58 i arg1 harg1 arg2 harg2 arg3 harg3 arg4 harg4 arg5 harg5 arg6 harg6 arg7 harg7 arg8 harg8 arg9 harg9 arg10 harg10 arg11 arg12 harg12 arg13 harg13 arg14 harg14 v1466 v1469 v1495 v1519
  let ⟨v1576, v1578, v1597, v1598⟩ : Σ' (v1576 : IVec S128x256 32) (v1578 : IVec S128x256 32) (v1597 : IVec S128x256 1), IVec S128x256 32 ← k0_part59 i arg1 harg1 arg2 harg2 arg3 harg3 arg4 harg4 arg5 harg5 arg6 harg6 arg7 harg7 arg8 harg8 arg9 harg9 arg10 harg10 arg11 arg12 harg12 arg13 harg13 arg14 harg14 v1551 v1552
  let ⟨v1628, v1631⟩ : Σ' (v1628 : FVec F S128x256 .f32), FVec F S128x256 .f32 ← k0_part60 i arg1 harg1 arg2 harg2 arg3 harg3 arg4 harg4 arg5 harg5 arg6 harg6 arg7 harg7 arg8 harg8 arg9 harg9 arg10 harg10 arg11 arg12 harg12 arg13 harg13 arg14 harg14 v1547 v1550 v1576 v1578 v1597 v1598
  let ⟨v1657, v1659, v1678⟩ : Σ' (v1657 : IVec S128x256 32) (v1659 : IVec S128x256 32), IVec S128x256 1 ← k0_part61 i arg1 harg1 arg2 harg2 arg3 harg3 arg4 harg4 arg5 harg5 arg6 harg6 arg7 harg7 arg8 harg8 arg9 harg9 arg10 harg10 arg11 arg12 harg12 arg13 harg13 arg14 harg14
  let v1686 : Vec F S1x128x256 .f32 ← Prog.lift (.load arg12 (Rect.unit (s := S4x128x256) ![3, 0, 0] S1x128x256.size inb_S4x128x256_S1x128x256_3_0_0).toLoadRect (View.loadsAt_vmem h_S1x128x256))
  Prog.lift (.store arg12 (Rect.unit (s := S4x128x256) ![3, 0, 0] S1x128x256.size inb_S4x128x256_S1x128x256_3_0_0) (k0_pay1 v1628 v1631 v1657 v1659 v1678) Finset.univ (View.stores_vmem_bits_univ h_S1x128x256 rfl) (.inl rfl))
  pure ⟨⟩

theorem skel_eq_tail (i : grid0.Coords) (arg1 : Memref sig .tc .smem S8 .f32) (harg1 : arg1.IsWhole) (arg2 : Memref sig .tc .vmem S512x2048 .f32) (harg2 : arg2.IsWhole) (arg3 : Memref sig .tc .vmem S1x2048 .f32) (harg3 : arg3.IsWhole) (arg4 : Memref sig .tc .hbm S2048x5632 .f32) (harg4 : arg4.IsWhole) (arg5 : Memref sig .tc .vmem S3x256x128 .f32) (harg5 : arg5.IsWhole) (arg6 : Memref sig .tc .vmem S128x3x128 .f32) (harg6 : arg6.IsWhole) (arg7 : Memref sig .tc .vmem S512x5632 .bf16) (harg7 : arg7.IsWhole) (arg8 : Memref sig .tc .vmem S4x4x64x256 .bf16) (harg8 : arg8.IsWhole) (arg9 : Memref sig .tc .vmem S2048x5632 .bf16) (harg9 : arg9.IsWhole) (arg10 : Memref sig .tc .vmem S3x2048x256 .f32) (harg10 : arg10.IsWhole) (arg11 : DmaSems sig S3) (arg12 : Memref sig .tc .vmem S4x128x256 .f32) (harg12 : arg12.IsWhole) (arg13 : Memref sig .tc .vmem S4x128x128 .f32) (harg13 : arg13.IsWhole) (arg14 : Memref sig .tc .vmem S4x128x256 .f32) (harg14 : arg14.IsWhole) :
    cc0_inproj_skel (F := F) i arg1 harg1 arg2 harg2 arg3 harg3 arg4 harg4 arg5 harg5 arg6 harg6 arg7 harg7 arg8 harg8 arg9 harg9 arg10 harg10 arg11 arg12 harg12 arg13 harg13 arg14 harg14 = k0_part19 i arg1 harg1 arg2 harg2 arg3 harg3 arg4 harg4 arg5 harg5 arg6 harg6 arg7 harg7 arg8 harg8 arg9 harg9 arg10 harg10 arg11 arg12 harg12 arg13 harg13 arg14 harg14 >>= tail i arg1 harg1 arg2 harg2 arg3 harg3 arg4 harg4 arg5 harg5 arg6 harg6 arg7 harg7 arg8 harg8 arg9 harg9 arg10 harg10 arg11 arg12 harg12 arg13 harg13 arg14 harg14 := rfl

end Cert.Kernel2.Hand
-- ==== Proof.Prefix2.lean ====
module

public import proofs.«01_k».proof.Proof.Load2
public import proofs.«01_k».proof.Proof.Gen.Kernel2.Launch
public import proofs.«01_k».proof.Proof.Tail2
public import proofs.«01_k».proof.Proof.Gen.Kernel2.Points
public import Idealize.ShloMosaic.Lib.Pipeline.FrameBody
public import Idealize.ShloMosaic.Lib.Ring
public import Idealize.ShloMosaic.Lib.Tactic
public import Idealize.ShloMosaic.Lib.WordCmp

/-!
  The input projection's prologue: the weight load and the per-head tables of the first step, the state's reset where a
  sequence opens, and the loads every step begins with.
-/

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The row block's number in its sequence, times the four chunks of a block, as the prologue computes it. -/
def tileW (i : grid0.Coords) : BitVec 32 :=
  let v2 : BitVec 32 := Scalar.select (Scalar.cmpi .eq 32#32 0#32) 1#32 32#32
  let v3 : BitVec 32 := Scalar.remsi (BitVec.ofNat 32 (i 0).val) v2
  let v8 : BitVec 1 := Scalar.andi (Scalar.xori (Scalar.cmpi .slt v3 0#32) (Scalar.cmpi .slt v2 0#32)) (Scalar.cmpi .ne v3 0#32)
  Scalar.muli (Scalar.subi 31#32 (Scalar.select v8 (Scalar.addi v3 v2) v3)) 4#32

/-- What the prologue hands on: the norm weights, the block's number, the first 256 rows, their sums of squares, 2048. -/
abbrev proVal (c : Dev nD) (i : grid0.Coords) (arg2 : Memref sig .tc .vmem S512x2048 .f32) (arg3 : Memref sig .tc .vmem S1x2048 .f32)
    (f2 : Buf (Elt F) (arg2.view.loc (c : Thread nD τ))) (f3 : Buf (Elt F) (arg3.view.loc (c : Thread nD τ))) : Pro F :=
  ⟨arg3.view.readAt (Elt F) (Rect.unit (s := S1x2048) ![0, 0] S1x2048.size inb_S1x2048_S1x2048_0_0).toLoadRect f3, tileW i,
    arg2.view.readAt (Elt F) (Rect.unit (s := S512x2048) ![0, 0] S256x2048.size inb_S512x2048_S256x2048_0_0).toLoadRect f2,
    k0_pay54 (arg2.view.readAt (Elt F) (Rect.unit (s := S512x2048) ![0, 0] S256x2048.size inb_S512x2048_S256x2048_0_0).toLoadRect f2),
    Scalar.ofBits .f32 0x45000000#32⟩

set_option maxRecDepth 65536
set_option maxHeartbeats 4000000 in
theorem prefix_first (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (k0_h1 : k0_cond1 i = 1#1) (fw : Buf (Elt F) (hbW.view.loc (c : Thread nD τ)))
    (f1 : Buf (Elt F) (arg1.view.loc (c : Thread nD τ))) (f2 : Buf (Elt F) (arg2.view.loc (c : Thread nD τ))) (f3 : Buf (Elt F) (arg3.view.loc (c : Thread nD τ)))
    (W : Waits sig Unit) (K : (Σ' (v0 : Vec F S1x2048 .f32) (v12 : BitVec 32) (v29 : Vec F S256x2048 .f32) (v32 : FVec F S256x1 .f32), F .f32) → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (∃ f, scW.view.loc (c : Thread nD τ) ↦{fullShare} f)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ owes (c : Thread nD τ) 0 W
      ∗ (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ (∃ W, owes (c : Thread nD τ) 0 W))
        -∗ K (proVal c i arg2 arg3 f2 f3)))
    ⊢ wp frame (wpE (defs₀ (F := F)) Variants.none c none) Set.univ
        (k0_part19_skel (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _)) K := by
  have hi : (i 0).val = 0 := cond1_zero i k0_h1
  iintro ⟨H1, H2, H3, Hw, ⟨%g0, H20⟩, ⟨%g1, H21⟩, ⟨%g2, H22⟩, ⟨%g9, H9⟩, ⟨%g12, H12⟩, ⟨%g13, H13⟩, ⟨%g14, H14⟩, Hq0, Hq1, Hq2, HW, Hk⟩
  unfold slPt
  unfold k0_part19_skel
  sl_exec (disch := first | sl_exact k0_h1 | exact cond2_one i hi)
  sl_for (LI c fw 0 0 ![0,0,0] inb_S3x2048x256_S1x2048x256_0_0_0) $$ [H20 H9]
  · intro k acc
    exact loop_trip c fw _ _ 0 0 k rfl (lt_of_lt_of_le k.isLt k0_t1_abs.2.1) _ _ (k0_off1_eq k) _ _ (k0_off2_eq k) k0_pay2 (pay_0) _ _ _ _ acc
  · unfold LI
    iexists _
    isplitl [H20]; · iexact H20
    isplitr
    · ipureintro
      exact slotIs_writes fw _ _ 0 0 rfl _ _ rfl _
    · iexists _
      isplitl [H9]; · iexact H9
      ipureintro
      exact Good.zero _ _
  iintro %acc HI
  unfold LI
  icases HI with ⟨%fs0, H20, %hs0, %f9_0, H9, %hg0⟩
  sl_exec (disch := first | sl_exact k0_h1 | exact cond2_one i hi)
  sl_for (LI c fw 1 1 ![1,0,0] inb_S3x2048x256_S1x2048x256_1_0_0) $$ [H21 H9]
  · intro k acc
    exact loop_trip c fw _ _ 1 1 k rfl (lt_of_lt_of_le k.isLt k0_t2_abs.2.1) _ _ (k0_off3_eq k) _ _ (k0_off4_eq k) k0_pay3 (pay_1) _ _ _ _ acc
  · unfold LI
    iexists _
    isplitl [H21]; · iexact H21
    isplitr
    · ipureintro
      exact slotIs_writes fw _ _ 1 1 rfl _ _ rfl _
    · iexists _
      isplitl [H9]; · iexact H9
      ipureintro
      exact hg0.next' (by decide)
  iintro %acc HI
  unfold LI
  icases HI with ⟨%fs1, H21, %hs1, %f9_1, H9, %hg1⟩
  sl_exec (disch := first | sl_exact k0_h1 | exact cond2_one i hi)
  sl_for (LI c fw 2 2 ![2,0,0] inb_S3x2048x256_S1x2048x256_2_0_0) $$ [H22 H9]
  · intro k acc
    exact loop_trip c fw _ _ 2 2 k rfl (lt_of_lt_of_le k.isLt k0_t3_abs.2.1) _ _ (k0_off5_eq k) _ _ (k0_off6_eq k) k0_pay4 (pay_2) _ _ _ _ acc
  · unfold LI
    iexists _
    isplitl [H22]; · iexact H22
    isplitr
    · ipureintro
      exact slotIs_writes fw _ _ 2 2 rfl _ _ rfl _
    · iexists _
      isplitl [H9]; · iexact H9
      ipureintro
      exact hg1.next' (by decide)
  iintro %acc HI
  unfold LI
  icases HI with ⟨%fs2, H22, %hs2, %f9_2, H9, %hg2⟩
  sl_exec (disch := first | sl_exact k0_h1 | exact cond2_one i hi)
  sl_for (LI c fw 0 3 ![0,0,0] inb_S3x2048x256_S1x2048x256_0_0_0) $$ [H20 H9]
  · intro k acc
    exact loop_trip c fw _ _ 0 3 k rfl (lt_of_lt_of_le k.isLt k0_t4_abs.2.1) _ _ (k0_off7_eq k) _ _ (k0_off8_eq k) k0_pay5 (pay_3) _ _ _ _ acc
  · unfold LI
    iexists _
    isplitl [H20]; · iexact H20
    isplitr
    · ipureintro
      exact slotIs_writes fw _ _ 0 3 rfl _ _ rfl _
    · iexists _
      isplitl [H9]; · iexact H9
      ipureintro
      exact hg2.next' (by decide)
  iintro %acc HI
  unfold LI
  icases HI with ⟨%fs3, H20, %hs3, %f9_3, H9, %hg3⟩
  sl_exec (disch := first | sl_exact k0_h1 | exact cond2_one i hi)
  sl_for (LI c fw 1 4 ![1,0,0] inb_S3x2048x256_S1x2048x256_1_0_0) $$ [H21 H9]
  · intro k acc
    exact loop_trip c fw _ _ 1 4 k rfl (lt_of_lt_of_le k.isLt k0_t5_abs.2.1) _ _ (k0_off9_eq k) _ _ (k0_off10_eq k) k0_pay6 (pay_4) _ _ _ _ acc
  · unfold LI
    iexists _
    isplitl [H21]; · iexact H21
    isplitr
    · ipureintro
      exact slotIs_writes fw _ _ 1 4 rfl _ _ rfl _
    · iexists _
      isplitl [H9]; · iexact H9
      ipureintro
      exact hg3.next' (by decide)
  iintro %acc HI
  unfold LI
  icases HI with ⟨%fs4, H21, %hs4, %f9_4, H9, %hg4⟩
  sl_exec (disch := first | sl_exact k0_h1 | exact cond2_one i hi)
  sl_for (LI c fw 2 5 ![2,0,0] inb_S3x2048x256_S1x2048x256_2_0_0) $$ [H22 H9]
  · intro k acc
    exact loop_trip c fw _ _ 2 5 k rfl (lt_of_lt_of_le k.isLt k0_t6_abs.2.1) _ _ (k0_off11_eq k) _ _ (k0_off12_eq k) k0_pay7 (pay_5) _ _ _ _ acc
  · unfold LI
    iexists _
    isplitl [H22]; · iexact H22
    isplitr
    · ipureintro
      exact slotIs_writes fw _ _ 2 5 rfl _ _ rfl _
    · iexists _
      isplitl [H9]; · iexact H9
      ipureintro
      exact hg4.next' (by decide)
  iintro %acc HI
  unfold LI
  icases HI with ⟨%fs5, H22, %hs5, %f9_5, H9, %hg5⟩
  sl_exec (disch := first | sl_exact k0_h1 | exact cond2_one i hi)
  sl_for (LI c fw 0 6 ![0,0,0] inb_S3x2048x256_S1x2048x256_0_0_0) $$ [H20 H9]
  · intro k acc
    exact loop_trip c fw _ _ 0 6 k rfl (lt_of_lt_of_le k.isLt k0_t7_abs.2.1) _ _ (k0_off13_eq k) _ _ (k0_off14_eq k) k0_pay8 (pay_6) _ _ _ _ acc
  · unfold LI
    iexists _
    isplitl [H20]; · iexact H20
    isplitr
    · ipureintro
      exact slotIs_writes fw _ _ 0 6 rfl _ _ rfl _
    · iexists _
      isplitl [H9]; · iexact H9
      ipureintro
      exact hg5.next' (by decide)
  iintro %acc HI
  unfold LI
  icases HI with ⟨%fs6, H20, %hs6, %f9_6, H9, %hg6⟩
  sl_exec (disch := first | sl_exact k0_h1 | exact cond2_one i hi)
  sl_for (LI c fw 1 7 ![1,0,0] inb_S3x2048x256_S1x2048x256_1_0_0) $$ [H21 H9]
  · intro k acc
    exact loop_trip c fw _ _ 1 7 k rfl (lt_of_lt_of_le k.isLt k0_t8_abs.2.1) _ _ (k0_off15_eq k) _ _ (k0_off16_eq k) k0_pay9 (pay_7) _ _ _ _ acc
  · unfold LI
    iexists _
    isplitl [H21]; · iexact H21
    isplitr
    · ipureintro
      exact slotIs_writes fw _ _ 1 7 rfl _ _ rfl _
    · iexists _
      isplitl [H9]; · iexact H9
      ipureintro
      exact hg6.next' (by decide)
  iintro %acc HI
  unfold LI
  icases HI with ⟨%fs7, H21, %hs7, %f9_7, H9, %hg7⟩
  sl_exec (disch := first | sl_exact k0_h1 | exact cond2_one i hi)
  sl_for (LI c fw 2 8 ![2,0,0] inb_S3x2048x256_S1x2048x256_2_0_0) $$ [H22 H9]
  · intro k acc
    exact loop_trip c fw _ _ 2 8 k rfl (lt_of_lt_of_le k.isLt k0_t9_abs.2.1) _ _ (k0_off17_eq k) _ _ (k0_off18_eq k) k0_pay10 (pay_8) _ _ _ _ acc
  · unfold LI
    iexists _
    isplitl [H22]; · iexact H22
    isplitr
    · ipureintro
      exact slotIs_writes fw _ _ 2 8 rfl _ _ rfl _
    · iexists _
      isplitl [H9]; · iexact H9
      ipureintro
      exact hg7.next' (by decide)
  iintro %acc HI
  unfold LI
  icases HI with ⟨%fs8, H22, %hs8, %f9_8, H9, %hg8⟩
  sl_exec (disch := first | sl_exact k0_h1 | exact cond2_one i hi)
  sl_for (LI c fw 0 9 ![0,0,0] inb_S3x2048x256_S1x2048x256_0_0_0) $$ [H20 H9]
  · intro k acc
    exact loop_trip c fw _ _ 0 9 k rfl (lt_of_lt_of_le k.isLt k0_t10_abs.2.1) _ _ (k0_off19_eq k) _ _ (k0_off20_eq k) k0_pay11 (pay_9) _ _ _ _ acc
  · unfold LI
    iexists _
    isplitl [H20]; · iexact H20
    isplitr
    · ipureintro
      exact slotIs_writes fw _ _ 0 9 rfl _ _ rfl _
    · iexists _
      isplitl [H9]; · iexact H9
      ipureintro
      exact hg8.next' (by decide)
  iintro %acc HI
  unfold LI
  icases HI with ⟨%fs9, H20, %hs9, %f9_9, H9, %hg9⟩
  sl_exec (disch := first | sl_exact k0_h1 | exact cond2_one i hi)
  sl_for (LI c fw 1 10 ![1,0,0] inb_S3x2048x256_S1x2048x256_1_0_0) $$ [H21 H9]
  · intro k acc
    exact loop_trip c fw _ _ 1 10 k rfl (lt_of_lt_of_le k.isLt k0_t11_abs.2.1) _ _ (k0_off21_eq k) _ _ (k0_off22_eq k) k0_pay12 (pay_10) _ _ _ _ acc
  · unfold LI
    iexists _
    isplitl [H21]; · iexact H21
    isplitr
    · ipureintro
      exact slotIs_writes fw _ _ 1 10 rfl _ _ rfl _
    · iexists _
      isplitl [H9]; · iexact H9
      ipureintro
      exact hg9.next' (by decide)
  iintro %acc HI
  unfold LI
  icases HI with ⟨%fs10, H21, %hs10, %f9_10, H9, %hg10⟩
  sl_exec (disch := first | sl_exact k0_h1 | exact cond2_one i hi)
  sl_for (LI c fw 2 11 ![2,0,0] inb_S3x2048x256_S1x2048x256_2_0_0) $$ [H22 H9]
  · intro k acc
    exact loop_trip c fw _ _ 2 11 k rfl (lt_of_lt_of_le k.isLt k0_t12_abs.2.1) _ _ (k0_off23_eq k) _ _ (k0_off24_eq k) k0_pay13 (pay_11) _ _ _ _ acc
  · unfold LI
    iexists _
    isplitl [H22]; · iexact H22
    isplitr
    · ipureintro
      exact slotIs_writes fw _ _ 2 11 rfl _ _ rfl _
    · iexists _
      isplitl [H9]; · iexact H9
      ipureintro
      exact hg10.next' (by decide)
  iintro %acc HI
  unfold LI
  icases HI with ⟨%fs11, H22, %hs11, %f9_11, H9, %hg11⟩
  sl_exec (disch := first | sl_exact k0_h1 | exact cond2_one i hi)
  sl_for (LI c fw 0 12 ![0,0,0] inb_S3x2048x256_S1x2048x256_0_0_0) $$ [H20 H9]
  · intro k acc
    exact loop_trip c fw _ _ 0 12 k rfl (lt_of_lt_of_le k.isLt k0_t13_abs.2.1) _ _ (k0_off25_eq k) _ _ (k0_off26_eq k) k0_pay14 (pay_12) _ _ _ _ acc
  · unfold LI
    iexists _
    isplitl [H20]; · iexact H20
    isplitr
    · ipureintro
      exact slotIs_writes fw _ _ 0 12 rfl _ _ rfl _
    · iexists _
      isplitl [H9]; · iexact H9
      ipureintro
      exact hg11.next' (by decide)
  iintro %acc HI
  unfold LI
  icases HI with ⟨%fs12, H20, %hs12, %f9_12, H9, %hg12⟩
  sl_exec (disch := first | sl_exact k0_h1 | exact cond2_one i hi)
  sl_for (LI c fw 1 13 ![1,0,0] inb_S3x2048x256_S1x2048x256_1_0_0) $$ [H21 H9]
  · intro k acc
    exact loop_trip c fw _ _ 1 13 k rfl (lt_of_lt_of_le k.isLt k0_t14_abs.2.1) _ _ (k0_off27_eq k) _ _ (k0_off28_eq k) k0_pay15 (pay_13) _ _ _ _ acc
  · unfold LI
    iexists _
    isplitl [H21]; · iexact H21
    isplitr
    · ipureintro
      exact slotIs_writes fw _ _ 1 13 rfl _ _ rfl _
    · iexists _
      isplitl [H9]; · iexact H9
      ipureintro
      exact hg12.next' (by decide)
  iintro %acc HI
  unfold LI
  icases HI with ⟨%fs13, H21, %hs13, %f9_13, H9, %hg13⟩
  sl_exec (disch := first | sl_exact k0_h1 | exact cond2_one i hi)
  sl_for (LI c fw 2 14 ![2,0,0] inb_S3x2048x256_S1x2048x256_2_0_0) $$ [H22 H9]
  · intro k acc
    exact loop_trip c fw _ _ 2 14 k rfl (lt_of_lt_of_le k.isLt k0_t15_abs.2.1) _ _ (k0_off29_eq k) _ _ (k0_off30_eq k) k0_pay16 (pay_14) _ _ _ _ acc
  · unfold LI
    iexists _
    isplitl [H22]; · iexact H22
    isplitr
    · ipureintro
      exact slotIs_writes fw _ _ 2 14 rfl _ _ rfl _
    · iexists _
      isplitl [H9]; · iexact H9
      ipureintro
      exact hg13.next' (by decide)
  iintro %acc HI
  unfold LI
  icases HI with ⟨%fs14, H22, %hs14, %f9_14, H9, %hg14⟩
  sl_exec (disch := first | sl_exact k0_h1 | exact cond2_one i hi)
  sl_for (LI c fw 0 15 ![0,0,0] inb_S3x2048x256_S1x2048x256_0_0_0) $$ [H20 H9]
  · intro k acc
    exact loop_trip c fw _ _ 0 15 k rfl (lt_of_lt_of_le k.isLt k0_t16_abs.2.1) _ _ (k0_off31_eq k) _ _ (k0_off32_eq k) k0_pay17 (pay_15) _ _ _ _ acc
  · unfold LI
    iexists _
    isplitl [H20]; · iexact H20
    isplitr
    · ipureintro
      exact slotIs_writes fw _ _ 0 15 rfl _ _ rfl _
    · iexists _
      isplitl [H9]; · iexact H9
      ipureintro
      exact hg14.next' (by decide)
  iintro %acc HI
  unfold LI
  icases HI with ⟨%fs15, H20, %hs15, %f9_15, H9, %hg15⟩
  sl_exec (disch := first | sl_exact k0_h1 | exact cond2_one i hi)
  sl_for (LI c fw 1 16 ![1,0,0] inb_S3x2048x256_S1x2048x256_1_0_0) $$ [H21 H9]
  · intro k acc
    exact loop_trip c fw _ _ 1 16 k rfl (lt_of_lt_of_le k.isLt k0_t17_abs.2.1) _ _ (k0_off33_eq k) _ _ (k0_off34_eq k) k0_pay18 (pay_16) _ _ _ _ acc
  · unfold LI
    iexists _
    isplitl [H21]; · iexact H21
    isplitr
    · ipureintro
      exact slotIs_writes fw _ _ 1 16 rfl _ _ rfl _
    · iexists _
      isplitl [H9]; · iexact H9
      ipureintro
      exact hg15.next' (by decide)
  iintro %acc HI
  unfold LI
  icases HI with ⟨%fs16, H21, %hs16, %f9_16, H9, %hg16⟩
  sl_exec (disch := first | sl_exact k0_h1 | exact cond2_one i hi)
  sl_for (LI c fw 2 17 ![2,0,0] inb_S3x2048x256_S1x2048x256_2_0_0) $$ [H22 H9]
  · intro k acc
    exact loop_trip c fw _ _ 2 17 k rfl (lt_of_lt_of_le k.isLt k0_t18_abs.2.1) _ _ (k0_off35_eq k) _ _ (k0_off36_eq k) k0_pay19 (pay_17) _ _ _ _ acc
  · unfold LI
    iexists _
    isplitl [H22]; · iexact H22
    isplitr
    · ipureintro
      exact slotIs_writes fw _ _ 2 17 rfl _ _ rfl _
    · iexists _
      isplitl [H9]; · iexact H9
      ipureintro
      exact hg16.next' (by decide)
  iintro %acc HI
  unfold LI
  icases HI with ⟨%fs17, H22, %hs17, %f9_17, H9, %hg17⟩
  sl_exec (disch := first | sl_exact k0_h1 | exact cond2_one i hi)
  sl_for (LI c fw 0 18 ![0,0,0] inb_S3x2048x256_S1x2048x256_0_0_0) $$ [H20 H9]
  · intro k acc
    exact loop_trip c fw _ _ 0 18 k rfl (lt_of_lt_of_le k.isLt k0_t19_abs.2.1) _ _ (k0_off37_eq k) _ _ (k0_off38_eq k) k0_pay20 (pay_18) _ _ _ _ acc
  · unfold LI
    iexists _
    isplitl [H20]; · iexact H20
    isplitr
    · ipureintro
      exact slotIs_writes fw _ _ 0 18 rfl _ _ rfl _
    · iexists _
      isplitl [H9]; · iexact H9
      ipureintro
      exact hg17.next' (by decide)
  iintro %acc HI
  unfold LI
  icases HI with ⟨%fs18, H20, %hs18, %f9_18, H9, %hg18⟩
  sl_exec (disch := first | sl_exact k0_h1 | exact cond2_one i hi)
  sl_for (LI c fw 1 19 ![1,0,0] inb_S3x2048x256_S1x2048x256_1_0_0) $$ [H21 H9]
  · intro k acc
    exact loop_trip c fw _ _ 1 19 k rfl (lt_of_lt_of_le k.isLt k0_t20_abs.2.1) _ _ (k0_off39_eq k) _ _ (k0_off40_eq k) k0_pay21 (pay_19) _ _ _ _ acc
  · unfold LI
    iexists _
    isplitl [H21]; · iexact H21
    isplitr
    · ipureintro
      exact slotIs_writes fw _ _ 1 19 rfl _ _ rfl _
    · iexists _
      isplitl [H9]; · iexact H9
      ipureintro
      exact hg18.next' (by decide)
  iintro %acc HI
  unfold LI
  icases HI with ⟨%fs19, H21, %hs19, %f9_19, H9, %hg19⟩
  sl_exec (disch := first | sl_exact k0_h1 | exact cond2_one i hi)
  sl_for (LI c fw 2 20 ![2,0,0] inb_S3x2048x256_S1x2048x256_2_0_0) $$ [H22 H9]
  · intro k acc
    exact loop_trip c fw _ _ 2 20 k rfl (lt_of_lt_of_le k.isLt k0_t21_abs.2.1) _ _ (k0_off41_eq k) _ _ (k0_off42_eq k) k0_pay22 (pay_20) _ _ _ _ acc
  · unfold LI
    iexists _
    isplitl [H22]; · iexact H22
    isplitr
    · ipureintro
      exact slotIs_writes fw _ _ 2 20 rfl _ _ rfl _
    · iexists _
      isplitl [H9]; · iexact H9
      ipureintro
      exact hg19.next' (by decide)
  iintro %acc HI
  unfold LI
  icases HI with ⟨%fs20, H22, %hs20, %f9_20, H9, %hg20⟩
  sl_exec (disch := first | sl_exact k0_h1 | exact cond2_one i hi)
  sl_for (LI c fw 0 21 ![0,0,0] inb_S3x2048x256_S1x2048x256_0_0_0) $$ [H20 H9]
  · intro k acc
    exact loop_trip c fw _ _ 0 21 k rfl (lt_of_lt_of_le k.isLt k0_t22_abs.2.1) _ _ (k0_off43_eq k) _ _ (k0_off44_eq k) k0_pay23 (pay_21) _ _ _ _ acc
  · unfold LI
    iexists _
    isplitl [H20]; · iexact H20
    isplitr
    · ipureintro
      exact slotIs_writes fw _ _ 0 21 rfl _ _ rfl _
    · iexists _
      isplitl [H9]; · iexact H9
      ipureintro
      exact hg20.next' (by decide)
  iintro %acc HI
  unfold LI
  icases HI with ⟨%fs21, H20, %hs21, %f9_21, H9, %hg21⟩
  sl_exec (disch := first | sl_exact k0_h1 | exact cond2_one i hi)
  obtain rfl := Good.full (hg21.next' (by decide))
  rw [show prefix_first.sl.v12 i = tileW i from rfl, show (prefix_first.sl.cst_16 : F .f32) = Scalar.ofBits .f32 0x45000000#32 from rfl]
  sl_step
  iapply Hk
  isplitl [H1]; · iexact H1
  isplitl [H2]; · iexact H2
  isplitl [H3]; · iexact H3
  isplitl [Hw]; · iexact Hw
  isplitl [H20]; · iexists _; iexact H20
  isplitl [H21]; · iexists _; iexact H21
  isplitl [H22]; · iexists _; iexact H22
  isplitl [H9]; · iexact H9
  isplitl [H12]; · iexists _; iexact H12
  isplitl [H13]; · iexists _; iexact H13
  isplitl [H14]; · iexists _; iexact H14
  isplitl [Hq0]; · iexact Hq0
  isplitl [Hq1]; · iexact Hq1
  isplitl [Hq2]; · iexact Hq2
  iexists _; iexact HW

set_option maxRecDepth 65536
set_option maxHeartbeats 4000000 in
theorem prefix_open (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (k0_h1 : ¬k0_cond1 i = 1#1) (hi : (i 0).val % 32 = 0) (fw : Buf (Elt F) (hbW.view.loc (c : Thread nD τ)))
    (f1 : Buf (Elt F) (arg1.view.loc (c : Thread nD τ))) (f2 : Buf (Elt F) (arg2.view.loc (c : Thread nD τ))) (f3 : Buf (Elt F) (arg3.view.loc (c : Thread nD τ)))
    (W : Waits sig Unit) (K : (Σ' (v0 : Vec F S1x2048 .f32) (v12 : BitVec 32) (v29 : Vec F S256x2048 .f32) (v32 : FVec F S256x1 .f32), F .f32) → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ owes (c : Thread nD τ) 0 W
      ∗ (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ (∃ W, owes (c : Thread nD τ) 0 W))
        -∗ K (proVal c i arg2 arg3 f2 f3)))
    ⊢ wp frame (wpE (defs₀ (F := F)) Variants.none c none) Set.univ
        (k0_part19_skel (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _)) K := by
  iintro ⟨H1, H2, H3, Hw, ⟨%g0, H20⟩, ⟨%g1, H21⟩, ⟨%g2, H22⟩, H9, ⟨%g12, H12⟩, ⟨%g13, H13⟩, ⟨%g14, H14⟩, Hq0, Hq1, Hq2, HW, Hk⟩
  unfold slPt
  unfold k0_part19_skel
  sl_exec (disch := first | sl_exact k0_h1 | exact cond2_one i hi)
  rw [show prefix_open.sl.v12 i = tileW i from rfl, show (prefix_open.sl.cst_16 : F .f32) = Scalar.ofBits .f32 0x45000000#32 from rfl]
  sl_step
  iapply Hk
  isplitl [H1]; · iexact H1
  isplitl [H2]; · iexact H2
  isplitl [H3]; · iexact H3
  isplitl [Hw]; · iexact Hw
  isplitl [H20]; · iexists _; iexact H20
  isplitl [H21]; · iexists _; iexact H21
  isplitl [H22]; · iexists _; iexact H22
  isplitl [H9]; · iexact H9
  isplitl [H12]; · iexists _; iexact H12
  isplitl [H13]; · iexists _; iexact H13
  isplitl [H14]; · iexists _; iexact H14
  isplitl [Hq0]; · iexact Hq0
  isplitl [Hq1]; · iexact Hq1
  isplitl [Hq2]; · iexact Hq2
  iexists _; iexact HW

set_option maxRecDepth 65536
set_option maxHeartbeats 4000000 in
theorem prefix_mid (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (k0_h1 : ¬k0_cond1 i = 1#1) (hi : ¬(i 0).val % 32 = 0) (fw : Buf (Elt F) (hbW.view.loc (c : Thread nD τ)))
    (f1 : Buf (Elt F) (arg1.view.loc (c : Thread nD τ))) (f2 : Buf (Elt F) (arg2.view.loc (c : Thread nD τ))) (f3 : Buf (Elt F) (arg3.view.loc (c : Thread nD τ)))
    (W : Waits sig Unit) (K : (Σ' (v0 : Vec F S1x2048 .f32) (v12 : BitVec 32) (v29 : Vec F S256x2048 .f32) (v32 : FVec F S256x1 .f32), F .f32) → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ owes (c : Thread nD τ) 0 W
      ∗ (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ (∃ W, owes (c : Thread nD τ) 0 W))
        -∗ K (proVal c i arg2 arg3 f2 f3)))
    ⊢ wp frame (wpE (defs₀ (F := F)) Variants.none c none) Set.univ
        (k0_part19_skel (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _)) K := by
  iintro ⟨H1, H2, H3, Hw, ⟨%g0, H20⟩, ⟨%g1, H21⟩, ⟨%g2, H22⟩, H9, ⟨%g12, H12⟩, ⟨%g13, H13⟩, ⟨%g14, H14⟩, Hq0, Hq1, Hq2, HW, Hk⟩
  unfold slPt
  unfold k0_part19_skel
  sl_exec (disch := first | sl_exact k0_h1 | exact cond2_zero i hi)
  rw [show prefix_mid.sl.v12 i = tileW i from rfl, show (prefix_mid.sl.cst_16 : F .f32) = Scalar.ofBits .f32 0x45000000#32 from rfl]
  sl_step
  iapply Hk
  isplitl [H1]; · iexact H1
  isplitl [H2]; · iexact H2
  isplitl [H3]; · iexact H3
  isplitl [Hw]; · iexact Hw
  isplitl [H20]; · iexists _; iexact H20
  isplitl [H21]; · iexists _; iexact H21
  isplitl [H22]; · iexists _; iexact H22
  isplitl [H9]; · iexact H9
  isplitl [H12]; · iexists _; iexact H12
  isplitl [H13]; · iexists _; iexact H13
  isplitl [H14]; · iexists _; iexact H14
  isplitl [Hq0]; · iexact Hq0
  isplitl [Hq1]; · iexact Hq1
  isplitl [Hq2]; · iexact Hq2
  iexists _; iexact HW

end Cert.Kernel2.Hand
-- ==== Proof.Run2.lean ====
module

public import proofs.«01_k».proof.Proof.Tail2

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ (Pipeline.UD sig nD τ) ℕ

set_option maxRecDepth 65536
set_option maxHeartbeats 8000000 in
noncomputable def tailRun (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (r : Pro F) (f2 : Buf (Elt F) (arg2.view.loc (c : Thread nD τ)))
    (f5 : Buf (Elt F) (arg5.view.loc (c : Thread nD τ))) (f6 : Buf (Elt F) (arg6.view.loc (c : Thread nD τ)))
    (f9 : Buf (Elt F) (scW.view.loc (c : Thread nD τ))) (f12 : Buf (Elt F) (sc12.view.loc (c : Thread nD τ)))
    (f13 : Buf (Elt F) (sc13.view.loc (c : Thread nD τ))) (f14 : Buf (Elt F) (sc14.view.loc (c : Thread nD τ))) :
    { L : List (View.Piece (Elt F) S512x5632 .bf16) × List (View.Piece (Elt F) S4x4x64x256 .bf16) × List (View.Piece (Elt F) S4x128x256 .f32) //
      ∀ (g7 : Buf (Elt F) (arg7.view.loc (c : Thread nD τ))) (g8 : Buf (Elt F) (arg8.view.loc (c : Thread nD τ))) (K : PUnit → sProp 𝕄),
    iprop((arg2.view.loc (c : Thread nD τ) ↦[arg2.view.set]{fullShare} f2)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} g7) ∗ (arg8.view.loc (c : Thread nD τ) ↦[arg8.view.set]{fullShare} g8)
      ∗ (scW.view.loc (c : Thread nD τ) ↦{fullShare} f9)
      ∗ (sc12.view.loc (c : Thread nD τ) ↦{fullShare} f12) ∗ (sc13.view.loc (c : Thread nD τ) ↦{fullShare} f13) ∗ (sc14.view.loc (c : Thread nD τ) ↦{fullShare} f14)
      ∗ (iprop((arg2.view.loc (c : Thread nD τ) ↦[arg2.view.set]{fullShare} f2)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} arg7.view.writes (Elt F) g7 L.1) ∗ (arg8.view.loc (c : Thread nD τ) ↦[arg8.view.set]{fullShare} arg8.view.writes (Elt F) g8 L.2.1)
      ∗ (scW.view.loc (c : Thread nD τ) ↦{fullShare} f9)
      ∗ (sc12.view.loc (c : Thread nD τ) ↦{fullShare} sc12.view.writes (Elt F) f12 L.2.2) ∗ (sc13.view.loc (c : Thread nD τ) ↦{fullShare} f13) ∗ (sc14.view.loc (c : Thread nD τ) ↦{fullShare} f14))
          -∗ K ⟨⟩))
       ⊢ wp frame (wpE (defs₀ (F := F)) Variants.none c none) Set.univ
        (tail (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _) r) K } := by
  refine ⟨⟨?_, ?_, ?_⟩, fun g7 g8 K => ?run⟩
  case run =>
  iintro ⟨H2, H5, H6, H7, H8, H9, H12, H13, H14, Hk⟩
  unfold tail
  sl_exec
  sl_step
  iapply Hk
  isplitl [H2]; · iexact H2
  isplitl [H5]; · iexact H5
  isplitl [H6]; · iexact H6
  isplitl [H7]; · iexact H7
  isplitl [H8]; · iexact H8
  isplitl [H9]; · iexact H9
  isplitl [H12]; · iexact H12
  isplitl [H13]; · iexact H13
  iexact H14

end Cert.Kernel2.Hand
-- ==== Proof.Body2.lean ====
module

public import proofs.«01_k».proof.Proof.Prefix2
public import proofs.«01_k».proof.Proof.Run2
public import Idealize.ShloMosaic.Lib.Ring
public import Idealize.ShloMosaic.Lib.Pipeline.TableIdle

/-!
  One grid step of the input projection: the prologue of the step, then the two halves of the row block, from the
  windows' blocks and the scratch buffers to the projected rows.
-/

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-! ## The staging buffer's three slots -/

theorem inb_slot (s : Fin 3) : ∀ a, (![s.val, 0, 0] : Fin 3 → ℕ) a + S1x2048x256.size a ≤ S3x2048x256.size a := by
  revert s; decide
abbrev slotSet (s : Fin 3) : Finset S3x2048x256.Idx := (Rect.unit (s := S3x2048x256) ![s.val, 0, 0] S1x2048x256.size (inb_slot s)).set
theorem slotM_set (s : Fin 3) : (slotM ![s.val, 0, 0] (inb_slot s)).view.set = slotSet s := by
  simp only [Memref.view_squeeze, View.set_reshape]; exact View.set_slice_whole _ _
theorem slots_disjoint (s s' : Fin 3) (h : s ≠ s') : Disjoint (slotSet s) (slotSet s') :=
  Ring.lead_disjoint (s := S3x2048x256) (0 : Fin 3) 1 (fun j : Fin 3 => (![j.val, 0, 0] : Fin 3 → Nat)) S1x2048x256.size inb_slot (fun j => by simp) rfl s s' h
theorem slots_cover : Finset.univ.biUnion slotSet = Finset.univ :=
  Ring.lead_cover (s := S3x2048x256) (0 : Fin 3) 1 (fun j : Fin 3 => (![j.val, 0, 0] : Fin 3 → Nat)) S1x2048x256.size inb_slot (fun j => by simp)
    (fun j a ha => by fin_cases a <;> first | exact absurd rfl ha | rfl) rfl (fun a ha => by fin_cases a <;> first | exact absurd rfl ha | rfl) rfl
theorem slPt_eq (c : Dev nD) (s : Fin 3) (f) :
    slPt (F := F) c (slotM ![s.val, 0, 0] (inb_slot s)) f = (scS.view.loc (c : Thread nD τ) ↦[slotSet s]{fullShare} f : sProp 𝕄) := by
  unfold slPt; rw [slotM_set]
theorem slots_in (c : Dev nD) :
    iprop(∃ f, scS.view.loc (c : Thread nD τ) ↦{fullShare} f) ⊢ (iprop((∃ f, slPt c slot0 f) ∗ (∃ f, slPt c slot1 f) ∗ ∃ f, slPt c slot2 f) : sProp 𝕄) :=
  Ring.slots3_split (ℓ := scS.view.loc (c : Thread nD τ)) (q := fullShare) slotSet slots_disjoint slots_cover
    (slPt c slot0) (slPt c slot1) (slPt c slot2) (slPt_eq c 0) (slPt_eq c 1) (slPt_eq c 2)
theorem slots_out (c : Dev nD) :
    (iprop((∃ f, slPt c slot0 f) ∗ (∃ f, slPt c slot1 f) ∗ ∃ f, slPt c slot2 f) : sProp 𝕄) ⊢ iprop(∃ f, scS.view.loc (c : Thread nD τ) ↦{fullShare} f) :=
  Ring.slots3_join (ℓ := scS.view.loc (c : Thread nD τ)) (q := fullShare) slotSet slots_disjoint slots_cover
    (slPt c slot0) (slPt c slot1) (slPt c slot2) (slPt_eq c 0) (slPt_eq c 1) (slPt_eq c 2)

/-! ## The step -/

/-- The prologue at any step, the weights resident from the second step on. -/
theorem prefix_any (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (fw : Buf (Elt F) (hbW.view.loc (c : Thread nD τ))) (f9 : Buf (Elt F) (scW.view.loc (c : Thread nD τ))) (h9 : (i 0).val ≠ 0 → f9 = WV (F := F) fw)
    (f1 : Buf (Elt F) (arg1.view.loc (c : Thread nD τ))) (f2 : Buf (Elt F) (arg2.view.loc (c : Thread nD τ))) (f3 : Buf (Elt F) (arg3.view.loc (c : Thread nD τ)))
    (W : Waits sig Unit) (K : (Σ' (v0 : Vec F S1x2048 .f32) (v12 : BitVec 32) (v29 : Vec F S256x2048 .f32) (v32 : FVec F S256x1 .f32), F .f32) → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} f9)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ owes (c : Thread nD τ) 0 W
      ∗ (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (hbW.view.loc (c : Thread nD τ) ↦{fullShare} fw) ∗ (∃ f, slPt c slot0 f) ∗ (∃ f, slPt c slot1 f) ∗ (∃ f, slPt c slot2 f)
      ∗ (scW.view.loc (c : Thread nD τ) ↦{fullShare} WV (F := F) fw)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0
      ∗ (∃ W, owes (c : Thread nD τ) 0 W))
        -∗ K (proVal c i arg2 arg3 f2 f3)))
    ⊢ wp frame (wpE (defs₀ (F := F)) Variants.none c none) Set.univ
        (k0_part19_skel (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _)) K := by
  iintro ⟨H1, H2, H3, Hw, S0, S1, S2, H9, H12, H13, H14, Hq0, Hq1, Hq2, HW, Hk⟩
  have hc := cond1_eq i
  by_cases h0 : (i 0).val = 0
  · rw [if_pos h0] at hc
    iapply (prefix_first c i arg1 harg1 arg2 harg2 arg3 harg3 arg5 harg5 arg6 harg6 arg7 harg7 arg8 harg8 hc fw f1 f2 f3 W K)
    isplitl [H1]; · iexact H1
    isplitl [H2]; · iexact H2
    isplitl [H3]; · iexact H3
    isplitl [Hw]; · iexact Hw
    isplitl [S0]; · iexact S0
    isplitl [S1]; · iexact S1
    isplitl [S2]; · iexact S2
    isplitl [H9]; · iexists _; iexact H9
    isplitl [H12]; · iexact H12
    isplitl [H13]; · iexact H13
    isplitl [H14]; · iexact H14
    isplitl [Hq0]; · iexact Hq0
    isplitl [Hq1]; · iexact Hq1
    isplitl [Hq2]; · iexact Hq2
    isplitl [HW]; · iexact HW
    iexact Hk
  · rw [if_neg h0] at hc
    have hn : ¬k0_cond1 i = 1#1 := by rw [hc]; decide
    obtain rfl := h9 h0
    by_cases h1 : (i 0).val % 32 = 0
    · iapply (prefix_open c i arg1 harg1 arg2 harg2 arg3 harg3 arg5 harg5 arg6 harg6 arg7 harg7 arg8 harg8 hn h1 fw f1 f2 f3 W K)
      isplitl [H1]; · iexact H1
      isplitl [H2]; · iexact H2
      isplitl [H3]; · iexact H3
      isplitl [Hw]; · iexact Hw
      isplitl [S0]; · iexact S0
      isplitl [S1]; · iexact S1
      isplitl [S2]; · iexact S2
      isplitl [H9]; · iexact H9
      isplitl [H12]; · iexact H12
      isplitl [H13]; · iexact H13
      isplitl [H14]; · iexact H14
      isplitl [Hq0]; · iexact Hq0
      isplitl [Hq1]; · iexact Hq1
      isplitl [Hq2]; · iexact Hq2
      isplitl [HW]; · iexact HW
      iexact Hk
    · iapply (prefix_mid c i arg1 harg1 arg2 harg2 arg3 harg3 arg5 harg5 arg6 harg6 arg7 harg7 arg8 harg8 hn h1 fw f1 f2 f3 W K)
      isplitl [H1]; · iexact H1
      isplitl [H2]; · iexact H2
      isplitl [H3]; · iexact H3
      isplitl [Hw]; · iexact Hw
      isplitl [S0]; · iexact S0
      isplitl [S1]; · iexact S1
      isplitl [S2]; · iexact S2
      isplitl [H9]; · iexact H9
      isplitl [H12]; · iexact H12
      isplitl [H13]; · iexact H13
      isplitl [H14]; · iexact H14
      isplitl [Hq0]; · iexact Hq0
      isplitl [Hq1]; · iexact Hq1
      isplitl [Hq2]; · iexact Hq2
      isplitl [HW]; · iexact HW
      iexact Hk

section
variable (c : Dev nD) (i : grid0.Coords) (arg1 : Memref sig .tc .smem S8 .f32) (harg1 : arg1.IsWhole)
    (arg2 : Memref sig .tc .vmem S512x2048 .f32) (harg2 : arg2.IsWhole) (arg3 : Memref sig .tc .vmem S1x2048 .f32) (harg3 : arg3.IsWhole)
    (arg5 : Memref sig .tc .vmem S3x256x128 .f32) (harg5 : arg5.IsWhole) (arg6 : Memref sig .tc .vmem S128x3x128 .f32) (harg6 : arg6.IsWhole)
    (arg7 : Memref sig .tc .vmem S512x5632 .bf16) (harg7 : arg7.IsWhole) (arg8 : Memref sig .tc .vmem S4x4x64x256 .bf16) (harg8 : arg8.IsWhole)
    (fw : Buf (Elt F) (hbW.view.loc (c : Thread nD τ)))
    (f1 : Buf (Elt F) (arg1.view.loc (c : Thread nD τ))) (f2 : Buf (Elt F) (arg2.view.loc (c : Thread nD τ))) (f3 : Buf (Elt F) (arg3.view.loc (c : Thread nD τ)))
    (f5 : Buf (Elt F) (arg5.view.loc (c : Thread nD τ))) (f6 : Buf (Elt F) (arg6.view.loc (c : Thread nD τ)))

/-- The row block's pieces, newest first: for each half, the 11 column blocks of 512. -/
def outP : List (View.Piece (Elt F) S512x5632 .bf16) :=
  tailRun.sl.H7_22 c i arg2 arg5 arg6 (proVal c i arg2 arg3 f2 f3) f2 f5 f6 (WV (F := F) fw)

set_option maxRecDepth 65536 in
theorem outP_cover (y : S512x5632.Idx) : ∃ pc ∈ outP c i arg2 arg3 arg5 arg6 fw f2 f3 f5 f6, y ∈ pc.1.set :=
  View.cover_of_tiledL (outP c i arg2 arg3 arg5 arg6 fw f2 f3 f5 f6) ![256, 512] (by sl_kernel_rfl) y

abbrev rest8 : sProp 𝕄 :=
  iprop((∃ f, scS.view.loc (c : Thread nD τ) ↦{fullShare} f)
      ∗ (∃ f, sc12.view.loc (c : Thread nD τ) ↦{fullShare} f) ∗ (∃ f, sc13.view.loc (c : Thread nD τ) ↦{fullShare} f) ∗ (∃ f, sc14.view.loc (c : Thread nD τ) ↦{fullShare} f)
      ∗ semVal ((c : Thread nD τ), SemLoc.dma 10) 0 ∗ semVal ((c : Thread nD τ), SemLoc.dma 11) 0 ∗ semVal ((c : Thread nD τ), SemLoc.dma 12) 0)

set_option maxHeartbeats 4000000 in
theorem bodyRun (f9 : Buf (Elt F) (scW.view.loc (c : Thread nD τ))) (h9 : (i 0).val ≠ 0 → f9 = WV (F := F) fw)
    (g7 : Buf (Elt F) (arg7.view.loc (c : Thread nD τ))) (g8 : Buf (Elt F) (arg8.view.loc (c : Thread nD τ)))
    (W : Waits sig Unit) (K : PUnit → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} g7) ∗ (arg8.view.loc (c : Thread nD τ) ↦[arg8.view.set]{fullShare} g8)
      ∗ (hbW.view.loc (c : Thread nD τ) ↦{fullShare} fw) ∗ (scW.view.loc (c : Thread nD τ) ↦{fullShare} f9)
      ∗ rest8 c ∗ owes (c : Thread nD τ) 0 W
      ∗ (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} arg7.view.writes (Elt F) g7 (outP c i arg2 arg3 arg5 arg6 fw f2 f3 f5 f6))
      ∗ (∃ f, arg8.view.loc (c : Thread nD τ) ↦[arg8.view.set]{fullShare} f)
      ∗ (hbW.view.loc (c : Thread nD τ) ↦{fullShare} fw) ∗ (scW.view.loc (c : Thread nD τ) ↦{fullShare} WV (F := F) fw)
      ∗ rest8 c ∗ (∃ W, owes (c : Thread nD τ) 0 W)) -∗ K ⟨⟩))
    ⊢ wp frame (wpE (defs₀ (F := F)) Variants.none c none) Set.univ
        (cc0_inproj (F := F) i arg1 harg1 arg2 harg2 arg3 harg3 hbW (Memref.isWhole_whole _) arg5 harg5 arg6 harg6 arg7 harg7 arg8 harg8
          scW (Memref.isWhole_whole _) scS (Memref.isWhole_whole _) cc0_scratch2 sc12 (Memref.isWhole_whole _) sc13 (Memref.isWhole_whole _) sc14 (Memref.isWhole_whole _)) K := by
  rw [cc0_inproj_eq_skeleton, skel_eq_tail, k0_part19_eq_skeleton, wp_bind]
  unfold rest8
  iintro ⟨H1, H2, H3, H5, H6, H7, H8, Hw, H9, ⟨HS, H12, H13, H14, Hq0, Hq1, Hq2⟩, HW, Hk⟩
  ihave HS' := (slots_in c) $$ HS
  icases HS' with ⟨S0, S1, S2⟩
  iapply (prefix_any c i arg1 harg1 arg2 harg2 arg3 harg3 arg5 harg5 arg6 harg6 arg7 harg7 arg8 harg8 fw f9 h9 f1 f2 f3 W _)
  isplitl [H1]; · iexact H1
  isplitl [H2]; · iexact H2
  isplitl [H3]; · iexact H3
  isplitl [Hw]; · iexact Hw
  isplitl [S0]; · iexact S0
  isplitl [S1]; · iexact S1
  isplitl [S2]; · iexact S2
  isplitl [H9]; · iexact H9
  isplitl [H12]; · iexact H12
  isplitl [H13]; · iexact H13
  isplitl [H14]; · iexact H14
  isplitl [Hq0]; · iexact Hq0
  isplitl [Hq1]; · iexact Hq1
  isplitl [Hq2]; · iexact Hq2
  isplitl [HW]; · iexact HW
  iintro ⟨H1, H2, H3, Hw, S0, S1, S2, H9, ⟨%g12, H12⟩, ⟨%g13, H13⟩, ⟨%g14, H14⟩, Hq0, Hq1, Hq2, HW⟩
  iapply ((tailRun c i arg1 harg1 arg2 harg2 arg3 harg3 arg5 harg5 arg6 harg6 arg7 harg7 arg8 harg8 (proVal c i arg2 arg3 f2 f3) f2 f5 f6 (WV (F := F) fw) g12 g13 g14).2 g7 g8 K)
  isplitl [H2]; · iexact H2
  isplitl [H5]; · iexact H5
  isplitl [H6]; · iexact H6
  isplitl [H7]; · iexact H7
  isplitl [H8]; · iexact H8
  isplitl [H9]; · iexact H9
  isplitl [H12]; · iexact H12
  isplitl [H13]; · iexact H13
  isplitl [H14]; · iexact H14
  iintro ⟨H2, H5, H6, H7, H8, H9, H12, H13, H14⟩
  iapply Hk
  isplitl [H1]; · iexact H1
  isplitl [H2]; · iexact H2
  isplitl [H3]; · iexact H3
  isplitl [H5]; · iexact H5
  isplitl [H6]; · iexact H6
  isplitl [H7]; · iexact H7
  isplitl [H8]; · iexists _; iexact H8
  isplitl [Hw]; · iexact Hw
  isplitl [H9]; · iexact H9
  isplitr [HW]
  · isplitl [S0 S1 S2]
    · iapply (slots_out c)
      isplitl [S0]; · iexact S0
      isplitl [S1]; · iexact S1
      iexact S2
    isplitl [H12]; · iexists _; iexact H12
    isplitl [H13]; · iexists _; iexact H13
    isplitl [H14]; · iexists _; iexact H14
    isplitl [Hq0]; · iexact Hq0
    isplitl [Hq1]; · iexact Hq1
    iexact Hq2
  iexact HW
end

end Cert.Kernel2.Hand
-- ==== Proof.Frame2.lean ====
module

public import proofs.«01_k».proof.Proof.Body2
public import proofs.«01_k».proof.Proof.Gen.Kernel2.Frame
public import Idealize.ShloMosaic.Lib.Pipeline.Frame

/-!
  The input projection's launch: the proof data — the projected rows' window at what the step's pieces read back to, the
  other result's window unnamed —, the invariant (the weights resident and scaled from the second step on), and the run.
-/

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores, the weights left in HBM, the scratch buffers -/

abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbW.view.loc (c : Thread nD τ) ↦{fullShare} V m c main_arg2) := by
  rw [BI.bigSep_eq_bigSepL_of_eq [main_arg2] (by decide) (by decide)]; rfl

theorem PhiD0_eq (c : Dev nD) :
    (Pipeline.ΦD osem0 spec0 H0 (V m) c : sProp 𝕄)
      = iprop(iprop((∃ f, scW.view.loc (c : Thread nD τ) ↦{fullShare} f) ∗ (∃ f, scS.view.loc (c : Thread nD τ) ↦{fullShare} f)
            ∗ (∃ f, sc12.view.loc (c : Thread nD τ) ↦{fullShare} f) ∗ (∃ f, sc13.view.loc (c : Thread nD τ) ↦{fullShare} f)
            ∗ (∃ f, sc14.view.loc (c : Thread nD τ) ↦{fullShare} f)) ∗ (∃ r, prngReg c r)
          ∗ iprop(semVal ((c : Thread nD τ), SemLoc.dma 10) 0 ∗ semVal ((c : Thread nD τ), SemLoc.dma 11) 0 ∗ semVal ((c : Thread nD τ), SemLoc.dma 12) 0)
          ∗ iprop(hbW.view.loc (c : Thread nD τ) ↦{fullShare} V m c main_arg2)) := by
  rw [Pipeline.ΦD_eq, scopedRest0_eq, ownSems00_eq, hbmPts0_eq]; try rfl

/-- Between steps: the scratch buffers at some contents, the resident weights those of the launch from the second step on. -/
def Inv (c : Dev nD) (t : Fin (cfg0.N + 1)) : sProp 𝕄 :=
  iprop((∃ f9, (scW.view.loc (c : Thread nD τ) ↦{fullShare} f9) ∗ ⌜t.val ≠ 0 → f9 = WV (F := F) (V m c main_arg2)⌝)
    ∗ rest8 c ∗ (∃ r, prngReg c r) ∗ (hbW.view.loc (c : Thread nD τ) ↦{fullShare} V m c main_arg2))

theorem Inv_in (c : Dev nD) : (Pipeline.ΦD osem0 spec0 H0 (V m) c : sProp 𝕄) ⊢ Inv m c 0 := by
  rw [PhiD0_eq]; unfold Inv rest8
  iintro ⟨⟨⟨%f9, H9⟩, HS, H12, H13, H14⟩, Hg, ⟨Hq0, Hq1, Hq2⟩, Hw⟩
  isplitl [H9]
  · iexists f9; isplitl [H9]; · iexact H9
    ipureintro; exact fun h => absurd rfl h
  isplitr [Hg Hw]
  · isplitl [HS]; · iexact HS
    isplitl [H12]; · iexact H12
    isplitl [H13]; · iexact H13
    isplitl [H14]; · iexact H14
    isplitl [Hq0]; · iexact Hq0
    isplitl [Hq1]; · iexact Hq1
    iexact Hq2
  isplitl [Hg]; · iexact Hg
  iexact Hw

theorem Inv_out (c : Dev nD) (t : Fin (cfg0.N + 1)) : Inv m c t ⊢ (Pipeline.ΦD osem0 spec0 H0 (V m) c : sProp 𝕄) := by
  rw [PhiD0_eq]; unfold Inv rest8
  iintro ⟨⟨%f9, H9, -⟩, ⟨HS, H12, H13, H14, Hq0, Hq1, Hq2⟩, Hg, Hw⟩
  isplitl [H9 HS H12 H13 H14]
  · isplitl [H9]; · iexists f9; iexact H9
    isplitl [HS]; · iexact HS
    isplitl [H12]; · iexact H12
    isplitl [H13]; · iexact H13
    iexact H14
  isplitl [Hg]; · iexact Hg
  isplitl [Hq0 Hq1 Hq2]
  · isplitl [Hq0]; · iexact Hq0
    isplitl [Hq1]; · iexact Hq1
    iexact Hq2
  iexact Hw

/-! ## The proof data -/

/-- The buffer the row block's contents are stated through. -/
abbrev VO5 : View sig .tc .vmem S512x5632 .bf16 := (Memref.whole cc0_stg5_0 : Memref sig .tc .vmem S512x5632 .bf16).view

/-- What the step leaves in the row block. -/
def out5 (c : Dev nD) (t : Fin cfg0.N) : Vec F S512x5632 .bf16 :=
  VO5.read (Elt F) (VO5.writes (Elt F) VO5.junk (outP c (grid0.coords t) (st0_1 t) (st0_2 t) (st0_3 t) (st0_4 t) (V m c main_arg2) ((st0_1 t).view.rep (iblk m c 1 t)) ((st0_2 t).view.rep (iblk m c 2 t)) ((st0_3 t).view.rep (iblk m c 3 t)) ((st0_4 t).view.rep (iblk m c 4 t))))

/-- The window of the other result, forgotten. -/
def forgets0 : Fin 7 → Bool := fun w => w = 6

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => Pipeline.Dat.unnamed (cfg := cfg0) 6 t
  Φ t := Inv m c t
  q _ := fullShare
  owed _ := 0

theorem A_eq (c : Dev nD) (w : Fin cfg0.W) : (dats m 0 c).A w = V m c (Pipeline.arrRef spec0 w) := by dsimp only [dats]
theorem after_5 (c : Dev nD) (t : Fin cfg0.N) : (dats m 0 c).after 5 t = out5 m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem coords_val (t : Fin cfg0.N) : ((grid0.coords t) 0).val = t.val := by
  revert t; decide

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [fun d => before_0 m (dats m 0 c) (A_eq m c 0) (fun t => by dsimp only [dats]) t d, fun d => before_1 m (dats m 0 c) (A_eq m c 1) (fun t => by dsimp only [dats]) t d,
    fun d => before_2 m (dats m 0 c) (A_eq m c 2) (fun t => by dsimp only [dats]) t d, fun d => before_3 m (dats m 0 c) (A_eq m c 3) (fun t => by dsimp only [dats]) t d,
    fun d => before_4 m (dats m 0 c) (A_eq m c 4) (fun t => by dsimp only [dats]) t d]
  rw [after_5, show (dats m 0 c).after 0 t = iblk m c 0 t from by dsimp only [dats], show (dats m 0 c).after 1 t = iblk m c 1 t from by dsimp only [dats],
    show (dats m 0 c).after 2 t = iblk m c 2 t from by dsimp only [dats], show (dats m 0 c).after 3 t = iblk m c 3 t from by dsimp only [dats],
    show (dats m 0 c).after 4 t = iblk m c 4 t from by dsimp only [dats],
    show (dats m 0 c).Φ t.castSucc = Inv m c t.castSucc from rfl, show (dats m 0 c).Φ t.succ = Inv m c t.succ from rfl]
  unfold Dat.owesAt Pipeline.owesWithin
  rw [show (dats m 0 c).owed t.castSucc = 0 from rfl, show (dats m 0 c).owed t.succ = 0 from rfl]
  unfold Inv
  iintro ⟨⟨⟨%f9, H9, %h9⟩, HR, Hg, Hw⟩, ⟨%W, -, HW⟩, ⟨%d0, H0⟩, ⟨%d1, H1⟩, ⟨%d2, H2⟩, ⟨%d3, H3⟩, ⟨%d4, H4⟩, ⟨%d5, H5⟩, ⟨%d6, H6⟩⟩
  ihave G0 := (Entails.of_eq (owns_eq_rep _ _ _ _)) $$ H0
  ihave G1 := (Entails.of_eq (owns_eq_rep _ _ _ _)) $$ H1
  ihave G2 := (Entails.of_eq (owns_eq_rep _ _ _ _)) $$ H2
  ihave G3 := (Entails.of_eq (owns_eq_rep _ _ _ _)) $$ H3
  ihave G4 := (Entails.of_eq (owns_eq_rep _ _ _ _)) $$ H4
  ihave G5 := (Entails.of_eq (owns_eq_rep _ _ _ _)) $$ H5
  ihave G6 := (Entails.of_eq (owns_eq_rep _ _ _ _)) $$ H6
  iapply (bodyRun c (grid0.coords t) (st0_0 t) _ (st0_1 t) _ (st0_2 t) _ (st0_3 t) _ (st0_4 t) _ (st0_5 t) _ (st0_6 t) _ (V m c main_arg2) _ _ _ _ _ f9
    (fun h => h9 (by rw [coords_val] at h; exact h)) _ _ W _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [Hw]; · iexact Hw
  isplitl [H9]; · iexact H9
  isplitl [HR]; · iexact HR
  isplitl [HW]; · iexact HW
  iintro ⟨G0, G1, G2, G3, G4, G5, ⟨%f6, G6⟩, Hw, H9, HR, ⟨%W', HW⟩⟩
  isplitl [Hw H9 HR Hg]
  · isplitl [H9]
    · iexists _; isplitl [H9]; · iexact H9
      ipureintro; exact fun _ => rfl
    isplitl [HR]; · iexact HR
    isplitl [Hg]; · iexact Hg
    iexact Hw
  isplitl [HW]
  · iexists W'; isplitr; · ipureintro; exact fun _ _ => Or.inl trivial
    iexact HW
  isplitl [G0]; · iapply (owns_of_rep _ _ _ _); iexact G0
  isplitl [G1]; · iapply (owns_of_rep _ _ _ _); iexact G1
  isplitl [G2]; · iapply (owns_of_rep _ _ _ _); iexact G2
  isplitl [G3]; · iapply (owns_of_rep _ _ _ _); iexact G3
  isplitl [G4]; · iapply (owns_of_rep _ _ _ _); iexact G4
  isplitl [G5]
  · unfold owns; iexists _; isplitr
    swap; · iexact G5
    ipureintro; exact View.read_writes_of_cover _ _ _ _ _ (outP_cover _ _ _ _ _ _ _ _ _ _ _)
  unfold owns; iexists _, _; isplitr
  swap; · iexact G6
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => Inv_in m c) (hout := fun c => Inv_out m c _)

/-- A final state's array of a window kept: its contents after the last step. -/
theorem final_of {r : PUnit × MemSt nD τ sig (Elt F)} (h : Pipeline.RDat.FramePost (cfgs 0) (fun c => (dats m 0 c).toRForget forgets0) (V m) r)
    (c : Dev nD) (w : Fin 7) (hw : forgets0 w = false) :
    r.2.mem ((cfg0.spec w).arr.view.loc (c.tc : Thread nD τ)) = (dats m 0 c).arrAt w cfg0.N :=
  ((dats m 0 c).toRForget_arrAt_iff hw _ _).mp ((h c).1 w)

theorem args_of {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(final_of m h c 1 rfl).trans (((dats m 0 c).arrAt_in 1 rfl _).trans (A_eq m c 1)),
   (final_of m h c 2 rfl).trans (((dats m 0 c).arrAt_in 2 rfl _).trans (A_eq m c 2)),
   (h c).2 main_arg2 (Pipeline.mem_restRefs_of main_arg2 (by decide) (by decide)),
   (final_of m h c 3 rfl).trans (((dats m 0 c).arrAt_in 3 rfl _).trans (A_eq m c 3)),
   (final_of m h c 4 rfl).trans (((dats m 0 c).arrAt_in 4 rfl _).trans (A_eq m c 4)),
   (final_of m h c 0 rfl).trans (((dats m 0 c).arrAt_in 0 rfl _).trans (A_eq m c 0))⟩

end Cert.Kernel2.Hand
-- ==== Proof.Ideal2.lean ====
module

public import proofs.«01_k».proof.Proof.Gen.Kernel2
public import proofs.«01_k».proof.Proof.Frame2
public import proofs.«01_k».proof.Proof.Gen.Kernel2Ideal

/-!
  The input projection read at the extended reals is the same program: its run is the run of the program as written.
-/

@[expose] public section

noncomputable section
namespace Cert.Kernel2Ideal.Hand
open Idealize.ShloMosaic Idealize.ShloMosaic.TcCoe Idealize.SL.Sem
variable {F : FTy → Type} [FloatOps F]
section
attribute [local instance] Cert.Kernel2.Gen.facts Cert.Kernel2Ideal.Gen.facts
theorem cfgs_eq : @Cert.Kernel2Ideal.cfgs _ = @Cert.Kernel2.cfgs _ := rfl
theorem body_eq : @Cert.Kernel2Ideal.cc0_inproj F _ _ = @Cert.Kernel2.cc0_inproj F _ _ := rfl
theorem defs₀_eq : @Cert.Kernel2Ideal.defs₀ F _ _ = @Cert.Kernel2.defs₀ F _ _ := by
  unfold Cert.Kernel2Ideal.defs₀ Cert.Kernel2.defs₀
  refine congrArg Defs.onTc (funext fun l => funext fun a => ?_)
  match l, a with
  | 0, (t, s) => first | rfl | exact congrFun (congrFun (congrFun (congrFun (congrFun (congrFun (congrFun (congrFun (congrFun (congrFun body_eq _) _) _) _) _) _) _) _) _) _
theorem defs_eq : @Cert.Kernel2Ideal.defs F _ _ = @Cert.Kernel2.defs F _ _ := by
  unfold Cert.Kernel2Ideal.defs Cert.Kernel2.defs; rw [defs₀_eq]; rfl
theorem main_eq : (fun c => Cert.Kernel2Ideal.main (F := F) c) = fun c => Cert.Kernel2.main (F := F) c := rfl

theorem run_ideal (m : (ℓ : Loc Cert.Kernel2Ideal.nD Cert.Kernel2Ideal.τ Cert.Kernel2Ideal.sig) → Buf (Elt F) ℓ) (g : Dev Cert.Kernel2Ideal.nD → PrngReg) :
    θ_run (Cert.Kernel2Ideal.defs (F := F)) (onTc (τ := Cert.Kernel2Ideal.τ) (Cert.Kernel2Ideal.main (F := F))) ⟨m, fun _ => 0, g⟩ (fun r =>
      Pipeline.RDat.FramePost (Cert.Kernel2.cfgs 0) (fun c => (Cert.Kernel2.Hand.dats m 0 c).toRForget Cert.Kernel2.Hand.forgets0) (Cert.Kernel2.Gen.V m) r ∧ r.2.sem = fun _ => 0) :=
  (congrArg (fun D : Defs Cert.Kernel2.nD Cert.Kernel2.τ Cert.Kernel2.sig (Elt F) (Pipeline.Sig Cert.Kernel2.Λ₀ (Fin 1) fun p => (Cert.Kernel2.pcfgs (F := F) p).Adm) =>
    θ_run D (onTc (τ := Cert.Kernel2.τ) (Cert.Kernel2.main (F := F))) ⟨m, fun _ => 0, g⟩ (fun r =>
      Pipeline.RDat.FramePost (Cert.Kernel2.cfgs 0) (fun c => (Cert.Kernel2.Hand.dats m 0 c).toRForget Cert.Kernel2.Hand.forgets0) (Cert.Kernel2.Gen.V m) r ∧ r.2.sem = fun _ => 0)) defs_eq).mpr
    (Cert.Kernel2.Hand.run_main (F := F) m g)

end
end Cert.Kernel2Ideal.Hand
end
-- ==== Proof.Spec2.lean ====
module

public import proofs.«01_k».proof.Kernel2
public import Idealize.ShloMosaic.Lib.Pointwise
public import Idealize.ShloMosaic.Lib.IdealHost

/-!
  The input projection at the extended reals, element by element, as formulas of the five arguments it depends on: the
  rows `X`, the norm weights `N`, the weights `W`, and the two rotary tables `R` (256 rows) and `B` (128 bases).
-/

@[expose] public section

noncomputable section
namespace Cert.Kernel2.Hand
open Idealize.ShloMosaic

/-! ## Scaling by a positive constant -/

/-- A sum of products whose second factors all carry a nonnegative finite factor. -/
theorem sum_scaled {ι : Type} (s : Finset ι) (a b : ι → EReal) (c : EReal) (h0 : 0 ≤ c) (ht : c ≠ ⊤) :
    ∑ k ∈ s, a k * (b k * c) = (∑ k ∈ s, a k * b k) * c := by
  classical
  induction s using Finset.induction_on with
  | empty => simp
  | insert x s hx ih => rw [Finset.sum_insert hx, Finset.sum_insert hx, ih, EReal.right_distrib_of_nonneg_of_ne_top h0 ht, mul_assoc]

theorem ofBits_query : ∃ q : ℝ, 0 ≤ q ∧ Ideal.ofBits .f32 0x3E38AA3B#32 = (q : EReal) := by
  refine ⟨12102203 * 2 ^ (-26 : ℤ), by positivity, ?_⟩
  simp [Ideal.ofBits, Ideal.ieee, -EReal.coe_mul]

theorem ofBits_key : ∃ q : ℝ, 0 ≤ q ∧ Ideal.ofBits .f32 0x3E000000#32 = (q : EReal) := by
  refine ⟨8388608 * 2 ^ (-26 : ℤ), by positivity, ?_⟩
  simp [Ideal.ofBits, Ideal.ieee, -EReal.coe_mul]

theorem exp_nonneg (x : EReal) : 0 ≤ Ideal.exp x := by
  induction x with
  | bot => exact le_refl _
  | top => exact (le_top : (0 : EReal) ≤ ⊤)
  | coe r => exact EReal.coe_nonneg.mpr (Real.exp_pos r).le

/-! ## The formulas -/

variable (X : Vec Ideal S32768x2048 .f32) (N : Vec Ideal S1x2048 .f32) (W : Vec Ideal S2048x5632 .f32)
  (R : Vec Ideal S3x256x128 .f32) (B : Vec Ideal S128x3x128 .f32)

/-- Feature `k` of the normalised row `r`. -/
def nrmAt (r : Fin 32768) (k : Fin 2048) : EReal :=
  X (ix2 r k) * Ideal.rsqrt (Ideal.div (∑ k' : Fin 2048, X (ix2 r k') * X (ix2 r k')) (Ideal.ofBits .f32 0x45000000#32)
    + Ideal.ofBits .f32 0x358637BD#32) * N (ix2 0 k)

/-- The projection of row `r` to column `j`. -/
def dotAt (r : Fin 32768) (j : Fin 5632) : EReal := ∑ k : Fin 2048, nrmAt X N r k * W (ix2 k j)

/-- The base of the rotation of row `r`: every second entry of the base table, one for 256 positions of a sequence. -/
def baseOf (r : Fin 32768) : Fin 128 := ⟨2 * (r.val % 16384 / 256), by omega⟩

/-- The row of the rotation of row `r`: its place among 256. -/
def turnOf (r : Fin 32768) : Fin 256 := ⟨r.val % 256, by omega⟩

def cosAt (r : Fin 32768) (l : Fin 128) : EReal :=
  R (ix3 0 (turnOf r) l) * B (ix3 (baseOf r) 0 l) - R (ix3 1 (turnOf r) l) * B (ix3 (baseOf r) 1 l)

def sinAt (r : Fin 32768) (l : Fin 128) : EReal :=
  R (ix3 2 (turnOf r) l) * B (ix3 (baseOf r) 0 l) + R (ix3 0 (turnOf r) l) * B (ix3 (baseOf r) 2 l)

/-- The other column of a rotated pair. -/
def mate (j : Fin 5632) : Fin 5632 := if h : j.val % 2 = 0 then ⟨j.val + 1, by omega⟩ else ⟨j.val - 1, by omega⟩

def rotAt (r : Fin 32768) (j : Fin 5632) : EReal :=
  dotAt X N W r j * cosAt R B r ⟨j.val % 128, by omega⟩ + dotAt X N W r (mate j) * sinAt R B r ⟨j.val % 128, by omega⟩

def siluOf (s : EReal) : EReal := s * Ideal.div 1 (1 + Ideal.exp (-s))

/-- The projected row `r` at column `j`. -/
def projAt (r : Fin 32768) (j : Fin 5632) : EReal :=
  if j.val < 1024 then dotAt X N W r j * Ideal.ofBits .f32 0x3E38AA3B#32
  else if j.val < 1536 then dotAt X N W r j
  else if j.val < 2560 then siluOf (dotAt X N W r j)
  else if j.val < 3072 then rotAt X N W R B r j
  else if j.val < 3584 then rotAt X N W R B r j * Ideal.ofBits .f32 0x3E000000#32
  else if j.val < 4608 then dotAt X N W r j
  else siluOf (dotAt X N W r j)

/-- The quotient of a silu is the product with the reciprocal: the denominator is at least one. -/
theorem silu_eq (s : EReal) : Ideal.div s (1 + Ideal.exp (0 - s)) = siluOf s := by
  have h : (1 + Ideal.exp (-s)) ≠ 0 := by
    have := add_le_add (le_refl (1 : EReal)) (exp_nonneg (-s))
    rw [add_zero] at this
    exact (lt_of_lt_of_le zero_lt_one this).ne'
  unfold siluOf Ideal.div
  rw [zero_sub, if_neg h, if_neg h, one_mul]

end Cert.Kernel2.Hand
end
-- ==== Proof.Block2.lean ====
module

public import proofs.«01_k».proof.Proof.Body2
public import proofs.«01_k».proof.Proof.Spec2

/-!
  What one half of a row block's pieces hold at the extended reals, read at an element: the normalised rows, and each
  kind of column block as the formula of the projection.
-/

@[expose] public section

set_option maxRecDepth 65536
noncomputable section
namespace Cert.Kernel2.Hand
open Cert.Kernel2.Gen Idealize.ShloMosaic

attribute [local instance] Cert.Kernel2.Gen.facts

/-- The parity mask of the lanes. -/
theorem even_apply (r : Fin 256) (l : Fin 128) :
    k0_pay64 2#32 k0_pay61 k0_pay62 k0_pay63 (ix2 r l) = if l.val % 2 = 0 then 1#1 else 0#1 := by
  pointwise [k0_pay64, k0_pay61, k0_pay62, k0_pay63]
  revert l; decide +kernel

theorem even_apply' (r : Fin 256) (l : Fin 128) :
    k0_pay89 2#32 k0_pay85 k0_pay86 k0_pay87 k0_pay88 (ix2 r l) = if l.val % 2 = 0 then 1#1 else 0#1 := by
  pointwise [k0_pay89, k0_pay85, k0_pay86, k0_pay87, k0_pay88]
  revert l; decide +kernel

theorem pcol_ideal (j : ℕ) (a : Ideal .f32) : pcol (F := Ideal) j a =
    if j < 1024 then a * Ideal.ofBits .f32 0x3E38AA3B#32
    else if 3072 ≤ j ∧ j < 3584 then a * Ideal.ofBits .f32 0x3E000000#32 else a := rfl

/-- The other column of a pair within a block of 512. -/
def mate512 (l : Fin 512) : Fin 512 := if h : l.val % 2 = 0 then ⟨l.val + 1, by omega⟩ else ⟨l.val - 1, by omega⟩

/-- A column of a block of 512 within the projection. -/
theorem col_lt {b : ℕ} (hb : b + 512 ≤ 5632) (l : Fin 512) : b + l.val < 5632 := by omega

section
variable (X : Vec Ideal S32768x2048 .f32) (N : Vec Ideal S1x2048 .f32) (W : Vec Ideal S2048x5632 .f32)
  (R : Vec Ideal S3x256x128 .f32) (B : Vec Ideal S128x3x128 .f32)
  (n : Vec Ideal S1x2048 .f32) (x : Vec Ideal S256x2048 .f32) (row : Fin 256 → Fin 32768)

/-- The normalised rows of a half. -/
theorem nrm_apply (hn : ∀ k : Fin 2048, n (ix2 0 k) = N (ix2 0 k)) (hx : ∀ (r : Fin 256) (k : Fin 2048), x (ix2 r k) = X (ix2 (row r) k))
    (r : Fin 256) (k : Fin 2048) :
    k0_pay79 (F := Ideal) n x (k0_pay77 x) k0_pay78 (ix2 r k) = nrmAt X N (row r) k := by
  pointwise [k0_pay79, k0_pay77, k0_pay78]
  simp only [hn, hx]
  rfl

variable (h : FVec Ideal S256x2048 .bf16) (hh : ∀ (r : Fin 256) (k : Fin 2048), h (ix2 r k) = nrmAt X N (row r) k)
  (b : ℕ) (hb : b + 512 ≤ 5632) (w : Vec Ideal S2048x512 .bf16)
  (hw : ∀ (k : Fin 2048) (l : Fin 512), w (ix2 k l) = pcol (F := Ideal) (b + l.val) (W (ix2 k ⟨b + l.val, col_lt hb l⟩)))

include hh hw in
theorem dot_plain (hk : 1024 ≤ b ∧ b + 512 ≤ 3072 ∨ 3584 ≤ b) (r : Fin 256) (l : Fin 512) :
    ∑ k : Fin 2048, h (ix2 r k) * w (ix2 k l) = dotAt X N W (row r) ⟨b + l.val, by omega⟩ := by
  refine Finset.sum_congr rfl fun k _ => ?_
  rw [hh, hw, pcol_ideal, if_neg (by omega), if_neg (by omega)]

include hh hw in
theorem dot_query (hk : b + 512 ≤ 1024) (r : Fin 256) (l : Fin 512) :
    ∑ k : Fin 2048, h (ix2 r k) * w (ix2 k l) = dotAt X N W (row r) ⟨b + l.val, by omega⟩ * Ideal.ofBits .f32 0x3E38AA3B#32 := by
  obtain ⟨q, h0, hq⟩ := ofBits_query
  unfold dotAt
  rw [← sum_scaled _ _ _ _ (by rw [hq]; exact EReal.coe_nonneg.mpr h0) (by rw [hq]; exact EReal.coe_ne_top q)]
  refine Finset.sum_congr rfl fun k _ => ?_
  rw [hh, hw, pcol_ideal, if_pos (by omega)]

include hh hw in
theorem dot_key (hk : b = 3072) (r : Fin 256) (l : Fin 512) :
    ∑ k : Fin 2048, h (ix2 r k) * w (ix2 k l) = dotAt X N W (row r) ⟨b + l.val, by omega⟩ * Ideal.ofBits .f32 0x3E000000#32 := by
  obtain ⟨q, h0, hq⟩ := ofBits_key
  unfold dotAt
  rw [← sum_scaled _ _ _ _ (by rw [hq]; exact EReal.coe_nonneg.mpr h0) (by rw [hq]; exact EReal.coe_ne_top q)]
  refine Finset.sum_congr rfl fun k _ => ?_
  rw [hh, hw, pcol_ideal, if_neg (by omega), if_pos (by omega)]

include hh hw in
/-- A column block stored as projected. -/
theorem plain_piece (hk : b + 512 ≤ 1024 ∨ b = 1024 ∨ 3584 ≤ b ∧ b + 512 ≤ 4608) (r : Fin 256) (l : Fin 512) :
    k0_pay65 (F := Ideal) h w (ix2 r l) = projAt X N W R B (row r) ⟨b + l.val, by omega⟩ := by
  pointwise [k0_pay65]
  unfold projAt
  rcases hk with hk | hk | hk
  · rw [dot_query X N W row h hh b hb w hw hk, if_pos (show b + l.val < 1024 by omega)]
  · rw [dot_plain X N W row h hh b hb w hw (by omega), if_neg (show ¬b + l.val < 1024 by omega), if_pos (show b + l.val < 1536 by omega)]
  · rw [dot_plain X N W row h hh b hb w hw (by omega), if_neg (show ¬b + l.val < 1024 by omega), if_neg (show ¬b + l.val < 1536 by omega),
      if_neg (show ¬b + l.val < 2560 by omega), if_neg (show ¬b + l.val < 3072 by omega), if_neg (show ¬b + l.val < 3584 by omega),
      if_pos (show b + l.val < 4608 by omega)]

include hh hw in
/-- A column block stored through silu. -/
theorem silu_piece (hk : 1536 ≤ b ∧ b + 512 ≤ 2560 ∨ 4608 ≤ b) (r : Fin 256) (l : Fin 512) :
    k0_pay76 (F := Ideal) h w (ix2 r l) = projAt X N W R B (row r) ⟨b + l.val, by omega⟩ := by
  pointwise [k0_pay76]
  rw [dot_plain X N W row h hh b hb w hw (by omega), silu_eq]
  unfold projAt
  rcases hk with hk | hk
  · rw [if_neg (show ¬b + l.val < 1024 by omega), if_neg (show ¬b + l.val < 1536 by omega), if_pos (show b + l.val < 2560 by omega)]
  · rw [if_neg (show ¬b + l.val < 1024 by omega), if_neg (show ¬b + l.val < 1536 by omega),
      if_neg (show ¬b + l.val < 2560 by omega), if_neg (show ¬b + l.val < 3072 by omega), if_neg (show ¬b + l.val < 3584 by omega),
      if_neg (show ¬b + l.val < 4608 by omega)]

/-- The rotation of a block of 512 columns, for any sums `D`. -/
theorem rot_apply (c s : FVec Ideal S256x128 .f32) (e : IVec S256x128 1) (he : ∀ (r : Fin 256) (l : Fin 128), e (ix2 r l) = if l.val % 2 = 0 then 1#1 else 0#1)
    (D : Fin 512 → EReal) (r : Fin 256) (hD : ∀ l : Fin 512, ∑ k : Fin 2048, h (ix2 r k) * w (ix2 k l) = D l) (l : Fin 512) :
    k0_pay96 (F := Ideal) h c s e w (ix2 r l) = D l * c (ix2 r ⟨l.val % 128, by omega⟩) + D (mate512 l) * s (ix2 r ⟨l.val % 128, by omega⟩) := by
  pointwise [k0_pay96]
  simp only [hD, he]
  have hm : ∀ (a p q : Fin 512) (u : Fin 128), a.val = l.val → u.val = l.val % 128 → (l.val % 2 = 0 → p.val = l.val + 1) →
      (l.val % 2 ≠ 0 → q.val + 1 = l.val) →
      D a * c (ix2 r u) + Scalar.select (if u.val % 2 = 0 then 1#1 else 0#1) (D p) (D q) * s (ix2 r u)
        = D l * c (ix2 r ⟨l.val % 128, by omega⟩) + D (mate512 l) * s (ix2 r ⟨l.val % 128, by omega⟩) := by
    intro a p q u ha hu hp hq
    obtain rfl : a = l := Fin.ext ha
    have hu' : (⟨a.val % 128, by omega⟩ : Fin 128) = u := Fin.ext hu.symm
    rw [hu']
    have hs : Scalar.select (if u.val % 2 = 0 then 1#1 else 0#1) (D p) (D q) = D (mate512 a) := by
      unfold mate512
      by_cases h0 : a.val % 2 = 0
      · rw [if_pos (show u.val % 2 = 0 by omega), dif_pos h0, show p = ⟨a.val + 1, by omega⟩ from Fin.ext (hp h0)]; rfl
      · rw [if_neg (show ¬u.val % 2 = 0 by omega), dif_neg h0, show q = ⟨a.val - 1, by omega⟩ from Fin.ext (by have := hq h0; show q.val = a.val - 1; omega)]; rfl
    rw [← hs]
  by_cases h1 : l.val < 128
  · rw [dif_pos h1]
    refine hm _ _ _ _ ?_ ?_ ?_ ?_ <;> (try dsimp only) <;> omega
  by_cases h2 : l.val - 128 < 128
  · rw [dif_neg h1, dif_pos h2]
    refine hm _ _ _ _ ?_ ?_ ?_ ?_ <;> (try dsimp only) <;> omega
  by_cases h3 : l.val - 128 - 128 < 128
  · rw [dif_neg h1, dif_neg h2, dif_pos h3]
    refine hm _ _ _ _ ?_ ?_ ?_ ?_ <;> (try dsimp only) <;> omega
  · rw [dif_neg h1, dif_neg h2, dif_neg h3]
    refine hm _ _ _ _ ?_ ?_ ?_ ?_ <;> (try dsimp only) <;> omega

theorem mate_val (hb2 : b % 2 = 0) (l : Fin 512) :
    (⟨b + (mate512 l).val, by omega⟩ : Fin 5632) = mate ⟨b + l.val, by omega⟩ := by
  have h1 : (mate512 l).val = if l.val % 2 = 0 then l.val + 1 else l.val - 1 := by unfold mate512; split <;> rfl
  have h2 : (mate ⟨b + l.val, by omega⟩).val = if (b + l.val) % 2 = 0 then b + l.val + 1 else b + l.val - 1 := by
    unfold mate; dsimp only; split <;> rfl
  apply Fin.ext
  rw [h2]
  show b + (mate512 l).val = _
  rw [h1]
  split <;> split <;> omega

variable (c s : FVec Ideal S256x128 .f32) (hc : ∀ (r : Fin 256) (l : Fin 128), c (ix2 r l) = cosAt R B (row r) l)
  (hs : ∀ (r : Fin 256) (l : Fin 128), s (ix2 r l) = sinAt R B (row r) l)
  (e : IVec S256x128 1) (he : ∀ (r : Fin 256) (l : Fin 128), e (ix2 r l) = if l.val % 2 = 0 then 1#1 else 0#1)

include hh hw hc hs he in
/-- The rotated queries. -/
theorem rotq_piece (hk : b = 2560) (r : Fin 256) (l : Fin 512) :
    k0_pay96 (F := Ideal) h c s e w (ix2 r l) = projAt X N W R B (row r) ⟨b + l.val, by omega⟩ := by
  rw [rot_apply h b w c s e he (fun l => dotAt X N W (row r) ⟨b + l.val, by omega⟩) r (dot_plain X N W row h hh b hb w hw (by omega) r) l, hc, hs]
  unfold projAt
  rw [if_neg (show ¬b + l.val < 1024 by omega), if_neg (show ¬b + l.val < 1536 by omega),
      if_neg (show ¬b + l.val < 2560 by omega), if_pos (show b + l.val < 3072 by omega)]
  unfold rotAt
  have hl : (⟨(b + l.val) % 128, by omega⟩ : Fin 128) = ⟨l.val % 128, by omega⟩ := Fin.ext (by show (b + l.val) % 128 = l.val % 128; omega)
  rw [hl]
  beta_reduce
  rw [mate_val b hb (by omega)]

include hh hw hc hs he in
/-- The rotated keys. -/
theorem rotk_piece (hk : b = 3072) (r : Fin 256) (l : Fin 512) :
    k0_pay96 (F := Ideal) h c s e w (ix2 r l) = projAt X N W R B (row r) ⟨b + l.val, by omega⟩ := by
  rw [rot_apply h b w c s e he (fun l => dotAt X N W (row r) ⟨b + l.val, by omega⟩ * Ideal.ofBits .f32 0x3E000000#32) r
    (dot_key X N W row h hh b hb w hw (by omega) r) l, hc, hs]
  unfold projAt
  rw [if_neg (show ¬b + l.val < 1024 by omega), if_neg (show ¬b + l.val < 1536 by omega),
      if_neg (show ¬b + l.val < 2560 by omega), if_neg (show ¬b + l.val < 3072 by omega), if_pos (show b + l.val < 3584 by omega)]
  unfold rotAt
  have hl : (⟨(b + l.val) % 128, by omega⟩ : Fin 128) = ⟨l.val % 128, by omega⟩ := Fin.ext (by show (b + l.val) % 128 = l.val % 128; omega)
  rw [hl]
  beta_reduce
  rw [mate_val b hb (by omega)]
  obtain ⟨q, h0, hq⟩ := ofBits_key
  rw [EReal.right_distrib_of_nonneg_of_ne_top (by rw [hq]; exact EReal.coe_nonneg.mpr h0) (by rw [hq]; exact EReal.coe_ne_top q),
    mul_right_comm, mul_right_comm (dotAt X N W (row r) (mate _))]

variable (ra rb rs : Vec Ideal S1x256x128 .f32) (base : Vec Ideal S1x3x128 .f32)
  (hra : ∀ (r : Fin 256) (l : Fin 128), ra (ix3 0 r l) = R (ix3 0 r l)) (hrb : ∀ (r : Fin 256) (l : Fin 128), rb (ix3 0 r l) = R (ix3 1 r l))
  (hrs : ∀ (r : Fin 256) (l : Fin 128), rs (ix3 0 r l) = R (ix3 2 r l)) (ht : ∀ r, turnOf (row r) = r)
  (hbase : ∀ (r : Fin 256) (q : Fin 3) (l : Fin 128), base (ix3 0 q l) = B (ix3 (baseOf (row r)) q l))

include hra hrb ht hbase in
theorem cos_apply (r : Fin 256) (l : Fin 128) : k0_pay83 (F := Ideal) ra rb base (ix2 r l) = cosAt R B (row r) l := by
  pointwise [k0_pay83, k0_pay80, k0_pay81, k0_pay82]
  unfold cosAt
  rw [hra, hrb, hbase r, hbase r, ht]

include hra hrs ht hbase in
theorem sin_apply (r : Fin 256) (l : Fin 128) : k0_pay84 (F := Ideal) ra rs base (ix2 r l) = sinAt R B (row r) l := by
  pointwise [k0_pay84, k0_pay80, k0_pay81, k0_pay82]
  unfold sinAt
  rw [hra, hrs, hbase r, hbase r, ht]
end

end Cert.Kernel2.Hand
end
-- ==== Proof.Value2.lean ====
module

public import proofs.«01_k».proof.Proof.Frame2
public import proofs.«01_k».proof.Proof.Block2
public import Idealize.ShloMosaic.Lib.VecWindow
public import Idealize.ShloMosaic.Lib.Pipeline.ValueKit

/-!
  What the projected rows hold once the grid is done, at the extended reals: the formula of the projection, element by
  element.
-/

@[expose] public section

set_option maxRecDepth 65536
noncomputable section
namespace Cert.Kernel2.Hand
open Cert.Kernel2.Gen Idealize.ShloMosaic Idealize.ShloMosaic.TcCoe

attribute [local instance] Cert.Kernel2.Gen.facts

/-- A row of a row block. -/
theorem row_lt {T : ℕ} (hT : T < 64) (r : Fin 512) : 512 * T + r.val < 32768 := by omega

section
variable (X : Vec Ideal S32768x2048 .f32) (N : Vec Ideal S1x2048 .f32) (W : Vec Ideal S2048x5632 .f32)
  (R : Vec Ideal S3x256x128 .f32) (B : Vec Ideal S128x3x128 .f32)

/-- The rows of the half at `off` of the row block `T`. -/
def halfRow (T : ℕ) (hT : T < 64) (off : ℕ) (ho : off + 256 ≤ 512) (r : Fin 256) : Fin 32768 := ⟨512 * T + off + r.val, by omega⟩

/-- The projection of row block `T`. -/
def projBlk (T : ℕ) (hT : T < 64) (y : S512x5632.Idx) : EReal :=
  projAt X N W R B ⟨512 * T + (y 0).val, by have : (y 0).val < 512 := (y 0).isLt; omega⟩ (y 1)

theorem lift_piece (T : ℕ) (hT : T < 64) (off b : ℕ) (ho : off + 256 ≤ 512) (hb : b + 512 ≤ 5632)
    (inb : ∀ a : Fin 2, (![off, b] : Fin 2 → ℕ) a + S256x512.size a ≤ S512x5632.size a) (f : FVec Ideal S256x512 .bf16)
    (hf : ∀ (r : Fin 256) (l : Fin 512), f (ix2 r l) = projAt X N W R B (halfRow T hT off ho r) ⟨b + l.val, by omega⟩) (x : S256x512.Idx) :
    f x = projBlk X N W R B T hT ((Rect.unit (s := S512x5632) ![off, b] S256x512.size inb).emb x) := by
  obtain ⟨r, l, rfl⟩ : ∃ (r : Fin 256) (l : Fin 512), x = ix2 r l := ⟨x 0, x 1, by funext a; fin_cases a <;> rfl⟩
  rw [hf]
  unfold projBlk halfRow
  congr 1
  · apply Fin.ext
    show 512 * T + off + r.val = 512 * T + (off + 1 * r.val)
    omega
  · apply Fin.ext
    show b + l.val = b + 1 * l.val
    omega

variable (c : Dev nD)
    (fw : Buf (Elt Ideal) (hbW.view.loc (c : Thread nD τ)))
  (hfw : ∀ (k : Fin 2048) (j : Fin 5632), fw (ix2 k j) = W (ix2 k j))

/-- The resident weights' column block at `b`. -/
abbrev wBlk (b : ℕ) (inb : ∀ a : Fin 2, (![0, b] : Fin 2 → ℕ) a + S2048x512.size a ≤ S2048x5632.size a) : Vec Ideal S2048x512 .bf16 :=
  View.readAt (Elt Ideal) scW.view (Rect.unit (s := S2048x5632) ![0, b] S2048x512.size inb).toLoadRect (WV (F := Ideal) fw)

include hfw in
theorem wBlk_apply (b : ℕ) (hb : b + 512 ≤ 5632) (inb : ∀ a : Fin 2, (![0, b] : Fin 2 → ℕ) a + S2048x512.size a ≤ S2048x5632.size a)
    (k : Fin 2048) (l : Fin 512) :
    wBlk c fw b inb (ix2 k l) = pcol (F := Ideal) (b + l.val) (W (ix2 k ⟨b + l.val, by omega⟩)) := by
  have e : (Rect.unit (s := S2048x5632) ![0, b] S2048x512.size inb).toLoadRect.idx (ix2 k l) = ix2 k ⟨b + l.val, by omega⟩ := by
    funext a; fin_cases a
    · apply Fin.ext; show 0 + 1 * k.val = k.val; omega
    · apply Fin.ext; show b + 1 * l.val = b + l.val; omega
  rw [← hfw]
  show WV (F := Ideal) fw ((Rect.unit (s := S2048x5632) ![0, b] S2048x512.size inb).toLoadRect.idx (ix2 k l)) = _
  rw [e]
  rfl

variable (i : grid0.Coords)
    (arg2 : Memref sig .tc .vmem S512x2048 .f32) (arg3 : Memref sig .tc .vmem S1x2048 .f32)
    (arg5 : Memref sig .tc .vmem S3x256x128 .f32) (arg6 : Memref sig .tc .vmem S128x3x128 .f32)
    (x2 : S512x2048.Idx → Elt Ideal .f32)
  (T : ℕ) (hT : T < 64) (hx2 : ∀ (r : Fin 512) (k : Fin 2048), x2 (ix2 r k) = X (ix2 ⟨512 * T + r.val, row_lt hT r⟩ k))
  (hTi : T = (i 0).val / 32 * 32 + (31 - (i 0).val % 32))

theorem turn_half (off : ℕ) (ho : off + 256 ≤ 512) (hoff : off = 0 ∨ off = 256) (r : Fin 256) : turnOf (halfRow T hT off ho r) = r := by
  apply Fin.ext
  show (512 * T + off + r.val) % 256 = r.val
  omega

/-- The base of a half's rotation is the row of the base table it loads. -/
theorem off45_val : ∀ i : grid0.Coords, k0_off45 i 0#32 = ![4 * (31 - (i 0).val % 32), 0, 0] ∧ k0_off45 i 2#32 = ![4 * (31 - (i 0).val % 32) + 2, 0, 0] := by
  decide +kernel

include hx2 in
theorem h_0 (r : Fin 256) (k : Fin 2048) :
    (tailRun.sl.r (F := Ideal) (proVal c i arg2 arg3 (arg2.view.rep x2) (arg3.view.rep N))) (ix2 r k)
      = nrmAt X N (halfRow T hT 0 (by omega) r) k := by
  refine (nrm_apply X N (arg3.view.readAt (Elt Ideal) (Rect.unit (s := S1x2048) ![0, 0] S1x2048.size inb_S1x2048_S1x2048_0_0).toLoadRect (arg3.view.rep N))
    (arg2.view.readAt (Elt Ideal) (Rect.unit (s := S512x2048) ![0, 0] S256x2048.size inb_S512x2048_S256x2048_0_0).toLoadRect (arg2.view.rep x2))
    (halfRow T hT 0 (by omega)) ?_ ?_ r k)
  · intro k; rw [View.readAt_rep_full]
  · intro r k
    rw [View.readAt_rep]
    show x2 ((Rect.unit (s := S512x2048) ![0, 0] S256x2048.size inb_S512x2048_S256x2048_0_0).toLoadRect.idx (ix2 r k)) = _
    have e : (Rect.unit (s := S512x2048) ![0, 0] S256x2048.size inb_S512x2048_S256x2048_0_0).toLoadRect.idx (ix2 r k) = ix2 ⟨0 + r.val, by omega⟩ k := by
      funext a; fin_cases a
      · apply Fin.ext; show 0 + 1 * r.val = 0 + r.val; omega
      · apply Fin.ext; show 0 + 1 * k.val = k.val; omega
    rw [e, hx2]
    congr 2
    apply Fin.ext
    show 512 * T + (0 + r.val) = 512 * T + 0 + r.val
    omega

theorem rows_0 (q : Fin 3) (inb : ∀ a : Fin 3, (![q.val, 0, 0] : Fin 3 → ℕ) a + S1x256x128.size a ≤ S3x256x128.size a) (r : Fin 256) (l : Fin 128) :
    arg5.view.readAt (Elt Ideal) (Rect.unit (s := S3x256x128) ![q.val, 0, 0] S1x256x128.size inb).toLoadRect (arg5.view.rep R) (ix3 0 r l) = R (ix3 q r l) := by
  rw [View.readAt_rep]
  refine congrArg R (funext fun a => ?_)
  fin_cases a
  · apply Fin.ext; show q.val + 1 * 0 = q.val; omega
  · apply Fin.ext; show 0 + 1 * r.val = r.val; omega
  · apply Fin.ext; show 0 + 1 * l.val = l.val; omega

include hTi in
theorem base_0 (inb : ∀ a : Fin 3, (k0_off45 i 0#32) a + S1x3x128.size a ≤ S128x3x128.size a) (r : Fin 256) (q : Fin 3) (l : Fin 128) :
    arg6.view.readAt (Elt Ideal) (Rect.unit (s := S128x3x128) (k0_off45 i 0#32) S1x3x128.size inb).toLoadRect (arg6.view.rep B) (ix3 0 q l)
      = B (ix3 (baseOf (halfRow T hT 0 (by omega) r)) q l) := by
  rw [View.readAt_rep]
  refine congrArg B (funext fun a => ?_)
  have h := (off45_val i).1
  fin_cases a
  · apply Fin.ext
    show (k0_off45 i 0#32) 0 + 1 * 0 = 2 * ((512 * T + 0 + r.val) % 16384 / 256)
    rw [h]
    show 4 * (31 - (i 0).val % 32) + 0 + 1 * 0 = _
    have := (i 0).isLt
    omega
  · apply Fin.ext; show (k0_off45 i 0#32) 1 + 1 * q.val = q.val; rw [h]; show 0 + 1 * q.val = q.val; omega
  · apply Fin.ext; show (k0_off45 i 0#32) 2 + 1 * l.val = l.val; rw [h]; show 0 + 1 * l.val = l.val; omega

include hTi in
theorem cos_0 (r : Fin 256) (l : Fin 128) :
    (tailRun.sl.r_1 (F := Ideal) c i arg5 arg6 (arg5.view.rep R) (arg6.view.rep B)) (ix2 r l) = cosAt R B (halfRow T hT 0 (by omega) r) l :=
  cos_apply R B (halfRow T hT 0 (by omega)) _ _ _ (fun r l => rows_0 R arg5 0 _ r l) (fun r l => rows_0 R arg5 1 _ r l)
    (turn_half T hT 0 _ (by omega)) (fun r q l => base_0 B i arg6 T hT hTi _ r q l) r l

include hTi in
theorem sin_0 (r : Fin 256) (l : Fin 128) :
    (tailRun.sl.r_2 (F := Ideal) c i arg5 arg6 (arg5.view.rep R) (arg6.view.rep B)) (ix2 r l) = sinAt R B (halfRow T hT 0 (by omega) r) l :=
  sin_apply R B (halfRow T hT 0 (by omega)) _ _ _ (fun r l => rows_0 R arg5 0 _ r l) (fun r l => rows_0 R arg5 2 _ r l)
    (turn_half T hT 0 _ (by omega)) (fun r q l => base_0 B i arg6 T hT hTi _ r q l) r l

include hx2 in
theorem h_256 (r : Fin 256) (k : Fin 2048) :
    (tailRun.sl.r_8 (F := Ideal) c arg2 (proVal c i arg2 arg3 (arg2.view.rep x2) (arg3.view.rep N)) (arg2.view.rep x2)) (ix2 r k)
      = nrmAt X N (halfRow T hT 256 (by omega) r) k := by
  refine (nrm_apply X N (arg3.view.readAt (Elt Ideal) (Rect.unit (s := S1x2048) ![0, 0] S1x2048.size inb_S1x2048_S1x2048_0_0).toLoadRect (arg3.view.rep N))
    (arg2.view.readAt (Elt Ideal) (Rect.unit (s := S512x2048) ![256, 0] S256x2048.size inb_S512x2048_S256x2048_256_0).toLoadRect (arg2.view.rep x2))
    (halfRow T hT 256 (by omega)) ?_ ?_ r k)
  · intro k; rw [View.readAt_rep_full]
  · intro r k
    rw [View.readAt_rep]
    show x2 ((Rect.unit (s := S512x2048) ![256, 0] S256x2048.size inb_S512x2048_S256x2048_256_0).toLoadRect.idx (ix2 r k)) = _
    have e : (Rect.unit (s := S512x2048) ![256, 0] S256x2048.size inb_S512x2048_S256x2048_256_0).toLoadRect.idx (ix2 r k) = ix2 ⟨256 + r.val, by omega⟩ k := by
      funext a; fin_cases a
      · apply Fin.ext; show 256 + 1 * r.val = 256 + r.val; omega
      · apply Fin.ext; show 0 + 1 * k.val = k.val; omega
    rw [e, hx2]
    congr 2
    apply Fin.ext
    show 512 * T + (256 + r.val) = 512 * T + 256 + r.val
    omega

theorem rows_256 (q : Fin 3) (inb : ∀ a : Fin 3, (![q.val, 0, 0] : Fin 3 → ℕ) a + S1x256x128.size a ≤ S3x256x128.size a) (r : Fin 256) (l : Fin 128) :
    arg5.view.readAt (Elt Ideal) (Rect.unit (s := S3x256x128) ![q.val, 0, 0] S1x256x128.size inb).toLoadRect (arg5.view.rep R) (ix3 0 r l) = R (ix3 q r l) := by
  rw [View.readAt_rep]
  refine congrArg R (funext fun a => ?_)
  fin_cases a
  · apply Fin.ext; show q.val + 1 * 0 = q.val; omega
  · apply Fin.ext; show 0 + 1 * r.val = r.val; omega
  · apply Fin.ext; show 0 + 1 * l.val = l.val; omega

include hTi in
theorem base_256 (inb : ∀ a : Fin 3, (k0_off45 i 2#32) a + S1x3x128.size a ≤ S128x3x128.size a) (r : Fin 256) (q : Fin 3) (l : Fin 128) :
    arg6.view.readAt (Elt Ideal) (Rect.unit (s := S128x3x128) (k0_off45 i 2#32) S1x3x128.size inb).toLoadRect (arg6.view.rep B) (ix3 0 q l)
      = B (ix3 (baseOf (halfRow T hT 256 (by omega) r)) q l) := by
  rw [View.readAt_rep]
  refine congrArg B (funext fun a => ?_)
  have h := (off45_val i).2
  fin_cases a
  · apply Fin.ext
    show (k0_off45 i 2#32) 0 + 1 * 0 = 2 * ((512 * T + 256 + r.val) % 16384 / 256)
    rw [h]
    show 4 * (31 - (i 0).val % 32) + 2 + 1 * 0 = _
    have := (i 0).isLt
    omega
  · apply Fin.ext; show (k0_off45 i 2#32) 1 + 1 * q.val = q.val; rw [h]; show 0 + 1 * q.val = q.val; omega
  · apply Fin.ext; show (k0_off45 i 2#32) 2 + 1 * l.val = l.val; rw [h]; show 0 + 1 * l.val = l.val; omega

include hTi in
theorem cos_256 (r : Fin 256) (l : Fin 128) :
    (tailRun.sl.r_9 (F := Ideal) c i arg5 arg6 (arg5.view.rep R) (arg6.view.rep B)) (ix2 r l) = cosAt R B (halfRow T hT 256 (by omega) r) l :=
  cos_apply R B (halfRow T hT 256 (by omega)) _ _ _ (fun r l => rows_256 R arg5 0 _ r l) (fun r l => rows_256 R arg5 1 _ r l)
    (turn_half T hT 256 _ (by omega)) (fun r q l => base_256 B i arg6 T hT hTi _ r q l) r l

include hTi in
theorem sin_256 (r : Fin 256) (l : Fin 128) :
    (tailRun.sl.r_10 (F := Ideal) c i arg5 arg6 (arg5.view.rep R) (arg6.view.rep B)) (ix2 r l) = sinAt R B (halfRow T hT 256 (by omega) r) l :=
  sin_apply R B (halfRow T hT 256 (by omega)) _ _ _ (fun r l => rows_256 R arg5 0 _ r l) (fun r l => rows_256 R arg5 2 _ r l)
    (turn_half T hT 256 _ (by omega)) (fun r q l => base_256 B i arg6 T hT hTi _ r q l) r l

set_option maxHeartbeats 4000000 in
include hfw hTi hx2 in
theorem outP_apply : ∀ p ∈ outP c i arg2 arg3 arg5 arg6 fw (arg2.view.rep x2) (arg3.view.rep N) (arg5.view.rep R) (arg6.view.rep B),
    ∀ x : p.1.shape.Idx, p.2 x = projBlk X N W R B T hT (p.1.emb x) := by
  have h0 := h_0 X N c i arg2 arg3 x2 T hT hx2
  have c0 := cos_0 R B c i arg5 arg6 T hT hTi
  have s0 := sin_0 R B c i arg5 arg6 T hT hTi
  have h256 := h_256 X N c i arg2 arg3 x2 T hT hx2
  have c256 := cos_256 R B c i arg5 arg6 T hT hTi
  have s256 := sin_256 R B c i arg5 arg6 T hT hTi
  have hw := wBlk_apply W c fw hfw
  unfold outP tailRun.sl.H7_22
  refine List.forall_mem_cons.2 ⟨fun x => lift_piece X N W R B T hT 256 5120 (by omega) (by omega) inb_S512x5632_S256x512_256_5120 _
    (silu_piece X N W R B (halfRow T hT 256 (by omega)) _ h256 5120 (by omega) (wBlk c fw 5120 inb_S2048x5632_S2048x512_0_5120) (hw 5120 (by omega) inb_S2048x5632_S2048x512_0_5120) (Or.inr (by omega))) x, ?_⟩
  refine List.forall_mem_cons.2 ⟨fun x => lift_piece X N W R B T hT 256 4608 (by omega) (by omega) inb_S512x5632_S256x512_256_4608 _
    (silu_piece X N W R B (halfRow T hT 256 (by omega)) _ h256 4608 (by omega) (wBlk c fw 4608 inb_S2048x5632_S2048x512_0_4608) (hw 4608 (by omega) inb_S2048x5632_S2048x512_0_4608) (Or.inr (by omega))) x, ?_⟩
  refine List.forall_mem_cons.2 ⟨fun x => lift_piece X N W R B T hT 256 4096 (by omega) (by omega) inb_S512x5632_S256x512_256_4096 _
    (plain_piece X N W R B (halfRow T hT 256 (by omega)) _ h256 4096 (by omega) (wBlk c fw 4096 inb_S2048x5632_S2048x512_0_4096) (hw 4096 (by omega) inb_S2048x5632_S2048x512_0_4096) (Or.inr (Or.inr (by omega)))) x, ?_⟩
  refine List.forall_mem_cons.2 ⟨fun x => lift_piece X N W R B T hT 256 3584 (by omega) (by omega) inb_S512x5632_S256x512_256_3584 _
    (plain_piece X N W R B (halfRow T hT 256 (by omega)) _ h256 3584 (by omega) (wBlk c fw 3584 inb_S2048x5632_S2048x512_0_3584) (hw 3584 (by omega) inb_S2048x5632_S2048x512_0_3584) (Or.inr (Or.inr (by omega)))) x, ?_⟩
  refine List.forall_mem_cons.2 ⟨fun x => lift_piece X N W R B T hT 256 3072 (by omega) (by omega) inb_S512x5632_S256x512_256_3072 _
    (rotk_piece X N W R B (halfRow T hT 256 (by omega)) _ h256 3072 (by omega) (wBlk c fw 3072 inb_S2048x5632_S2048x512_0_3072) (hw 3072 (by omega) inb_S2048x5632_S2048x512_0_3072) _ _ c256 s256 _ even_apply' (by omega)) x, ?_⟩
  refine List.forall_mem_cons.2 ⟨fun x => lift_piece X N W R B T hT 256 2560 (by omega) (by omega) inb_S512x5632_S256x512_256_2560 _
    (rotq_piece X N W R B (halfRow T hT 256 (by omega)) _ h256 2560 (by omega) (wBlk c fw 2560 inb_S2048x5632_S2048x512_0_2560) (hw 2560 (by omega) inb_S2048x5632_S2048x512_0_2560) _ _ c256 s256 _ even_apply' (by omega)) x, ?_⟩
  refine List.forall_mem_cons.2 ⟨fun x => lift_piece X N W R B T hT 256 2048 (by omega) (by omega) inb_S512x5632_S256x512_256_2048 _
    (silu_piece X N W R B (halfRow T hT 256 (by omega)) _ h256 2048 (by omega) (wBlk c fw 2048 inb_S2048x5632_S2048x512_0_2048) (hw 2048 (by omega) inb_S2048x5632_S2048x512_0_2048) (Or.inl (by omega))) x, ?_⟩
  refine List.forall_mem_cons.2 ⟨fun x => lift_piece X N W R B T hT 256 1536 (by omega) (by omega) inb_S512x5632_S256x512_256_1536 _
    (silu_piece X N W R B (halfRow T hT 256 (by omega)) _ h256 1536 (by omega) (wBlk c fw 1536 inb_S2048x5632_S2048x512_0_1536) (hw 1536 (by omega) inb_S2048x5632_S2048x512_0_1536) (Or.inl (by omega))) x, ?_⟩
  refine List.forall_mem_cons.2 ⟨fun x => lift_piece X N W R B T hT 256 1024 (by omega) (by omega) inb_S512x5632_S256x512_256_1024 _
    (plain_piece X N W R B (halfRow T hT 256 (by omega)) _ h256 1024 (by omega) (wBlk c fw 1024 inb_S2048x5632_S2048x512_0_1024) (hw 1024 (by omega) inb_S2048x5632_S2048x512_0_1024) (Or.inr (Or.inl (by omega)))) x, ?_⟩
  refine List.forall_mem_cons.2 ⟨fun x => lift_piece X N W R B T hT 256 512 (by omega) (by omega) inb_S512x5632_S256x512_256_512 _
    (plain_piece X N W R B (halfRow T hT 256 (by omega)) _ h256 512 (by omega) (wBlk c fw 512 inb_S2048x5632_S2048x512_0_512) (hw 512 (by omega) inb_S2048x5632_S2048x512_0_512) (Or.inl (by omega))) x, ?_⟩
  refine List.forall_mem_cons.2 ⟨fun x => lift_piece X N W R B T hT 256 0 (by omega) (by omega) inb_S512x5632_S256x512_256_0 _
    (plain_piece X N W R B (halfRow T hT 256 (by omega)) _ h256 0 (by omega) (wBlk c fw 0 inb_S2048x5632_S2048x512_0_0) (hw 0 (by omega) inb_S2048x5632_S2048x512_0_0) (Or.inl (by omega))) x, ?_⟩
  refine List.forall_mem_cons.2 ⟨fun x => lift_piece X N W R B T hT 0 5120 (by omega) (by omega) inb_S512x5632_S256x512_0_5120 _
    (silu_piece X N W R B (halfRow T hT 0 (by omega)) _ h0 5120 (by omega) (wBlk c fw 5120 inb_S2048x5632_S2048x512_0_5120) (hw 5120 (by omega) inb_S2048x5632_S2048x512_0_5120) (Or.inr (by omega))) x, ?_⟩
  refine List.forall_mem_cons.2 ⟨fun x => lift_piece X N W R B T hT 0 4608 (by omega) (by omega) inb_S512x5632_S256x512_0_4608 _
    (silu_piece X N W R B (halfRow T hT 0 (by omega)) _ h0 4608 (by omega) (wBlk c fw 4608 inb_S2048x5632_S2048x512_0_4608) (hw 4608 (by omega) inb_S2048x5632_S2048x512_0_4608) (Or.inr (by omega))) x, ?_⟩
  refine List.forall_mem_cons.2 ⟨fun x => lift_piece X N W R B T hT 0 4096 (by omega) (by omega) inb_S512x5632_S256x512_0_4096 _
    (plain_piece X N W R B (halfRow T hT 0 (by omega)) _ h0 4096 (by omega) (wBlk c fw 4096 inb_S2048x5632_S2048x512_0_4096) (hw 4096 (by omega) inb_S2048x5632_S2048x512_0_4096) (Or.inr (Or.inr (by omega)))) x, ?_⟩
  refine List.forall_mem_cons.2 ⟨fun x => lift_piece X N W R B T hT 0 3584 (by omega) (by omega) inb_S512x5632_S256x512_0_3584 _
    (plain_piece X N W R B (halfRow T hT 0 (by omega)) _ h0 3584 (by omega) (wBlk c fw 3584 inb_S2048x5632_S2048x512_0_3584) (hw 3584 (by omega) inb_S2048x5632_S2048x512_0_3584) (Or.inr (Or.inr (by omega)))) x, ?_⟩
  refine List.forall_mem_cons.2 ⟨fun x => lift_piece X N W R B T hT 0 3072 (by omega) (by omega) inb_S512x5632_S256x512_0_3072 _
    (rotk_piece X N W R B (halfRow T hT 0 (by omega)) _ h0 3072 (by omega) (wBlk c fw 3072 inb_S2048x5632_S2048x512_0_3072) (hw 3072 (by omega) inb_S2048x5632_S2048x512_0_3072) _ _ c0 s0 _ even_apply (by omega)) x, ?_⟩
  refine List.forall_mem_cons.2 ⟨fun x => lift_piece X N W R B T hT 0 2560 (by omega) (by omega) inb_S512x5632_S256x512_0_2560 _
    (rotq_piece X N W R B (halfRow T hT 0 (by omega)) _ h0 2560 (by omega) (wBlk c fw 2560 inb_S2048x5632_S2048x512_0_2560) (hw 2560 (by omega) inb_S2048x5632_S2048x512_0_2560) _ _ c0 s0 _ even_apply (by omega)) x, ?_⟩
  refine List.forall_mem_cons.2 ⟨fun x => lift_piece X N W R B T hT 0 2048 (by omega) (by omega) inb_S512x5632_S256x512_0_2048 _
    (silu_piece X N W R B (halfRow T hT 0 (by omega)) _ h0 2048 (by omega) (wBlk c fw 2048 inb_S2048x5632_S2048x512_0_2048) (hw 2048 (by omega) inb_S2048x5632_S2048x512_0_2048) (Or.inl (by omega))) x, ?_⟩
  refine List.forall_mem_cons.2 ⟨fun x => lift_piece X N W R B T hT 0 1536 (by omega) (by omega) inb_S512x5632_S256x512_0_1536 _
    (silu_piece X N W R B (halfRow T hT 0 (by omega)) _ h0 1536 (by omega) (wBlk c fw 1536 inb_S2048x5632_S2048x512_0_1536) (hw 1536 (by omega) inb_S2048x5632_S2048x512_0_1536) (Or.inl (by omega))) x, ?_⟩
  refine List.forall_mem_cons.2 ⟨fun x => lift_piece X N W R B T hT 0 1024 (by omega) (by omega) inb_S512x5632_S256x512_0_1024 _
    (plain_piece X N W R B (halfRow T hT 0 (by omega)) _ h0 1024 (by omega) (wBlk c fw 1024 inb_S2048x5632_S2048x512_0_1024) (hw 1024 (by omega) inb_S2048x5632_S2048x512_0_1024) (Or.inr (Or.inl (by omega)))) x, ?_⟩
  refine List.forall_mem_cons.2 ⟨fun x => lift_piece X N W R B T hT 0 512 (by omega) (by omega) inb_S512x5632_S256x512_0_512 _
    (plain_piece X N W R B (halfRow T hT 0 (by omega)) _ h0 512 (by omega) (wBlk c fw 512 inb_S2048x5632_S2048x512_0_512) (hw 512 (by omega) inb_S2048x5632_S2048x512_0_512) (Or.inl (by omega))) x, ?_⟩
  refine List.forall_mem_cons.2 ⟨fun x => lift_piece X N W R B T hT 0 0 (by omega) (by omega) inb_S512x5632_S256x512_0_0 _
    (plain_piece X N W R B (halfRow T hT 0 (by omega)) _ h0 0 (by omega) (wBlk c fw 0 inb_S2048x5632_S2048x512_0_0) (hw 0 (by omega) inb_S2048x5632_S2048x512_0_0) (Or.inl (by omega))) x, ?_⟩
  exact fun p hp => absurd hp List.not_mem_nil
end

section
open Idealize.ShloMosaic.Pipeline (Dat Cfg Window)
variable (m : (ℓ : Loc nD τ sig) → Buf (Elt Ideal) ℓ)

/-- The row block of step `t`: each sequence's blocks from its last to its first. -/
def tileOf (t : Fin cfg0.N) : ℕ := t.val / 32 * 32 + (31 - t.val % 32)

theorem tileOf_lt (t : Fin cfg0.N) : tileOf t < 64 := by
  have h : t.val < 64 := t.isLt
  unfold tileOf; omega

theorem index1 : ∀ t : Fin cfg0.N, win0_1.index t = ![tileOf t, 0] := by decide +kernel
theorem index2 : ∀ t : Fin cfg0.N, win0_2.index t = ![0, 0] := by decide +kernel
theorem index3 : ∀ t : Fin cfg0.N, win0_3.index t = ![0, 0, 0] := by decide +kernel
theorem index4 : ∀ t : Fin cfg0.N, win0_4.index t = ![0, 0, 0] := by decide +kernel
theorem index5 : ∀ t : Fin cfg0.N, win0_5.index t = ![tileOf t, 0] := by decide +kernel

/-- The projection of the memory's arguments, as an array. -/
def projOf (c : Dev nD) : Vec Ideal S32768x5632 .bf16 := fun y =>
  projAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (y 0) (y 1)

theorem iblk2 (c : Dev nD) (t : Fin cfg0.N) : (iblk m c 2 t : Vec Ideal S1x2048 .f32) = m ((c.tc : Thread nD τ).loc main_arg1) := by
  funext y
  blk_simp [iblk]
  refine congrArg (m ((c.tc : Thread nD τ).loc main_arg1)) ?_
  blk_ext [index2]
theorem iblk3 (c : Dev nD) (t : Fin cfg0.N) : (iblk m c 3 t : Vec Ideal S3x256x128 .f32) = m ((c.tc : Thread nD τ).loc main_arg3) := by
  funext y
  blk_simp [iblk]
  refine congrArg (m ((c.tc : Thread nD τ).loc main_arg3)) ?_
  blk_ext [index3]
theorem iblk4 (c : Dev nD) (t : Fin cfg0.N) : (iblk m c 4 t : Vec Ideal S128x3x128 .f32) = m ((c.tc : Thread nD τ).loc main_arg4) := by
  funext y
  blk_simp [iblk]
  refine congrArg (m ((c.tc : Thread nD τ).loc main_arg4)) ?_
  blk_ext [index4]
theorem iblk1 (c : Dev nD) (t : Fin cfg0.N) (r : Fin 512) (k : Fin 2048) :
    (iblk m c 1 t : Vec Ideal S512x2048 .f32) (ix2 r k) = m ((c.tc : Thread nD τ).loc main_arg0) (ix2 ⟨512 * tileOf t + r.val, row_lt (tileOf_lt t) r⟩ k) := by
  blk_simp [iblk]
  refine congrArg (m ((c.tc : Thread nD τ).loc main_arg0)) ?_
  blk_ext [index1]

/-- A step leaves its row block's projection. -/
theorem out5_apply (c : Dev nD) (t : Fin cfg0.N) (y : S512x5632.Idx) :
    out5 m c t y = projBlk (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (tileOf t) (tileOf_lt t) y := by
  unfold out5
  rw [iblk2, iblk3, iblk4]
  refine View.read_writes_apply_of_pieces _ _ _ _ ?_ y (outP_cover _ _ _ _ _ _ _ _ _ _ _ y)
  refine outP_apply _ _ _ _ _ c _ (fun _ _ => rfl) (grid0.coords t) _ _ _ _ _ (tileOf t) (tileOf_lt t) (iblk1 m c t) ?_
  rw [coords_val]; rfl

/-- The projected rows when the grid is done. -/
theorem final5 (c : Dev nD) : (dats m 0 c).arrAt 5 cfg0.N = projOf m c := by
  refine (dats m 0 c).arrAt_eq_of_covers 5 (projOf m c) (by decide +kernel) fun t hf y => ?_
  blk_simp
  rw [after_5]
  refine (out5_apply m c t y).trans ?_
  unfold projBlk projOf
  congr 1
  · apply Fin.ext
    blk_simp [index5]
    show 512 * tileOf t + (y 0).val = tileOf t * 512 + (y 0).val
    omega
  · apply Fin.ext
    blk_simp [index5]
end

end Cert.Kernel2.Hand
end
-- ==== Proof.Ref2.lean ====
module

public import proofs.«01_k».proof.Proof.Gen.Reference2Ideal.Run
public import proofs.«01_k».proof.Proof.Spec2

/-!
  What the reference's result holds, element by element: the same formula of its arguments.
-/

@[expose] public section

set_option maxRecDepth 65536
noncomputable section
namespace Cert.Reference2Ideal.Hand
open Cert.Reference2Ideal Cert.Reference2Ideal.Gen Cert.Reference2Ideal.Value Idealize.ShloMosaic Cert.Kernel2.Hand

attribute [local instance] Cert.Reference2Ideal.Gen.facts
/-- The projection, opened to the arguments. -/
theorem dot_open (X : Vec Ideal S32768x2048 .f32) (N : Vec Ideal S1x2048 .f32) (W : Vec Ideal S2048x5632 .f32) (r : Fin 32768) (j : Fin 5632) :
    dotAt X N W r j = ∑ x : Fin 2048, X (ix2 r x) * Ideal.rsqrt (Ideal.div (∑ x' : Fin 2048, X (ix2 r x') * X (ix2 r x'))
      (Ideal.ofBits FTy.f32 1157627904#32) + Ideal.ofBits FTy.f32 897988541#32) * N (ix2 0 x) * W (ix2 x j) := rfl

theorem mate_val (j : Fin 5632) : (mate j).val = if j.val % 2 = 0 then j.val + 1 else j.val - 1 := by unfold mate; split <;> rfl

theorem lane_eq (b q : ℕ) (hb : b % 128 = 0) (j : Fin 5632) (hj : j.val = b + q) (h : q % 128 < 128) :
    (⟨q % 128, h⟩ : Fin 128) = ⟨j.val % 128, by omega⟩ := Fin.ext (by show q % 128 = j.val % 128; omega)

theorem swap_eq (b q : ℕ) (hb : b % 2 = 0) (j : Fin 5632) (hj : j.val = b + q) (h' : q % 2 < 2)
    (h : b + (q / 2 * 2 + (Fin.rev (⟨q % 2, h'⟩ : Fin 2)).val) < 5632) :
    (⟨b + (q / 2 * 2 + (Fin.rev (⟨q % 2, h'⟩ : Fin 2)).val), h⟩ : Fin 5632) = mate j := Fin.ext (by
  show b + (q / 2 * 2 + (2 - (q % 2 + 1))) = (mate j).val
  rw [mate_val]; split <;> omega)

section
variable (X : Vec Ideal S32768x2048 .f32) (N : Vec Ideal S1x2048 .f32) (W : Vec Ideal S2048x5632 .f32)
  (R : Vec Ideal S3x256x128 .f32) (B : Vec Ideal S128x3x128 .f32)

/-- The reference's result by the column groups it joins. -/
def groupsAt (r : Fin 32768) (j : Fin 5632) : EReal :=
  if h : j.val < 1024 then dotAt X N W r j * Ideal.ofBits .f32 0x3E38AA3B#32
  else if h : j.val - 1024 < 512 then dotAt X N W r ⟨1024 + (j.val - 1024), by omega⟩
  else if h : j.val - 1024 - 512 < 1024 then dotAt X N W r ⟨1536 + (j.val - 1024 - 512), by omega⟩ * Ideal.div 1 (1 + Ideal.exp (-dotAt X N W r ⟨1536 + (j.val - 1024 - 512), by omega⟩))
  else if h : j.val - 1024 - 512 - 1024 < 512 then dotAt X N W r ⟨2560 + (j.val - 1024 - 512 - 1024), by omega⟩ *
      (R (ix3 0 ⟨r.val % 16384 % 256, by omega⟩ ⟨(j.val - 1024 - 512 - 1024) % 128, by omega⟩) * B (ix3 ⟨2 * (r.val % 16384 / 256), by omega⟩ 0 ⟨(j.val - 1024 - 512 - 1024) % 128, by omega⟩) - R (ix3 1 ⟨r.val % 16384 % 256, by omega⟩ ⟨(j.val - 1024 - 512 - 1024) % 128, by omega⟩) * B (ix3 ⟨2 * (r.val % 16384 / 256), by omega⟩ 1 ⟨(j.val - 1024 - 512 - 1024) % 128, by omega⟩)) +
      dotAt X N W r ⟨2560 + ((j.val - 1024 - 512 - 1024) / 2 * 2 + (Fin.rev (⟨(j.val - 1024 - 512 - 1024) % 2, by omega⟩ : Fin 2)).val), by have := (Fin.rev (⟨(j.val - 1024 - 512 - 1024) % 2, by omega⟩ : Fin 2)).isLt; omega⟩ *
      (R (ix3 2 ⟨r.val % 16384 % 256, by omega⟩ ⟨(j.val - 1024 - 512 - 1024) % 128, by omega⟩) * B (ix3 ⟨2 * (r.val % 16384 / 256), by omega⟩ 0 ⟨(j.val - 1024 - 512 - 1024) % 128, by omega⟩) + R (ix3 0 ⟨r.val % 16384 % 256, by omega⟩ ⟨(j.val - 1024 - 512 - 1024) % 128, by omega⟩) * B (ix3 ⟨2 * (r.val % 16384 / 256), by omega⟩ 2 ⟨(j.val - 1024 - 512 - 1024) % 128, by omega⟩))
  else if h : j.val - 1024 - 512 - 1024 - 512 < 512 then (dotAt X N W r ⟨3072 + (j.val - 1024 - 512 - 1024 - 512), by omega⟩ *
      (R (ix3 0 ⟨r.val % 16384 % 256, by omega⟩ ⟨(j.val - 1024 - 512 - 1024 - 512) % 128, by omega⟩) * B (ix3 ⟨2 * (r.val % 16384 / 256), by omega⟩ 0 ⟨(j.val - 1024 - 512 - 1024 - 512) % 128, by omega⟩) - R (ix3 1 ⟨r.val % 16384 % 256, by omega⟩ ⟨(j.val - 1024 - 512 - 1024 - 512) % 128, by omega⟩) * B (ix3 ⟨2 * (r.val % 16384 / 256), by omega⟩ 1 ⟨(j.val - 1024 - 512 - 1024 - 512) % 128, by omega⟩)) +
      dotAt X N W r ⟨3072 + ((j.val - 1024 - 512 - 1024 - 512) / 2 * 2 + (Fin.rev (⟨(j.val - 1024 - 512 - 1024 - 512) % 2, by omega⟩ : Fin 2)).val), by have := (Fin.rev (⟨(j.val - 1024 - 512 - 1024 - 512) % 2, by omega⟩ : Fin 2)).isLt; omega⟩ *
      (R (ix3 2 ⟨r.val % 16384 % 256, by omega⟩ ⟨(j.val - 1024 - 512 - 1024 - 512) % 128, by omega⟩) * B (ix3 ⟨2 * (r.val % 16384 / 256), by omega⟩ 0 ⟨(j.val - 1024 - 512 - 1024 - 512) % 128, by omega⟩) + R (ix3 0 ⟨r.val % 16384 % 256, by omega⟩ ⟨(j.val - 1024 - 512 - 1024 - 512) % 128, by omega⟩) * B (ix3 ⟨2 * (r.val % 16384 / 256), by omega⟩ 2 ⟨(j.val - 1024 - 512 - 1024 - 512) % 128, by omega⟩))) * Ideal.ofBits .f32 0x3E000000#32
  else if h : j.val - 1024 - 512 - 1024 - 512 - 512 < 1024 then dotAt X N W r ⟨3584 + (j.val - 1024 - 512 - 1024 - 512 - 512), by omega⟩
  else dotAt X N W r ⟨4608 + (j.val - 1024 - 512 - 1024 - 512 - 512 - 1024), by omega⟩ * Ideal.div 1 (1 + Ideal.exp (-dotAt X N W r ⟨4608 + (j.val - 1024 - 512 - 1024 - 512 - 512 - 1024), by omega⟩))

set_option maxHeartbeats 2000000 in
theorem groups_eq (r : Fin 32768) (j : Fin 5632) : groupsAt X N W R B r j = projAt X N W R B r j := by
  unfold groupsAt
  have et : (⟨r.val % 16384 % 256, by omega⟩ : Fin 256) = turnOf r := Fin.ext (by show r.val % 16384 % 256 = r.val % 256; omega)
  by_cases h0 : j.val < 1024
  · rw [dif_pos h0]
    unfold projAt
    rw [if_pos (show j.val < 1024 by omega)]
  by_cases h1 : j.val - 1024 < 512
  · rw [dif_neg h0, dif_pos h1]
    have hj : j.val = 1024 + (j.val - 1024) := by omega
    have ej : (⟨1024 + (j.val - 1024), by omega⟩ : Fin 5632) = j := Fin.ext hj.symm
    rw [ej]
    unfold projAt
    rw [if_neg (show ¬j.val < 1024 by omega), if_pos (show j.val < 1536 by omega)]
    try rfl
  by_cases h2 : j.val - 1024 - 512 < 1024
  · rw [dif_neg h0, dif_neg h1, dif_pos h2]
    have hj : j.val = 1536 + (j.val - 1024 - 512) := by omega
    have ej : (⟨1536 + (j.val - 1024 - 512), by omega⟩ : Fin 5632) = j := Fin.ext hj.symm
    rw [ej]
    unfold projAt
    rw [if_neg (show ¬j.val < 1024 by omega), if_neg (show ¬j.val < 1536 by omega), if_pos (show j.val < 2560 by omega)]
    try rfl
  by_cases h3 : j.val - 1024 - 512 - 1024 < 512
  · rw [dif_neg h0, dif_neg h1, dif_neg h2, dif_pos h3]
    have hj : j.val = 2560 + (j.val - 1024 - 512 - 1024) := by omega
    have ej : (⟨2560 + (j.val - 1024 - 512 - 1024), by omega⟩ : Fin 5632) = j := Fin.ext hj.symm
    rw [ej, lane_eq _ _ rfl j hj, swap_eq _ _ rfl j hj, et]
    unfold projAt
    rw [if_neg (show ¬j.val < 1024 by omega), if_neg (show ¬j.val < 1536 by omega), if_neg (show ¬j.val < 2560 by omega), if_pos (show j.val < 3072 by omega)]
    rfl
  by_cases h4 : j.val - 1024 - 512 - 1024 - 512 < 512
  · rw [dif_neg h0, dif_neg h1, dif_neg h2, dif_neg h3, dif_pos h4]
    have hj : j.val = 3072 + (j.val - 1024 - 512 - 1024 - 512) := by omega
    have ej : (⟨3072 + (j.val - 1024 - 512 - 1024 - 512), by omega⟩ : Fin 5632) = j := Fin.ext hj.symm
    rw [ej, lane_eq _ _ rfl j hj, swap_eq _ _ rfl j hj, et]
    unfold projAt
    rw [if_neg (show ¬j.val < 1024 by omega), if_neg (show ¬j.val < 1536 by omega), if_neg (show ¬j.val < 2560 by omega), if_neg (show ¬j.val < 3072 by omega), if_pos (show j.val < 3584 by omega)]
    rfl
  by_cases h5 : j.val - 1024 - 512 - 1024 - 512 - 512 < 1024
  · rw [dif_neg h0, dif_neg h1, dif_neg h2, dif_neg h3, dif_neg h4, dif_pos h5]
    have hj : j.val = 3584 + (j.val - 1024 - 512 - 1024 - 512 - 512) := by omega
    have ej : (⟨3584 + (j.val - 1024 - 512 - 1024 - 512 - 512), by omega⟩ : Fin 5632) = j := Fin.ext hj.symm
    rw [ej]
    unfold projAt
    rw [if_neg (show ¬j.val < 1024 by omega), if_neg (show ¬j.val < 1536 by omega), if_neg (show ¬j.val < 2560 by omega), if_neg (show ¬j.val < 3072 by omega), if_neg (show ¬j.val < 3584 by omega), if_pos (show j.val < 4608 by omega)]
    try rfl
  · rw [dif_neg h0, dif_neg h1, dif_neg h2, dif_neg h3, dif_neg h4, dif_neg h5]
    have hj : j.val = 4608 + (j.val - 1024 - 512 - 1024 - 512 - 512 - 1024) := by omega
    have ej : (⟨4608 + (j.val - 1024 - 512 - 1024 - 512 - 512 - 1024), by omega⟩ : Fin 5632) = j := Fin.ext hj.symm
    rw [ej]
    unfold projAt
    rw [if_neg (show ¬j.val < 1024 by omega), if_neg (show ¬j.val < 1536 by omega), if_neg (show ¬j.val < 2560 by omega), if_neg (show ¬j.val < 3072 by omega), if_neg (show ¬j.val < 3584 by omega), if_neg (show ¬j.val < 4608 by omega)]
    try rfl
end

variable (m : (ℓ : Loc nD τ sig) → Buf (Elt Ideal) ℓ) (c : Dev nD)

set_option maxHeartbeats 3000000 in
theorem res_apply (r : Fin 32768) (j : Fin 5632) :
    res_main_v81 m c (ix2 r j) = groupsAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r j := by
  pointwise [res_main_v81]
  have hd := fun (r : Fin 32768) (j : Fin 5632) => (dot_open (m ((c.tc : Thread nD τ).loc main_arg0)) (m ((c.tc : Thread nD τ).loc main_arg1)) (m ((c.tc : Thread nD τ).loc main_arg2)) r j).symm
  simp only [hd]
  unfold groupsAt
  rfl

/-- The reference's result is the projection of the arrays its arguments hold. -/
theorem res_eq (X : Vec Ideal S32768x2048 .f32) (N : Vec Ideal S1x2048 .f32) (W : Vec Ideal S2048x5632 .f32)
    (R : Vec Ideal S3x256x128 .f32) (B : Vec Ideal S128x3x128 .f32)
    (hX : m ((c.tc : Thread nD τ).loc main_arg0) = X) (hN : m ((c.tc : Thread nD τ).loc main_arg1) = N)
    (hW : m ((c.tc : Thread nD τ).loc main_arg2) = W) (hR : m ((c.tc : Thread nD τ).loc main_arg3) = R)
    (hB : m ((c.tc : Thread nD τ).loc main_arg4) = B) :
    res_main_v81 m c = fun y : S32768x5632.Idx => projAt X N W R B (y 0) (y 1) := by
  funext y
  obtain ⟨r, j, rfl⟩ : ∃ (r : Fin 32768) (j : Fin 5632), y = ix2 r j := ⟨y 0, y 1, by funext a; fin_cases a <;> rfl⟩
  rw [← hX, ← hN, ← hW, ← hR, ← hB]
  exact (res_apply m c r j).trans (groups_eq _ _ _ _ _ r j)

end Cert.Reference2Ideal.Hand
end
-- ==== Proof.MixSafe.lean ====
module

public import proofs.«01_k».proof.Proof.Gen.Kernel.Launch
public import proofs.«01_k».proof.Proof.Gen.Kernel.Skeleton
public import proofs.«01_k».proof.Proof.Gen.Kernel.Points
public import proofs.«01_k».proof.Proof.Stage

/-!
  Programs of the mixer that keep a resource: from the resource they run to the resource.  A resource that
  lets a buffer be read, or written with anything, is kept by loads and by stores of that buffer, and what
  is kept by two programs is kept by one after the other.
-/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- From `R` the program runs to `R`. -/
def Safe (c : Dev nD) (R : sProp 𝕄) {α : Type} (p : Prog (TpuEff nD τ sig (Elt F) Λ₀ .tc) α) : Prop :=
  R ⊢ wp frame (wpE (defs₀ (F := F)) Variants.none c none) Set.univ p (fun _ => R)

/-- `R` lets the buffer be read. -/
def Rd (c : Dev nD) (R : sProp 𝕄) {cs : CoreSpace} {s : Shape} {e : EltTy} (m : Memref sig .tc cs s e) : Prop :=
  R ⊢ iprop(∃ q f, (m.view.loc (c : Thread nD τ) ↦[m.view.set]{q} f) ∗ ((m.view.loc (c : Thread nD τ) ↦[m.view.set]{q} f) -∗ R))

/-- `R` lets the buffer be written, whatever is written. -/
def Wr (c : Dev nD) (R : sProp 𝕄) {cs : CoreSpace} {s : Shape} {e : EltTy} (m : Memref sig .tc cs s e) : Prop :=
  R ⊢ iprop(∃ f, (m.view.loc (c : Thread nD τ) ↦[m.view.set]{fullShare} f) ∗ (∀ f', (m.view.loc (c : Thread nD τ) ↦[m.view.set]{fullShare} f') -∗ R))

section
variable {c : Dev nD} {cs : CoreSpace} {s : Shape} {e : EltTy} {m : Memref sig .tc cs s e} {α β : Type}

theorem Wr.rd {R : sProp 𝕄} (h : Wr (F := F) c R m) : Rd c R m := by
  refine h.trans ?_
  iintro ⟨%f, H, Hk⟩
  iexists fullShare, f
  isplitl [H]; · iexact H
  iintro H
  iapply Hk; iexact H

theorem safe_ret {R : sProp 𝕄} (a : α) : Safe (F := F) c R (pure a) := by
  unfold Safe
  exact le_wp_ret frame (wpE (defs₀ (F := F)) Variants.none c none) Set.univ a (fun _ => R)

theorem safe_bind {R : sProp 𝕄} {p : Prog (TpuEff nD τ sig (Elt F) Λ₀ .tc) α} {k : α → Prog (TpuEff nD τ sig (Elt F) Λ₀ .tc) β}
    (hp : Safe (F := F) c R p) (hk : ∀ a, Safe (F := F) c R (k a)) : Safe (F := F) c R (p >>= k) := by
  unfold Safe at *
  rw [wp_bind]
  exact hp.trans (wp_mono _ _ _ hk)

theorem safe_dite {R : sProp 𝕄} {b : Prop} [Decidable b] {p : b → Prog (TpuEff nD τ sig (Elt F) Λ₀ .tc) α} {q : ¬b → Prog (TpuEff nD τ sig (Elt F) Λ₀ .tc) α}
    (hp : ∀ h, Safe (F := F) c R (p h)) (hq : ∀ h, Safe (F := F) c R (q h)) : Safe (F := F) c R (if h : b then p h else q h) := by
  split
  · exact hp _
  · exact hq _

theorem safe_loadAt {R : sProp 𝕄} {r : LoadRect s} {hl : m.view.LoadsAt r} {k : (r.shape.Idx → Elt F e) → Prog (TpuEff nD τ sig (Elt F) Λ₀ .tc) α}
    (h : Rd (F := F) c R m) (hk : ∀ v, Safe (F := F) c R (k v)) : Safe (F := F) c R (.op (.load m r hl) k) := by
  unfold Safe at *
  refine h.trans ?_
  iintro ⟨%q, %f, H, Hk⟩
  iapply (wp_load (defs := defs₀ (F := F)) Variants.none (c : Thread nD τ) none Set.univ (m := m) (r := r) (hl := hl) (S := m.view.set)
    (View.setOn_subset_set _ _)) $$ H
  iintro H
  iapply (hk _)
  iapply Hk; iexact H

theorem safe_load {R : sProp 𝕄} {r : LoadRect s} {hl : m.view.LoadsAt r} (h : Rd (F := F) c R m) : Safe (F := F) c R (Prog.lift (.load m r hl)) :=
  safe_loadAt h fun v => safe_ret (F := F) v

theorem safe_smem {R : sProp 𝕄} {m : Memref sig .tc .smem s e} {r : Rect s} {h1 : r.shape.numel = 1} {hp : e.packing = 1} (h : Rd (F := F) c R m) :
    Safe (F := F) c R (smemLoad m r h1 hp) :=
  safe_loadAt h fun v => safe_ret (F := F) (v _)

theorem safe_store {R : sProp 𝕄} {r : Rect s} {w : r.shape.Idx → Elt F e} {Mk : Finset r.shape.Idx} {hx : (m.access r).Stores Mk}
    {hm : Mk = Finset.univ ∨ ∀ a, r.stride a = 1} (h : Wr (F := F) c R m) : Safe (F := F) c R (Prog.lift (.store m r w Mk hx hm)) := by
  unfold Safe
  refine h.trans ?_
  iintro ⟨%f, H, Hk⟩
  iapply (wp_store (defs := defs₀ (F := F)) Variants.none (c : Thread nD τ) none Set.univ (m := m) (r := r) (w := w) (Mk := Mk) (hx := hx) (hm := hm)
    (S := m.view.set) ((View.setOn_subset_set _ _).trans (View.set_slice_subset _ _))) $$ H
  iintro H
  iapply (le_wp_ret _ _ _ _ _)
  iapply Hk; iexact H

end

/-- What the resource lets the mixer do: read the input windows, and write the output window and the scratch buffers. -/
structure Ok (c : Dev nD) (R : sProp 𝕄)
    (arg2 : Memref sig .tc .smem S8 .f32) (arg3 : Memref sig .tc .smem S8 .f32) (arg4 : Memref sig .tc .vmem S512x1024 .bf16)
    (arg5 : Memref sig .tc .vmem S128x512 .bf16) (arg6 : Memref sig .tc .vmem S512x512 .bf16) (arg7 : Memref sig .tc .vmem S128x512 .bf16)
    (arg8 : Memref sig .tc .vmem S16x384x128 .f32) (arg9 : Memref sig .tc .vmem S384x128 .f32) (arg10 : Memref sig .tc .vmem S4x1x512 .f32)
    (arg11 : Memref sig .tc .vmem S512x512 .bf16) (arg12 : Memref sig .tc .vmem S512x512 .bf16) (arg13 : Memref sig .tc .vmem S512x512 .bf16)
    (arg14 : Memref sig .tc .vmem S512x512 .bf16) (arg15 : Memref sig .tc .vmem S512x512 .bf16) (arg16 : Memref sig .tc .vmem S512x512 .bf16)
    (arg17 : Memref sig .tc .vmem S512x512 .bf16) (arg18 : Memref sig .tc .vmem S512x512 .bf16) (arg19 : Memref sig .tc .vmem S4x4x64x256 .bf16)
    (arg20 : Memref sig .tc .vmem S1x1024 .f32) (arg21 : Memref sig .tc .vmem S512x2048 .f32) (arg22 : Memref sig .tc .vmem S1x1024 .f32)
    (arg23 : Memref sig .tc .hbm S2048x2048 .f32) (arg24 : Memref sig .tc .vmem S1x2048 .f32) (arg25 : Memref sig .tc .vmem S512x2048 .f32)
    (arg26 : Memref sig .tc .vmem S2048x2048 .bf16) (arg27 : Memref sig .tc .vmem S3x2048x256 .f32) (arg28 : DmaSems sig S3)
    (arg29 : Memref sig .tc .vmem S512x1024 .bf16) (arg30 : Memref sig .tc .vmem S512x1024 .bf16) (arg31 : Memref sig .tc .vmem S4x128x256 .f32)
    (arg32 : Memref sig .tc .vmem S8x128x128 .f32) (arg33 : Memref sig .tc .vmem S4x128x128 .f32) (arg34 : Memref sig .tc .vmem S4x128x128 .f32)
    (arg35 : Memref sig .tc .vmem S4x128x128 .f32) (arg36 : Memref sig .tc .vmem S4x128x256 .f32) : Prop where
  r2 : Rd (F := F) c R arg2
  r3 : Rd (F := F) c R arg3
  r4 : Rd (F := F) c R arg4
  r5 : Rd (F := F) c R arg5
  r6 : Rd (F := F) c R arg6
  r7 : Rd (F := F) c R arg7
  r8 : Rd (F := F) c R arg8
  r9 : Rd (F := F) c R arg9
  r10 : Rd (F := F) c R arg10
  r11 : Rd (F := F) c R arg11
  r12 : Rd (F := F) c R arg12
  r13 : Rd (F := F) c R arg13
  r14 : Rd (F := F) c R arg14
  r15 : Rd (F := F) c R arg15
  r16 : Rd (F := F) c R arg16
  r17 : Rd (F := F) c R arg17
  r18 : Rd (F := F) c R arg18
  r19 : Rd (F := F) c R arg19
  r20 : Rd (F := F) c R arg20
  r21 : Rd (F := F) c R arg21
  r22 : Rd (F := F) c R arg22
  r24 : Rd (F := F) c R arg24
  w25 : Wr (F := F) c R arg25
  w26 : Wr (F := F) c R arg26
  w29 : Wr (F := F) c R arg29
  w30 : Wr (F := F) c R arg30
  w31 : Wr (F := F) c R arg31
  w32 : Wr (F := F) c R arg32
  w33 : Wr (F := F) c R arg33
  w34 : Wr (F := F) c R arg34
  w35 : Wr (F := F) c R arg35
  w36 : Wr (F := F) c R arg36

end Cert.Kernel.Hand
-- ==== Proof.MixLoad.lean ====
module

public import proofs.«01_k».proof.Proof.MixSafe
public import Idealize.ShloMosaic.Lib.Ring
public import Idealize.ShloMosaic.Lib.Tactic
public import Idealize.ShloMosaic.Lib.WordCmp
public import Idealize.ShloMosaic.Lib.Pipeline.FrameBody

/-!
  The mixer's transfers of its weights: eight column blocks go through a three-slot staging buffer into the resident
  buffer, and leave every buffer they use owned as they found it.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The weights in HBM, the resident weights, the staging buffer. -/
abbrev hbW : Memref sig .tc .hbm S2048x2048 .f32 := Memref.whole main_arg10
abbrev scW : Memref sig .tc .vmem S2048x2048 .bf16 := Memref.whole cc0_scratch0
abbrev scS : Memref sig .tc .vmem S3x2048x256 .f32 := Memref.whole cc0_scratch1

/-- One slot of the staging buffer as a matrix. -/
abbrev slotM (r : Fin 3 → ℕ) (h : ∀ a, r a + S1x2048x256.size a ≤ S3x2048x256.size a) : Memref sig .tc .vmem S2048x256 .f32 :=
  (scS.slice (Rect.unit (s := S3x2048x256) r S1x2048x256.size h) (fun _ => rfl)).squeeze S2048x256 squeezes_S1x2048x256_S2048x256
abbrev slot0 := slotM ![0,0,0] inb_S3x2048x256_S1x2048x256_0_0_0
abbrev slot1 := slotM ![1,0,0] inb_S3x2048x256_S1x2048x256_1_0_0
abbrev slot2 := slotM ![2,0,0] inb_S3x2048x256_S1x2048x256_2_0_0

/-- A trip's rectangle lies in its slot. -/
theorem trip_sub (r : Fin 3 → ℕ) (h) (s k : ℕ) (hr : r = ![s, 0, 0]) (hk : k < 8) (o1 : Fin 3 → ℕ) (i1) (ho1 : o1 = ![s, 256 * k, 0]) :
    (scS.access (Rect.unit (s := S3x2048x256) o1 S1x256x256.size i1)).set ⊆ (slotM r h).view.set := by
  subst hr ho1
  rw [show (slotM ![s,0,0] h).view.set = (scS.view.slice (Rect.unit (s := S3x2048x256) ![s,0,0] S1x2048x256.size h)).set from View.set_reshape _ _]
  rw [View.set_slice_whole, View.set_slice_whole]
  intro x hx
  rw [Rect.mem_set_unit] at hx ⊢
  intro a
  have := hx a
  match a with
  | ⟨0, _⟩ => exact this
  | ⟨1, _⟩ =>
    have t : 256 * k ≤ (x 1).val ∧ (x 1).val < 256 * k + 256 := this
    show 0 ≤ (x 1).val ∧ (x 1).val < 0 + 2048
    omega
  | ⟨2, _⟩ => exact this

abbrev slPt (c : Dev nD) (M : Memref sig .tc .vmem S2048x256 .f32) (f : Buf (Elt F) (M.view.loc (c : Thread nD τ))) : sProp 𝕄 :=
  M.view.loc (c : Thread nD τ) ↦[M.view.set]{fullShare} f

/-! ## The staging buffer's three slots -/

theorem inb_slot (s : Fin 3) : ∀ a, (![s.val, 0, 0] : Fin 3 → ℕ) a + S1x2048x256.size a ≤ S3x2048x256.size a := by
  revert s; decide
abbrev slotSet (s : Fin 3) : Finset S3x2048x256.Idx := (Rect.unit (s := S3x2048x256) ![s.val, 0, 0] S1x2048x256.size (inb_slot s)).set
theorem slotM_set (s : Fin 3) : (slotM ![s.val, 0, 0] (inb_slot s)).view.set = slotSet s := by
  simp only [Memref.view_squeeze, View.set_reshape]; exact View.set_slice_whole _ _
theorem slots_disjoint (s s' : Fin 3) (h : s ≠ s') : Disjoint (slotSet s) (slotSet s') :=
  Ring.lead_disjoint (s := S3x2048x256) (0 : Fin 3) 1 (fun j : Fin 3 => (![j.val, 0, 0] : Fin 3 → Nat)) S1x2048x256.size inb_slot (fun j => by simp) rfl s s' h
theorem slots_cover : Finset.univ.biUnion slotSet = Finset.univ :=
  Ring.lead_cover (s := S3x2048x256) (0 : Fin 3) 1 (fun j : Fin 3 => (![j.val, 0, 0] : Fin 3 → Nat)) S1x2048x256.size inb_slot (fun j => by simp)
    (fun j a ha => by fin_cases a <;> first | exact absurd rfl ha | rfl) rfl (fun a ha => by fin_cases a <;> first | exact absurd rfl ha | rfl) rfl
theorem slPt_eq (c : Dev nD) (s : Fin 3) (f) :
    slPt (F := F) c (slotM ![s.val, 0, 0] (inb_slot s)) f = (scS.view.loc (c : Thread nD τ) ↦[slotSet s]{fullShare} f : sProp 𝕄) := by
  unfold slPt; rw [slotM_set]
theorem slots_in (c : Dev nD) :
    iprop(∃ f, scS.view.loc (c : Thread nD τ) ↦{fullShare} f) ⊢ (iprop((∃ f, slPt c slot0 f) ∗ (∃ f, slPt c slot1 f) ∗ ∃ f, slPt c slot2 f) : sProp 𝕄) :=
  Ring.slots3_split (ℓ := scS.view.loc (c : Thread nD τ)) (q := fullShare) slotSet slots_disjoint slots_cover
    (slPt c slot0) (slPt c slot1) (slPt c slot2) (slPt_eq c 0) (slPt_eq c 1) (slPt_eq c 2)
theorem slots_out (c : Dev nD) :
    (iprop((∃ f, slPt c slot0 f) ∗ (∃ f, slPt c slot1 f) ∗ ∃ f, slPt c slot2 f) : sProp 𝕄) ⊢ iprop(∃ f, scS.view.loc (c : Thread nD τ) ↦{fullShare} f) :=
  Ring.slots3_join (ℓ := scS.view.loc (c : Thread nD τ)) (q := fullShare) slotSet slots_disjoint slots_cover
    (slPt c slot0) (slPt c slot1) (slPt c slot2) (slPt_eq c 0) (slPt_eq c 1) (slPt_eq c 2)

/-- A loop's invariant: the slot and the resident buffer at some contents. -/
def LI (c : Dev nD) (r : Fin 3 → ℕ) (h : ∀ a, r a + S1x2048x256.size a ≤ S3x2048x256.size a) (_ : ℕ) (_ : Unit) : sProp 𝕄 :=
  iprop((∃ fs, slPt c (slotM r h) fs) ∗ ∃ f9 : Buf (Elt F) (scW.view.loc (c : Thread nD τ)), (scW.view.loc (c : Thread nD τ) ↦{fullShare} f9))

theorem loop_trip (c : Dev nD) (r : Fin 3 → ℕ) (h) (s k : ℕ) (hr : r = ![s, 0, 0]) (hk : k < 8)
    (o1 : Fin 3 → ℕ) (i1) (ho1 : o1 = ![s, 256 * k, 0]) (o2 : Fin 2 → ℕ) (i2)
    (pay : Vec F S1x256x256 .f32 → FVec F S256x256 .bf16) (h1) (h2) (hx) (hm) (acc : Unit) :
    LI c r h k acc ⊢ wp frame (wpE (defs₀ (F := F)) Variants.none c none) Set.univ
      (Prog.lift (.load scS (Rect.unit (s := S3x2048x256) o1 S1x256x256.size i1).toLoadRect h1) >>= fun v =>
        Prog.lift (.load scW (Rect.unit (s := S2048x2048) o2 S256x256.size i2).toLoadRect h2) >>= fun _ =>
          Prog.lift (.store scW (Rect.unit (s := S2048x2048) o2 S256x256.size i2) (pay v) Finset.univ hx hm) >>= fun _ => pure ())
      (LI c r h (k + 1)) := by
  unfold LI slPt
  iintro ⟨⟨%fs, H1⟩, %f9, H2⟩
  iapply (Cert.Stage.trip (defs := defs₀ (F := F)) c scS scW _ _ h1 h2 pay hx hm _ (trip_sub r h s k hr hk o1 i1 ho1))
  isplitl [H1]; · iexact H1
  isplitl [H2]; · iexact H2
  iintro ⟨H1, H2⟩
  isplitl [H1]
  · iexists fs; iexact H1
  iexists _
  iexact H2

/-- What the transfers use: the resident buffer, the staging buffer's slots, the weights in HBM, the semaphores. -/
def Zr (c : Dev nD) (fw : Buf (Elt F) (hbW.view.loc (c : Thread nD τ))) : sProp 𝕄 :=
  iprop((∃ f, scW.view.loc (c : Thread nD τ) ↦{fullShare} f) ∗ (hbW.view.loc (c : Thread nD τ) ↦{fullShare} fw)
    ∗ (∃ f, slPt c slot0 f) ∗ (∃ f, slPt c slot1 f) ∗ (∃ f, slPt c slot2 f)
    ∗ semVal ((c : Thread nD τ), SemLoc.dma 38) 0 ∗ semVal ((c : Thread nD τ), SemLoc.dma 39) 0 ∗ semVal ((c : Thread nD τ), SemLoc.dma 40) 0
    ∗ (∃ W, owes (c : Thread nD τ) 0 W))

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

set_option maxRecDepth 65536
set_option maxHeartbeats 4000000 in
theorem load_safe (k0_h1 : k0_cond1 i = 1#1) (fw : Buf (Elt F) (hbW.view.loc (c : Thread nD τ))) :
    Safe (F := F) c (Zr c fw) (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hbW (Memref.isWhole_whole _) arg24 harg24 arg25 harg25 scW (Memref.isWhole_whole _) scS (Memref.isWhole_whole _) cc0_scratch2 arg29 harg29 arg30 harg30 arg31 harg31 arg32 harg32 arg33 harg33 arg34 harg34 arg35 harg35 arg36 harg36 k0_h1 >>= fun _ => k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hbW (Memref.isWhole_whole _) arg24 harg24 arg25 harg25 scW (Memref.isWhole_whole _) scS (Memref.isWhole_whole _) cc0_scratch2 arg29 harg29 arg30 harg30 arg31 harg31 arg32 harg32 arg33 harg33 arg34 harg34 arg35 harg35 arg36 harg36 k0_h1 >>= fun _ => k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hbW (Memref.isWhole_whole _) arg24 harg24 arg25 harg25 scW (Memref.isWhole_whole _) scS (Memref.isWhole_whole _) cc0_scratch2 arg29 harg29 arg30 harg30 arg31 harg31 arg32 harg32 arg33 harg33 arg34 harg34 arg35 harg35 arg36 harg36 k0_h1 >>= fun _ => k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hbW (Memref.isWhole_whole _) arg24 harg24 arg25 harg25 scW (Memref.isWhole_whole _) scS (Memref.isWhole_whole _) cc0_scratch2 arg29 harg29 arg30 harg30 arg31 harg31 arg32 harg32 arg33 harg33 arg34 harg34 arg35 harg35 arg36 harg36 k0_h1) := by
  unfold Safe Zr
  iintro ⟨⟨%g9, H9⟩, Hw, ⟨%g0, H20⟩, ⟨%g1, H21⟩, ⟨%g2, H22⟩, Hq0, Hq1, Hq2, ⟨%W, HW⟩⟩
  unfold slPt
  sl_exec (disch := sl_exact k0_h1)
  sl_for (LI c ![0,0,0] inb_S3x2048x256_S1x2048x256_0_0_0) $$ [H20 H9]
  · intro k acc
    exact loop_trip c _ _ 0 k rfl (lt_of_lt_of_le k.isLt k0_t1_abs.2.1) _ _ (k0_off1_eq k) _ _ k0_pay2 _ _ _ _ acc
  · unfold LI slPt
    isplitl [H20]
    · iexists _; iexact H20
    · iexists _; iexact H9
  iintro %acc HI
  unfold LI slPt
  icases HI with ⟨⟨%fs0, H20⟩, %f9_0, H9⟩
  sl_exec (disch := sl_exact k0_h1)
  sl_for (LI c ![1,0,0] inb_S3x2048x256_S1x2048x256_1_0_0) $$ [H21 H9]
  · intro k acc
    exact loop_trip c _ _ 1 k rfl (lt_of_lt_of_le k.isLt k0_t2_abs.2.1) _ _ (k0_off3_eq k) _ _ k0_pay3 _ _ _ _ acc
  · unfold LI slPt
    isplitl [H21]
    · iexists _; iexact H21
    · iexists _; iexact H9
  iintro %acc HI
  unfold LI slPt
  icases HI with ⟨⟨%fs1, H21⟩, %f9_1, H9⟩
  sl_exec (disch := sl_exact k0_h1)
  sl_for (LI c ![2,0,0] inb_S3x2048x256_S1x2048x256_2_0_0) $$ [H22 H9]
  · intro k acc
    exact loop_trip c _ _ 2 k rfl (lt_of_lt_of_le k.isLt k0_t3_abs.2.1) _ _ (k0_off5_eq k) _ _ k0_pay4 _ _ _ _ acc
  · unfold LI slPt
    isplitl [H22]
    · iexists _; iexact H22
    · iexists _; iexact H9
  iintro %acc HI
  unfold LI slPt
  icases HI with ⟨⟨%fs2, H22⟩, %f9_2, H9⟩
  sl_exec (disch := sl_exact k0_h1)
  sl_for (LI c ![0,0,0] inb_S3x2048x256_S1x2048x256_0_0_0) $$ [H20 H9]
  · intro k acc
    exact loop_trip c _ _ 0 k rfl (lt_of_lt_of_le k.isLt k0_t4_abs.2.1) _ _ (k0_off7_eq k) _ _ k0_pay5 _ _ _ _ acc
  · unfold LI slPt
    isplitl [H20]
    · iexists _; iexact H20
    · iexists _; iexact H9
  iintro %acc HI
  unfold LI slPt
  icases HI with ⟨⟨%fs3, H20⟩, %f9_3, H9⟩
  sl_exec (disch := sl_exact k0_h1)
  sl_for (LI c ![1,0,0] inb_S3x2048x256_S1x2048x256_1_0_0) $$ [H21 H9]
  · intro k acc
    exact loop_trip c _ _ 1 k rfl (lt_of_lt_of_le k.isLt k0_t5_abs.2.1) _ _ (k0_off9_eq k) _ _ k0_pay6 _ _ _ _ acc
  · unfold LI slPt
    isplitl [H21]
    · iexists _; iexact H21
    · iexists _; iexact H9
  iintro %acc HI
  unfold LI slPt
  icases HI with ⟨⟨%fs4, H21⟩, %f9_4, H9⟩
  sl_exec (disch := sl_exact k0_h1)
  sl_for (LI c ![2,0,0] inb_S3x2048x256_S1x2048x256_2_0_0) $$ [H22 H9]
  · intro k acc
    exact loop_trip c _ _ 2 k rfl (lt_of_lt_of_le k.isLt k0_t6_abs.2.1) _ _ (k0_off11_eq k) _ _ k0_pay7 _ _ _ _ acc
  · unfold LI slPt
    isplitl [H22]
    · iexists _; iexact H22
    · iexists _; iexact H9
  iintro %acc HI
  unfold LI slPt
  icases HI with ⟨⟨%fs5, H22⟩, %f9_5, H9⟩
  sl_exec (disch := sl_exact k0_h1)
  sl_for (LI c ![0,0,0] inb_S3x2048x256_S1x2048x256_0_0_0) $$ [H20 H9]
  · intro k acc
    exact loop_trip c _ _ 0 k rfl (lt_of_lt_of_le k.isLt k0_t7_abs.2.1) _ _ (k0_off13_eq k) _ _ k0_pay8 _ _ _ _ acc
  · unfold LI slPt
    isplitl [H20]
    · iexists _; iexact H20
    · iexists _; iexact H9
  iintro %acc HI
  unfold LI slPt
  icases HI with ⟨⟨%fs6, H20⟩, %f9_6, H9⟩
  sl_exec (disch := sl_exact k0_h1)
  sl_for (LI c ![1,0,0] inb_S3x2048x256_S1x2048x256_1_0_0) $$ [H21 H9]
  · intro k acc
    exact loop_trip c _ _ 1 k rfl (lt_of_lt_of_le k.isLt k0_t8_abs.2.1) _ _ (k0_off15_eq k) _ _ k0_pay9 _ _ _ _ acc
  · unfold LI slPt
    isplitl [H21]
    · iexists _; iexact H21
    · iexists _; iexact H9
  iintro %acc HI
  unfold LI slPt
  icases HI with ⟨⟨%fs7, H21⟩, %f9_7, H9⟩
  sl_exec (disch := sl_exact k0_h1)
  sl_step
  isplitl [H9]; · iexists _; iexact H9
  isplitl [Hw]; · iexact Hw
  isplitl [H20]; · iexists _; iexact H20
  isplitl [H21]; · iexists _; iexact H21
  isplitl [H22]; · iexists _; iexact H22
  isplitl [Hq0]; · iexact Hq0
  isplitl [Hq1]; · iexact Hq1
  isplitl [Hq2]; · iexact Hq2
  iexists _; iexact HW

end Cert.Kernel.Hand
-- ==== Proof.MixPartsA.lean ====
module

public import proofs.«01_k».proof.Proof.MixSafe

/-!
  The mixer's parts 5 to 25 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s5 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36)  :
    Safe (F := F) c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 ) := by
  rw [k0_part5_eq_skeleton]; unfold k0_part5_skel; cases h
  repeat' first | (with_reducible first | refine safe_bind ?_ fun _ => ?_ | exact safe_load (by assumption) | exact safe_load (Wr.rd (by assumption)) | exact safe_store (by assumption) | exact safe_ret _) | exact safe_smem (by assumption)

theorem s6 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3942 : FVec F S128x128 .f32) (v3945 : IVec S128x128 1) (v3946 : Elt F .f32) :
    Safe (F := F) c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3942 v3945 v3946) := by
  rw [k0_part6_eq_skeleton]; unfold k0_part6_skel; cases h
  repeat' first | (with_reducible first | refine safe_bind ?_ fun _ => ?_ | exact safe_load (by assumption) | exact safe_load (Wr.rd (by assumption)) | exact safe_store (by assumption) | exact safe_ret _) | exact safe_smem (by assumption)

theorem s7 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3907 : FVec F S128x128 .f32) (v3963 : FVec F S128x256 .f32) (v3965 : IVec S128x256 32) (v3989 : IVec S128x256 32) (c128_i32_2053 : BitVec 32) (v3990 : IVec S128x256 32) :
    Safe (F := F) c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3907 v3963 v3965 v3989 c128_i32_2053 v3990) := by
  rw [k0_part7_eq_skeleton]; unfold k0_part7_skel; cases h
  repeat' first | (with_reducible first | refine safe_bind ?_ fun _ => ?_ | exact safe_load (by assumption) | exact safe_load (Wr.rd (by assumption)) | exact safe_store (by assumption) | exact safe_ret _) | exact safe_smem (by assumption)

theorem s8 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3907 : FVec F S128x128 .f32) (v4034 : FVec F S128x128 .f32) :
    Safe (F := F) c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3907 v4034) := by
  rw [k0_part8_eq_skeleton]; unfold k0_part8_skel; cases h
  repeat' first | (with_reducible first | refine safe_bind ?_ fun _ => ?_ | exact safe_load (by assumption) | exact safe_load (Wr.rd (by assumption)) | exact safe_store (by assumption) | exact safe_ret _) | exact safe_smem (by assumption)

theorem s9 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v4070 : IVec S128x256 1) (v4071 : Elt F .f32) :
    Safe (F := F) c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v4070 v4071) := by
  rw [k0_part9_eq_skeleton]; unfold k0_part9_skel; cases h
  repeat' first | (with_reducible first | refine safe_bind ?_ fun _ => ?_ | exact safe_load (by assumption) | exact safe_load (Wr.rd (by assumption)) | exact safe_store (by assumption) | exact safe_ret _) | exact safe_smem (by assumption)

theorem s10 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3907 : FVec F S128x128 .f32) (v4075 : FVec F S128x256 .f32) (v4101 : IVec S128x256 32) (v4103 : IVec S128x256 32) (v4117 : IVec S128x256 1) (v4119 : IVec S128x256 32) :
    Safe (F := F) c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3907 v4075 v4101 v4103 v4117 v4119) := by
  rw [k0_part10_eq_skeleton]; unfold k0_part10_skel; cases h
  repeat' first | (with_reducible first | refine safe_bind ?_ fun _ => ?_ | exact safe_load (by assumption) | exact safe_load (Wr.rd (by assumption)) | exact safe_store (by assumption) | exact safe_ret _) | exact safe_smem (by assumption)

theorem s11 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3907 : FVec F S128x128 .f32) (v4151 : FVec F S128x128 .f32) (v4159 : FVec F S128x128 .f32) :
    Safe (F := F) c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3907 v4151 v4159) := by
  rw [k0_part11_eq_skeleton]; unfold k0_part11_skel; cases h
  repeat' first | (with_reducible first | refine safe_bind ?_ fun _ => ?_ | exact safe_load (by assumption) | exact safe_load (Wr.rd (by assumption)) | exact safe_store (by assumption) | exact safe_ret _) | exact safe_smem (by assumption)

theorem s12 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v4187 : FVec F S128x256 .f32) (v4188 : IVec S128x256 32) (v4189 : IVec S128x256 32) (c64_i32_2132 : BitVec 32) (v4191 : IVec S128x256 32) (v4198 : IVec S128x256 32) (v4200 : BitVec 32) :
    Safe (F := F) c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v4187 v4188 v4189 c64_i32_2132 v4191 v4198 v4200) := by
  rw [k0_part12_eq_skeleton]; unfold k0_part12_skel; cases h
  repeat' first | (with_reducible first | refine safe_bind ?_ fun _ => ?_ | exact safe_load (by assumption) | exact safe_load (Wr.rd (by assumption)) | exact safe_store (by assumption) | exact safe_ret _) | exact safe_smem (by assumption)

theorem s13 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3907 : FVec F S128x128 .f32) (v4243 : FVec F S128x256 .f32) :
    Safe (F := F) c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3907 v4243) := by
  rw [k0_part13_eq_skeleton]; unfold k0_part13_skel; cases h
  repeat' first | (with_reducible first | refine safe_bind ?_ fun _ => ?_ | exact safe_load (by assumption) | exact safe_load (Wr.rd (by assumption)) | exact safe_store (by assumption) | exact safe_ret _) | exact safe_smem (by assumption)

theorem s14 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v4278 : FVec F S128x128 .f32) (v4281 : IVec S128x128 1) (v4283 : Elt F .f32) (v4284 : FVec F S128x128 .f32) :
    Safe (F := F) c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v4278 v4281 v4283 v4284) := by
  rw [k0_part14_eq_skeleton]; unfold k0_part14_skel; cases h
  repeat' first | (with_reducible first | refine safe_bind ?_ fun _ => ?_ | exact safe_load (by assumption) | exact safe_load (Wr.rd (by assumption)) | exact safe_store (by assumption) | exact safe_ret _) | exact safe_smem (by assumption)

theorem s15 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3910 : FVec F S128x128 .f32) (v4299 : FVec F S128x256 .f32) (v4301 : IVec S128x256 32) (v4325 : IVec S128x256 32) (c128_i32_2182 : BitVec 32) (v4327 : IVec S128x256 32) (v4328 : IVec S128x256 32) :
    Safe (F := F) c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3910 v4299 v4301 v4325 c128_i32_2182 v4327 v4328) := by
  rw [k0_part15_eq_skeleton]; unfold k0_part15_skel; cases h
  repeat' first | (with_reducible first | refine safe_bind ?_ fun _ => ?_ | exact safe_load (by assumption) | exact safe_load (Wr.rd (by assumption)) | exact safe_store (by assumption) | exact safe_ret _) | exact safe_smem (by assumption)

theorem s16 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3910 : FVec F S128x128 .f32) (v4370 : FVec F S128x128 .f32) :
    Safe (F := F) c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3910 v4370) := by
  rw [k0_part16_eq_skeleton]; unfold k0_part16_skel; cases h
  repeat' first | (with_reducible first | refine safe_bind ?_ fun _ => ?_ | exact safe_load (by assumption) | exact safe_load (Wr.rd (by assumption)) | exact safe_store (by assumption) | exact safe_ret _) | exact safe_smem (by assumption)

theorem s17 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3910 : FVec F S128x128 .f32) (v4405 : IVec S128x128 1) (v4408 : FVec F S128x128 .f32) (v4409 : Elt F .f32) (cst_2218 : F .f32) :
    Safe (F := F) c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3910 v4405 v4408 v4409 cst_2218) := by
  rw [k0_part17_eq_skeleton]; unfold k0_part17_skel; cases h
  repeat' first | (with_reducible first | refine safe_bind ?_ fun _ => ?_ | exact safe_load (by assumption) | exact safe_load (Wr.rd (by assumption)) | exact safe_store (by assumption) | exact safe_ret _) | exact safe_smem (by assumption)

theorem s20 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v11 : FVec F S768x512 .bf16) (v14 : IVec S768x128 1) (v25 : FVec F S768x128 .bf16) (v26 : FVec F S768x128 .bf16) (v28 : FVec F S768x128 .bf16) (v31 : FVec F S768x128 .bf16) (v32 : FVec F S768x128 .bf16) :
    Safe (F := F) c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v11 v14 v25 v26 v28 v31 v32) := by
  rw [k0_part20_eq_skeleton]; unfold k0_part20_skel; cases h
  repeat' first | (with_reducible first | refine safe_bind ?_ fun _ => ?_ | exact safe_load (by assumption) | exact safe_load (Wr.rd (by assumption)) | exact safe_store (by assumption) | exact safe_ret _) | exact safe_smem (by assumption)

theorem s21 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v21 : FVec F S128x512 .f32) (v61 : IVec S128x128 1) (v70 : FVec F S256x128 .bf16) (v72 : FVec F S384x256 .f32) (v73 : FVec F S384x128 .bf16) :
    Safe (F := F) c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v21 v61 v70 v72 v73) := by
  rw [k0_part21_eq_skeleton]; unfold k0_part21_skel; cases h
  repeat' first | (with_reducible first | refine safe_bind ?_ fun _ => ?_ | exact safe_load (by assumption) | exact safe_load (Wr.rd (by assumption)) | exact safe_store (by assumption) | exact safe_ret _) | exact safe_smem (by assumption)

theorem s22 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v33 : FVec F S768x128 .bf16) (v36 : FVec F S768x128 .bf16) (v39 : FVec F S768x128 .bf16) (v79 : FVec F S128x128 .f32) (v83 : FVec F S128x128 .f32) (v105 : FVec F S384x512 .f32) (v107 : FVec F S1x512 .f32) :
    Safe (F := F) c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v33 v36 v39 v79 v83 v105 v107) := by
  rw [k0_part22_eq_skeleton]; unfold k0_part22_skel; cases h
  repeat' first | (with_reducible first | refine safe_bind ?_ fun _ => ?_ | exact safe_load (by assumption) | exact safe_load (Wr.rd (by assumption)) | exact safe_store (by assumption) | exact safe_ret _) | exact safe_smem (by assumption)

theorem s23 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v61 : IVec S128x128 1) (v116 : FVec F S1x512 .f32) (v121 : FVec F S384x256 .f32) (v123 : FVec F S384x256 .f32) (v145 : FVec F S64x512 .f32) (v146 : FVec F S1x512 .f32) :
    Safe (F := F) c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v61 v116 v121 v123 v145 v146) := by
  rw [k0_part23_eq_skeleton]; unfold k0_part23_skel; cases h
  repeat' first | (with_reducible first | refine safe_bind ?_ fun _ => ?_ | exact safe_load (by assumption) | exact safe_load (Wr.rd (by assumption)) | exact safe_store (by assumption) | exact safe_ret _) | exact safe_smem (by assumption)

theorem s24 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v21 : FVec F S128x512 .f32) (v64 : IVec S128x256 1) (v67 : IVec S64x256 1) (v176 : FVec F S384x512 .f32) (v178 : FVec F S384x128 .f32) (v180 : FVec F S384x128 .f32) (v181 : Vec F S1x384x128 .f32) :
    Safe (F := F) c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v21 v64 v67 v176 v178 v180 v181) := by
  rw [k0_part24_eq_skeleton]; unfold k0_part24_skel; cases h
  repeat' first | (with_reducible first | refine safe_bind ?_ fun _ => ?_ | exact safe_load (by assumption) | exact safe_load (Wr.rd (by assumption)) | exact safe_store (by assumption) | exact safe_ret _) | exact safe_smem (by assumption)

theorem s25 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v67 : IVec S64x256 1) (v142 : FVec F S128x512 .bf16) (v210 : FVec F S128x128 .f32) (v211 : Vec F S128x256 .bf16) (v214 : FVec F S64x256 .bf16) (v215 : FVec F S64x256 .bf16) (v216 : Vec F S128x256 .bf16) (v217 : FVec F S128x256 .bf16) (v220 : FVec F S128x256 .bf16) (v221 : FVec F S64x256 .bf16) :
    Safe (F := F) c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v67 v142 v210 v211 v214 v215 v216 v217 v220 v221) := by
  rw [k0_part25_eq_skeleton]; unfold k0_part25_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixPartsB.lean ====
module

public import proofs.«01_k».proof.Proof.MixSafe

/-!
  The mixer's parts 26 to 44 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s26 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v224 : FVec F S128x256 .f32) (v231 : FVec F S128x256 .f32) (v234 : FVec F S128x256 .f32) (v236 : IVec S128x256 32) (v260 : IVec S128x256 32) (c128_i32_133 : BitVec 32) (v262 : IVec S128x256 32) :
    Safe (F := F) c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v224 v231 v234 v236 v260 c128_i32_133 v262) := by
  rw [k0_part26_eq_skeleton]; unfold k0_part26_skel; cases h
  repeat' first | (with_reducible first | refine safe_bind ?_ fun _ => ?_ | exact safe_load (by assumption) | exact safe_load (Wr.rd (by assumption)) | exact safe_store (by assumption) | exact safe_ret _) | exact safe_smem (by assumption)

theorem s27 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v224 : FVec F S128x256 .f32) (v298 : FVec F S128x128 .f32) (v306 : FVec F S128x1 .f32) :
    Safe (F := F) c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v224 v298 v306) := by
  rw [k0_part27_eq_skeleton]; unfold k0_part27_skel; cases h
  repeat' first | (with_reducible first | refine safe_bind ?_ fun _ => ?_ | exact safe_load (by assumption) | exact safe_load (Wr.rd (by assumption)) | exact safe_store (by assumption) | exact safe_ret _) | exact safe_smem (by assumption)

theorem s28 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v41 : FVec F S768x128 .bf16) (v45 : FVec F S768x128 .bf16) (v48 : FVec F S768x128 .bf16) (v171 : FVec F S128x128 .f32) (v175 : FVec F S128x128 .f32) (v206 : FVec F S384x512 .bf16) (v208 : FVec F S1x512 .f32) :
    Safe (F := F) c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v41 v45 v48 v171 v175 v206 v208) := by
  rw [k0_part28_eq_skeleton]; unfold k0_part28_skel; cases h
  repeat' first | (with_reducible first | refine safe_bind ?_ fun _ => ?_ | exact safe_load (by assumption) | exact safe_load (Wr.rd (by assumption)) | exact safe_store (by assumption) | exact safe_ret _) | exact safe_smem (by assumption)

theorem s29 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v21 : FVec F S128x512 .f32) (v61 : IVec S128x128 1) (v350 : FVec F S384x256 .f32) (v352 : FVec F S384x256 .f32) (v383 : FVec F S128x256 .f32) (v385 : FVec F S128x128 .f32) :
    Safe (F := F) c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v21 v61 v350 v352 v383 v385) := by
  rw [k0_part29_eq_skeleton]; unfold k0_part29_skel; cases h
  repeat' first | (with_reducible first | refine safe_bind ?_ fun _ => ?_ | exact safe_load (by assumption) | exact safe_load (Wr.rd (by assumption)) | exact safe_store (by assumption) | exact safe_ret _) | exact safe_smem (by assumption)

theorem s30 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v64 : IVec S128x256 1) (v67 : IVec S64x256 1) (v371 : FVec F S128x512 .bf16) (v405 : FVec F S384x512 .f32) (v414 : FVec F S384x512 .f32) (v418 : FVec F S128x512 .f32) :
    Safe (F := F) c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v64 v67 v371 v405 v414 v418) := by
  rw [k0_part30_eq_skeleton]; unfold k0_part30_skel; cases h
  repeat' first | (with_reducible first | refine safe_bind ?_ fun _ => ?_ | exact safe_load (by assumption) | exact safe_load (Wr.rd (by assumption)) | exact safe_store (by assumption) | exact safe_ret _) | exact safe_smem (by assumption)

theorem s31 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v439 : FVec F S128x128 .f32) (v440 : Vec F S128x256 .bf16) (v455 : FVec F S128x128 .f32) :
    Safe (F := F) c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v439 v440 v455) := by
  rw [k0_part31_eq_skeleton]; unfold k0_part31_skel; cases h
  repeat' first | (with_reducible first | refine safe_bind ?_ fun _ => ?_ | exact safe_load (by assumption) | exact safe_load (Wr.rd (by assumption)) | exact safe_store (by assumption) | exact safe_ret _) | exact safe_smem (by assumption)

theorem s32 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v453 : FVec F S128x256 .f32) (v460 : FVec F S128x256 .f32) (v463 : FVec F S128x256 .f32) (v465 : IVec S128x256 32) (v489 : IVec S128x256 32) (c128_i32_242 : BitVec 32) (v491 : IVec S128x256 32) (v498 : IVec S128x256 32) (v499 : BitVec 1) :
    Safe (F := F) c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v453 v460 v463 v465 v489 c128_i32_242 v491 v498 v499) := by
  rw [k0_part32_eq_skeleton]; unfold k0_part32_skel; cases h
  repeat' first | (with_reducible first | refine safe_bind ?_ fun _ => ?_ | exact safe_load (by assumption) | exact safe_load (Wr.rd (by assumption)) | exact safe_store (by assumption) | exact safe_ret _) | exact safe_smem (by assumption)

theorem s33 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v53 : FVec F S768x128 .bf16) (v56 : FVec F S768x128 .bf16) (v453 : FVec F S128x256 .f32) (v540 : FVec F S128x128 .f32) (v542 : FVec F S128x128 .f32) :
    Safe (F := F) c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v53 v56 v453 v540 v542) := by
  rw [k0_part33_eq_skeleton]; unfold k0_part33_skel; cases h
  repeat' first | (with_reducible first | refine safe_bind ?_ fun _ => ?_ | exact safe_load (by assumption) | exact safe_load (Wr.rd (by assumption)) | exact safe_store (by assumption) | exact safe_ret _) | exact safe_smem (by assumption)

theorem s34 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v50 : FVec F S768x128 .bf16) (v400 : FVec F S128x128 .f32) (v404 : FVec F S128x128 .f32) (v435 : FVec F S384x512 .bf16) (v437 : FVec F S1x512 .f32) :
    Safe (F := F) c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v50 v400 v404 v435 v437) := by
  rw [k0_part34_eq_skeleton]; unfold k0_part34_skel; cases h
  repeat' first | (with_reducible first | refine safe_bind ?_ fun _ => ?_ | exact safe_load (by assumption) | exact safe_load (Wr.rd (by assumption)) | exact safe_store (by assumption) | exact safe_ret _) | exact safe_smem (by assumption)

theorem s35 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v21 : FVec F S128x512 .f32) (v61 : IVec S128x128 1) (v579 : FVec F S384x256 .f32) (v581 : FVec F S384x256 .f32) (v621 : FVec F S128x128 .bf16) :
    Safe (F := F) c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v21 v61 v579 v581 v621) := by
  rw [k0_part35_eq_skeleton]; unfold k0_part35_skel; cases h
  repeat' first | (with_reducible first | refine safe_bind ?_ fun _ => ?_ | exact safe_load (by assumption) | exact safe_load (Wr.rd (by assumption)) | exact safe_store (by assumption) | exact safe_ret _) | exact safe_smem (by assumption)

theorem s36 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v600 : FVec F S128x512 .bf16) (v655 : FVec F S384x512 .f32) :
    Safe (F := F) c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v600 v655) := by
  rw [k0_part36_eq_skeleton]; unfold k0_part36_skel; cases h
  repeat' first | (with_reducible first | refine safe_bind ?_ fun _ => ?_ | exact safe_load (by assumption) | exact safe_load (Wr.rd (by assumption)) | exact safe_store (by assumption) | exact safe_ret _) | exact safe_smem (by assumption)

theorem s37 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v686 : FVec F S128x256 .f32) (v690 : Vec F S1x128x256 .f32) :
    Safe (F := F) c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v686 v690) := by
  rw [k0_part37_eq_skeleton]; unfold k0_part37_skel; cases h
  repeat' first | (with_reducible first | refine safe_bind ?_ fun _ => ?_ | exact safe_load (by assumption) | exact safe_load (Wr.rd (by assumption)) | exact safe_store (by assumption) | exact safe_ret _) | exact safe_smem (by assumption)

theorem s38 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v682 : FVec F S128x256 .f32) (v689 : FVec F S128x256 .f32) (v692 : FVec F S128x256 .f32) (v718 : IVec S128x256 32) (v720 : IVec S128x256 32) (v734 : IVec S128x256 1) (v736 : IVec S128x256 32) (v737 : IVec S128x256 32) :
    Safe (F := F) c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v682 v689 v692 v718 v720 v734 v736 v737) := by
  rw [k0_part38_eq_skeleton]; unfold k0_part38_skel; cases h
  repeat' first | (with_reducible first | refine safe_bind ?_ fun _ => ?_ | exact safe_load (by assumption) | exact safe_load (Wr.rd (by assumption)) | exact safe_store (by assumption) | exact safe_ret _) | exact safe_smem (by assumption)

theorem s39 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v28 : FVec F S768x128 .bf16) (v31 : FVec F S768x128 .bf16) (v629 : FVec F S128x128 .f32) (v777 : FVec F S128x128 .f32) (v778 : FVec F S128 .f32) :
    Safe (F := F) c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v28 v31 v629 v777 v778) := by
  rw [k0_part39_eq_skeleton]; unfold k0_part39_skel; cases h
  repeat' first | (with_reducible first | refine safe_bind ?_ fun _ => ?_ | exact safe_load (by assumption) | exact safe_load (Wr.rd (by assumption)) | exact safe_store (by assumption) | exact safe_ret _) | exact safe_smem (by assumption)

theorem s40 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v58 : FVec F S768x128 .bf16) (v633 : FVec F S128x128 .f32) (v664 : FVec F S384x512 .bf16) (v666 : FVec F S1x512 .f32) (v812 : FVec F S128x128 .f32) (v816 : FVec F S128x128 .bf16) :
    Safe (F := F) c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v58 v633 v664 v666 v812 v816) := by
  rw [k0_part40_eq_skeleton]; unfold k0_part40_skel; cases h
  repeat' first | (with_reducible first | refine safe_bind ?_ fun _ => ?_ | exact safe_load (by assumption) | exact safe_load (Wr.rd (by assumption)) | exact safe_store (by assumption) | exact safe_ret _) | exact safe_smem (by assumption)

theorem s41 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v61 : IVec S128x128 1) (v808 : FVec F S384x256 .f32) (v810 : FVec F S384x256 .f32) (v854 : Vec F S128x128 .bf16) (v855 : Vec F S128x128 .bf16) :
    Safe (F := F) c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v61 v808 v810 v854 v855) := by
  rw [k0_part41_eq_skeleton]; unfold k0_part41_skel; cases h
  repeat' first | (with_reducible first | refine safe_bind ?_ fun _ => ?_ | exact safe_load (by assumption) | exact safe_load (Wr.rd (by assumption)) | exact safe_store (by assumption) | exact safe_ret _) | exact safe_smem (by assumption)

theorem s42 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v829 : FVec F S128x512 .bf16) (v894 : FVec F S1x512 .f32) :
    Safe (F := F) c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v829 v894) := by
  rw [k0_part42_eq_skeleton]; unfold k0_part42_skel; cases h
  repeat' first | (with_reducible first | refine safe_bind ?_ fun _ => ?_ | exact safe_load (by assumption) | exact safe_load (Wr.rd (by assumption)) | exact safe_store (by assumption) | exact safe_ret _) | exact safe_smem (by assumption)

theorem s43 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v918 : FVec F S128x256 .f32) (v921 : FVec F S128x256 .f32) (v922 : IVec S128x256 32) (v923 : IVec S128x256 32) (c64_i32_459 : BitVec 32) (v925 : IVec S128x256 32) (v928 : IVec S128x256 32) :
    Safe (F := F) c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v918 v921 v922 v923 c64_i32_459 v925 v928) := by
  rw [k0_part43_eq_skeleton]; unfold k0_part43_skel; cases h
  repeat' first | (with_reducible first | refine safe_bind ?_ fun _ => ?_ | exact safe_load (by assumption) | exact safe_load (Wr.rd (by assumption)) | exact safe_store (by assumption) | exact safe_ret _) | exact safe_smem (by assumption)

theorem s44 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v911 : FVec F S128x256 .f32) (v975 : FVec F S128x256 .f32) :
    Safe (F := F) c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v911 v975) := by
  rw [k0_part44_eq_skeleton]; unfold k0_part44_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixPartsC.lean ====
module

public import proofs.«01_k».proof.Proof.MixSafe

/-!
  The mixer's parts 45 to 63 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s45 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v36 : FVec F S768x128 .bf16) (v39 : FVec F S768x128 .bf16) (v858 : FVec F S128x128 .f32) (v862 : FVec F S128x128 .f32) (v1012 : FVec F S128x128 .f32) (v1015 : FVec F S128x1 .f32) (cst_491 : F .f32) :
    Safe (F := F) c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v36 v39 v858 v862 v1012 v1015 cst_491) := by
  rw [k0_part45_eq_skeleton]; unfold k0_part45_skel; cases h
  repeat' first | (with_reducible first | refine safe_bind ?_ fun _ => ?_ | exact safe_load (by assumption) | exact safe_load (Wr.rd (by assumption)) | exact safe_store (by assumption) | exact safe_ret _) | exact safe_smem (by assumption)

theorem s46 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v33 : FVec F S768x128 .bf16) (v61 : IVec S128x128 1) (v893 : FVec F S384x512 .bf16) (v895 : FVec F S1x512 .f32) (v1041 : FVec F S128x128 .f32) (v1045 : FVec F S128x128 .bf16) (v1049 : FVec F S128x128 .bf16) (v1050 : Vec F S1x128x128 .f32) :
    Safe (F := F) c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v33 v61 v893 v895 v1041 v1045 v1049 v1050) := by
  rw [k0_part46_eq_skeleton]; unfold k0_part46_skel; cases h
  repeat' first | (with_reducible first | refine safe_bind ?_ fun _ => ?_ | exact safe_load (by assumption) | exact safe_load (Wr.rd (by assumption)) | exact safe_store (by assumption) | exact safe_ret _) | exact safe_smem (by assumption)

theorem s47 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v1037 : FVec F S384x256 .f32) (v1039 : FVec F S384x256 .f32) (v1083 : Vec F S128x128 .bf16) (v1090 : Vec F S128x128 .bf16) (cst_533 : FVec F S128x128 .f32) :
    Safe (F := F) c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v1037 v1039 v1083 v1090 cst_533) := by
  rw [k0_part47_eq_skeleton]; unfold k0_part47_skel; cases h
  repeat' first | (with_reducible first | refine safe_bind ?_ fun _ => ?_ | exact safe_load (by assumption) | exact safe_load (Wr.rd (by assumption)) | exact safe_store (by assumption) | exact safe_ret _) | exact safe_smem (by assumption)

theorem s48 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v1058 : FVec F S128x512 .bf16) (v1126 : FVec F S128x128 .f32) (v1127 : Vec F S128x256 .bf16) (v1128 : FVec F S128x256 .bf16) :
    Safe (F := F) c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v1058 v1126 v1127 v1128) := by
  rw [k0_part48_eq_skeleton]; unfold k0_part48_skel; cases h
  repeat' first | (with_reducible first | refine safe_bind ?_ fun _ => ?_ | exact safe_load (by assumption) | exact safe_load (Wr.rd (by assumption)) | exact safe_store (by assumption) | exact safe_ret _) | exact safe_smem (by assumption)

theorem s49 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1140 : FVec F S128x256 .f32) (v1147 : FVec F S128x256 .f32) (v1150 : FVec F S128x256 .f32) (v1151 : IVec S128x256 32) (v1152 : IVec S128x256 32) (c64_i32_574 : BitVec 32) (v1154 : IVec S128x256 32) (v1161 : IVec S128x256 32) (v1163 : BitVec 32) (v1165 : BitVec 32) :
    Safe (F := F) c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1140 v1147 v1150 v1151 v1152 c64_i32_574 v1154 v1161 v1163 v1165) := by
  rw [k0_part49_eq_skeleton]; unfold k0_part49_skel; cases h
  repeat' first | (with_reducible first | refine safe_bind ?_ fun _ => ?_ | exact safe_load (by assumption) | exact safe_load (Wr.rd (by assumption)) | exact safe_store (by assumption) | exact safe_ret _) | exact safe_smem (by assumption)

theorem s50 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1140 : FVec F S128x256 .f32) (v1208 : FVec F S128x128 .f32) (v1210 : FVec F S128x1 .f32) :
    Safe (F := F) c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1140 v1208 v1210) := by
  rw [k0_part50_eq_skeleton]; unfold k0_part50_skel; cases h
  repeat' first | (with_reducible first | refine safe_bind ?_ fun _ => ?_ | exact safe_load (by assumption) | exact safe_load (Wr.rd (by assumption)) | exact safe_store (by assumption) | exact safe_ret _) | exact safe_smem (by assumption)

theorem s51 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v45 : FVec F S768x128 .bf16) (v48 : FVec F S768x128 .bf16) (v1087 : FVec F S128x128 .f32) (v1091 : FVec F S128x128 .f32) (v1251 : FVec F S128x128 .f32) (v1252 : Vec F S1x128 .f32) :
    Safe (F := F) c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v45 v48 v1087 v1091 v1251 v1252) := by
  rw [k0_part51_eq_skeleton]; unfold k0_part51_skel; cases h
  repeat' first | (with_reducible first | refine safe_bind ?_ fun _ => ?_ | exact safe_load (by assumption) | exact safe_load (Wr.rd (by assumption)) | exact safe_store (by assumption) | exact safe_ret _) | exact safe_smem (by assumption)

theorem s52 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v41 : FVec F S768x128 .bf16) (v61 : IVec S128x128 1) (v1122 : FVec F S384x512 .bf16) (v1124 : FVec F S1x512 .f32) (v1266 : FVec F S384x256 .f32) (v1268 : FVec F S384x256 .f32) :
    Safe (F := F) c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v41 v61 v1122 v1124 v1266 v1268) := by
  rw [k0_part52_eq_skeleton]; unfold k0_part52_skel; cases h
  repeat' first | (with_reducible first | refine safe_bind ?_ fun _ => ?_ | exact safe_load (by assumption) | exact safe_load (Wr.rd (by assumption)) | exact safe_store (by assumption) | exact safe_ret _) | exact safe_smem (by assumption)

theorem s53 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v64 : IVec S128x256 1) (v1321 : FVec F S384x512 .f32) (v1323 : FVec F S384x128 .f32) (v1324 : Vec F S1x384x128 .f32) :
    Safe (F := F) c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v64 v1321 v1323 v1324) := by
  rw [k0_part53_eq_skeleton]; unfold k0_part53_skel; cases h
  repeat' first | (with_reducible first | refine safe_bind ?_ fun _ => ?_ | exact safe_load (by assumption) | exact safe_load (Wr.rd (by assumption)) | exact safe_store (by assumption) | exact safe_ret _) | exact safe_smem (by assumption)

theorem s54 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v67 : IVec S64x256 1) (v1287 : FVec F S128x512 .bf16) (v1355 : FVec F S128x128 .f32) (v1356 : Vec F S128x256 .bf16) (v1359 : FVec F S64x256 .bf16) (v1360 : FVec F S64x256 .bf16) (v1361 : Vec F S128x256 .bf16) (v1362 : FVec F S128x256 .bf16) :
    Safe (F := F) c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v67 v1287 v1355 v1356 v1359 v1360 v1361 v1362) := by
  rw [k0_part54_eq_skeleton]; unfold k0_part54_skel; cases h
  repeat' first | (with_reducible first | refine safe_bind ?_ fun _ => ?_ | exact safe_load (by assumption) | exact safe_load (Wr.rd (by assumption)) | exact safe_store (by assumption) | exact safe_ret _) | exact safe_smem (by assumption)

theorem s55 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1369 : FVec F S128x256 .f32) (v1376 : FVec F S128x256 .f32) (v1379 : FVec F S128x256 .f32) (v1381 : IVec S128x256 32) (v1383 : IVec S128x256 32) (v1402 : IVec S128x256 1) (v1403 : IVec S128x256 32) :
    Safe (F := F) c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1369 v1376 v1379 v1381 v1383 v1402 v1403) := by
  rw [k0_part55_eq_skeleton]; unfold k0_part55_skel; cases h
  repeat' first | (with_reducible first | refine safe_bind ?_ fun _ => ?_ | exact safe_load (by assumption) | exact safe_load (Wr.rd (by assumption)) | exact safe_store (by assumption) | exact safe_ret _) | exact safe_smem (by assumption)

theorem s56 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1369 : FVec F S128x256 .f32) (v1443 : FVec F S128x128 .f32) (v1446 : FVec F S128x1 .f32) (v1447 : FVec F S128x1 .f32) :
    Safe (F := F) c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1369 v1443 v1446 v1447) := by
  rw [k0_part56_eq_skeleton]; unfold k0_part56_skel; cases h
  repeat' first | (with_reducible first | refine safe_bind ?_ fun _ => ?_ | exact safe_load (by assumption) | exact safe_load (Wr.rd (by assumption)) | exact safe_store (by assumption) | exact safe_ret _) | exact safe_smem (by assumption)

theorem s57 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v50 : FVec F S768x128 .bf16) (v53 : FVec F S768x128 .bf16) (v56 : FVec F S768x128 .bf16) (v1316 : FVec F S128x128 .f32) (v1320 : FVec F S128x128 .f32) (v1351 : FVec F S384x512 .bf16) (v1353 : FVec F S1x512 .f32) (v1487 : FVec F S128x128 .bf16) (v1488 : Vec F S128x128 .bf16) :
    Safe (F := F) c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v50 v53 v56 v1316 v1320 v1351 v1353 v1487 v1488) := by
  rw [k0_part57_eq_skeleton]; unfold k0_part57_skel; cases h
  repeat' first | (with_reducible first | refine safe_bind ?_ fun _ => ?_ | exact safe_load (by assumption) | exact safe_load (Wr.rd (by assumption)) | exact safe_store (by assumption) | exact safe_ret _) | exact safe_smem (by assumption)

theorem s58 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v61 : IVec S128x128 1) (v1495 : FVec F S384x256 .f32) (v1497 : FVec F S384x256 .f32) (v1525 : FVec F S64x512 .f32) :
    Safe (F := F) c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v61 v1495 v1497 v1525) := by
  rw [k0_part58_eq_skeleton]; unfold k0_part58_skel; cases h
  repeat' first | (with_reducible first | refine safe_bind ?_ fun _ => ?_ | exact safe_load (by assumption) | exact safe_load (Wr.rd (by assumption)) | exact safe_store (by assumption) | exact safe_ret _) | exact safe_smem (by assumption)

theorem s59 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v64 : IVec S128x256 1) (v67 : IVec S64x256 1) (v1516 : FVec F S128x512 .bf16) (v1550 : FVec F S384x512 .f32) (v1552 : FVec F S384x128 .f32) (v1554 : FVec F S384x128 .f32) (v1556 : FVec F S384x128 .f32) (v1558 : FVec F S384x128 .f32) :
    Safe (F := F) c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v64 v67 v1516 v1550 v1552 v1554 v1556 v1558) := by
  rw [k0_part59_eq_skeleton]; unfold k0_part59_skel; cases h
  repeat' first | (with_reducible first | refine safe_bind ?_ fun _ => ?_ | exact safe_load (by assumption) | exact safe_load (Wr.rd (by assumption)) | exact safe_store (by assumption) | exact safe_ret _) | exact safe_smem (by assumption)

theorem s60 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1584 : FVec F S128x128 .f32) (v1585 : Vec F S128x256 .bf16) :
    Safe (F := F) c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1584 v1585) := by
  rw [k0_part60_eq_skeleton]; unfold k0_part60_skel; cases h
  repeat' first | (with_reducible first | refine safe_bind ?_ fun _ => ?_ | exact safe_load (by assumption) | exact safe_load (Wr.rd (by assumption)) | exact safe_store (by assumption) | exact safe_ret _) | exact safe_smem (by assumption)

theorem s61 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1598 : FVec F S128x256 .f32) (v1605 : FVec F S128x256 .f32) (v1608 : FVec F S128x256 .f32) (v1610 : IVec S128x256 32) (v1634 : IVec S128x256 32) (c128_i32_811 : BitVec 32) (v1636 : IVec S128x256 32) (v1639 : IVec S128x256 32) (v1640 : IVec S128x256 32) :
    Safe (F := F) c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1598 v1605 v1608 v1610 v1634 c128_i32_811 v1636 v1639 v1640) := by
  rw [k0_part61_eq_skeleton]; unfold k0_part61_skel; cases h
  repeat' first | (with_reducible first | refine safe_bind ?_ fun _ => ?_ | exact safe_load (by assumption) | exact safe_load (Wr.rd (by assumption)) | exact safe_store (by assumption) | exact safe_ret _) | exact safe_smem (by assumption)

theorem s62 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v28 : FVec F S768x128 .bf16) (v1598 : FVec F S128x256 .f32) (v1682 : FVec F S128x128 .f32) (v1684 : FVec F S128x128 .f32) :
    Safe (F := F) c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v28 v1598 v1682 v1684) := by
  rw [k0_part62_eq_skeleton]; unfold k0_part62_skel; cases h
  repeat' first | (with_reducible first | refine safe_bind ?_ fun _ => ?_ | exact safe_load (by assumption) | exact safe_load (Wr.rd (by assumption)) | exact safe_store (by assumption) | exact safe_ret _) | exact safe_smem (by assumption)

theorem s63 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v31 : FVec F S768x128 .bf16) (v58 : FVec F S768x128 .bf16) (v1545 : FVec F S128x128 .f32) (v1549 : FVec F S128x128 .f32) (v1580 : FVec F S384x512 .bf16) (v1582 : FVec F S1x512 .f32) (v1722 : FVec F S256x128 .bf16) (v1723 : FVec F S384x128 .bf16) :
    Safe (F := F) c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v31 v58 v1545 v1549 v1580 v1582 v1722 v1723) := by
  rw [k0_part63_eq_skeleton]; unfold k0_part63_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixPartsD.lean ====
module

public import proofs.«01_k».proof.Proof.MixSafe

/-!
  The mixer's parts 64 to 82 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s64 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v61 : IVec S128x128 1) (v1724 : FVec F S384x256 .f32) (v1726 : FVec F S384x256 .f32) (v1757 : FVec F S128x256 .f32) (v1763 : FVec F S128x128 .bf16) :
    Safe (F := F) c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v61 v1724 v1726 v1757 v1763) := by
  rw [k0_part64_eq_skeleton]; unfold k0_part64_skel; cases h
  repeat' first | (with_reducible first | refine safe_bind ?_ fun _ => ?_ | exact safe_load (by assumption) | exact safe_load (Wr.rd (by assumption)) | exact safe_store (by assumption) | exact safe_ret _) | exact safe_smem (by assumption)

theorem s65 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v64 : IVec S128x256 1) (v67 : IVec S64x256 1) (v1745 : FVec F S128x512 .bf16) (v1792 : FVec F S128x512 .f32) (v1795 : FVec F S128x512 .f32) (v1798 : FVec F S128x512 .f32) :
    Safe (F := F) c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v64 v67 v1745 v1792 v1795 v1798) := by
  rw [k0_part65_eq_skeleton]; unfold k0_part65_skel; cases h
  repeat' first | (with_reducible first | refine safe_bind ?_ fun _ => ?_ | exact safe_load (by assumption) | exact safe_load (Wr.rd (by assumption)) | exact safe_store (by assumption) | exact safe_ret _) | exact safe_smem (by assumption)

theorem s66 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1814 : Vec F S128x256 .bf16) (v1831 : FVec F S128x256 .f32) (v1833 : FVec F S128x128 .bf16) (cst_915 : FVec F S128x256 .f32) :
    Safe (F := F) c R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1814 v1831 v1833 cst_915) := by
  rw [k0_part66_eq_skeleton]; unfold k0_part66_skel; cases h
  repeat' first | (with_reducible first | refine safe_bind ?_ fun _ => ?_ | exact safe_load (by assumption) | exact safe_load (Wr.rd (by assumption)) | exact safe_store (by assumption) | exact safe_ret _) | exact safe_smem (by assumption)

theorem s67 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v1827 : FVec F S128x256 .f32) (v1834 : FVec F S128x256 .f32) (v1837 : FVec F S128x256 .f32) (v1839 : IVec S128x256 32) (v1863 : IVec S128x256 32) (c128_i32_926 : BitVec 32) (v1865 : IVec S128x256 32) (v1872 : IVec S128x256 32) (v1878 : IVec S128x256 32) :
    Safe (F := F) c R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v1827 v1834 v1837 v1839 v1863 c128_i32_926 v1865 v1872 v1878) := by
  rw [k0_part67_eq_skeleton]; unfold k0_part67_skel; cases h
  repeat' first | (with_reducible first | refine safe_bind ?_ fun _ => ?_ | exact safe_load (by assumption) | exact safe_load (Wr.rd (by assumption)) | exact safe_store (by assumption) | exact safe_ret _) | exact safe_smem (by assumption)

theorem s68 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v36 : FVec F S768x128 .bf16) (v39 : FVec F S768x128 .bf16) (v1827 : FVec F S128x256 .f32) (v1918 : FVec F S128x128 .bf16) :
    Safe (F := F) c R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v36 v39 v1827 v1918) := by
  rw [k0_part68_eq_skeleton]; unfold k0_part68_skel; cases h
  repeat' first | (with_reducible first | refine safe_bind ?_ fun _ => ?_ | exact safe_load (by assumption) | exact safe_load (Wr.rd (by assumption)) | exact safe_store (by assumption) | exact safe_ret _) | exact safe_smem (by assumption)

theorem s69 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v33 : FVec F S768x128 .bf16) (v1774 : FVec F S128x128 .f32) (v1778 : FVec F S128x128 .f32) (v1809 : FVec F S384x512 .bf16) (v1811 : FVec F S1x512 .f32) (v1957 : FVec F S128x128 .f32) :
    Safe (F := F) c R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v33 v1774 v1778 v1809 v1811 v1957) := by
  rw [k0_part69_eq_skeleton]; unfold k0_part69_skel; cases h
  repeat' first | (with_reducible first | refine safe_bind ?_ fun _ => ?_ | exact safe_load (by assumption) | exact safe_load (Wr.rd (by assumption)) | exact safe_store (by assumption) | exact safe_ret _) | exact safe_smem (by assumption)

theorem s70 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36)  :
    Safe (F := F) c R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 ) := by
  rw [k0_part70_eq_skeleton]; unfold k0_part70_skel; cases h
  repeat' first | (with_reducible first | refine safe_bind ?_ fun _ => ?_ | exact safe_load (by assumption) | exact safe_load (Wr.rd (by assumption)) | exact safe_store (by assumption) | exact safe_ret _) | exact safe_smem (by assumption)

theorem s71 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v61 : IVec S128x128 1) (v1953 : FVec F S384x256 .f32) (v1955 : FVec F S384x256 .f32) (v2027 : FVec F S256x2048 .f32) (v2035 : FVec F S256x1 .f32) :
    Safe (F := F) c R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v61 v1953 v1955 v2027 v2035) := by
  rw [k0_part71_eq_skeleton]; unfold k0_part71_skel; cases h
  repeat' first | (with_reducible first | refine safe_bind ?_ fun _ => ?_ | exact safe_load (by assumption) | exact safe_load (Wr.rd (by assumption)) | exact safe_store (by assumption) | exact safe_ret _) | exact safe_smem (by assumption)

theorem s72 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v18 : FVec F S128x512 .f32) (v64 : IVec S128x256 1) (v67 : IVec S64x256 1) (v1974 : FVec F S128x512 .bf16) (v2064 : FVec F S128x512 .f32) (v2067 : FVec F S128x512 .f32) (v2068 : FVec F S128x512 .f32) (v2069 : FVec F S128x512 .f32) :
    Safe (F := F) c R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v18 v64 v67 v1974 v2064 v2067 v2068 v2069) := by
  rw [k0_part72_eq_skeleton]; unfold k0_part72_skel; cases h
  repeat' first | (with_reducible first | refine safe_bind ?_ fun _ => ?_ | exact safe_load (by assumption) | exact safe_load (Wr.rd (by assumption)) | exact safe_store (by assumption) | exact safe_ret _) | exact safe_smem (by assumption)

theorem s73 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2086 : Vec F S128x256 .bf16) (v2103 : FVec F S128x256 .f32) (v2105 : FVec F S128x128 .bf16) :
    Safe (F := F) c R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2086 v2103 v2105) := by
  rw [k0_part73_eq_skeleton]; unfold k0_part73_skel; cases h
  repeat' first | (with_reducible first | refine safe_bind ?_ fun _ => ?_ | exact safe_load (by assumption) | exact safe_load (Wr.rd (by assumption)) | exact safe_store (by assumption) | exact safe_ret _) | exact safe_smem (by assumption)

theorem s74 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2099 : FVec F S128x256 .f32) (v2106 : FVec F S128x256 .f32) (v2109 : FVec F S128x256 .f32) (v2111 : IVec S128x256 32) (v2135 : IVec S128x256 32) (c128_i32_1068 : BitVec 32) (v2137 : IVec S128x256 32) (v2144 : IVec S128x256 32) (v2149 : BitVec 32) :
    Safe (F := F) c R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2099 v2106 v2109 v2111 v2135 c128_i32_1068 v2137 v2144 v2149) := by
  rw [k0_part74_eq_skeleton]; unfold k0_part74_skel; cases h
  repeat' first | (with_reducible first | refine safe_bind ?_ fun _ => ?_ | exact safe_load (by assumption) | exact safe_load (Wr.rd (by assumption)) | exact safe_store (by assumption) | exact safe_ret _) | exact safe_smem (by assumption)

theorem s75 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v45 : FVec F S768x128 .bf16) (v48 : FVec F S768x128 .bf16) (v2099 : FVec F S128x256 .f32) (v2190 : FVec F S128x128 .bf16) (v2191 : Vec F S128x128 .bf16) :
    Safe (F := F) c R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v45 v48 v2099 v2190 v2191) := by
  rw [k0_part75_eq_skeleton]; unfold k0_part75_skel; cases h
  repeat' first | (with_reducible first | refine safe_bind ?_ fun _ => ?_ | exact safe_load (by assumption) | exact safe_load (Wr.rd (by assumption)) | exact safe_store (by assumption) | exact safe_ret _) | exact safe_smem (by assumption)

theorem s76 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v41 : FVec F S768x128 .bf16) (v2046 : FVec F S128x128 .f32) (v2050 : FVec F S128x128 .f32) (v2081 : FVec F S384x512 .bf16) (v2083 : FVec F S1x512 .f32) (v2229 : FVec F S128x128 .f32) :
    Safe (F := F) c R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v41 v2046 v2050 v2081 v2083 v2229) := by
  rw [k0_part76_eq_skeleton]; unfold k0_part76_skel; cases h
  repeat' first | (with_reducible first | refine safe_bind ?_ fun _ => ?_ | exact safe_load (by assumption) | exact safe_load (Wr.rd (by assumption)) | exact safe_store (by assumption) | exact safe_ret _) | exact safe_smem (by assumption)

theorem s77 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v61 : IVec S128x128 1) (v2225 : FVec F S384x256 .f32) (v2227 : FVec F S384x256 .f32) :
    Safe (F := F) c R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v61 v2225 v2227) := by
  rw [k0_part77_eq_skeleton]; unfold k0_part77_skel; cases h
  repeat' first | (with_reducible first | refine safe_bind ?_ fun _ => ?_ | exact safe_load (by assumption) | exact safe_load (Wr.rd (by assumption)) | exact safe_store (by assumption) | exact safe_ret _) | exact safe_smem (by assumption)

theorem s78 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v2246 : FVec F S128x512 .bf16) (v2301 : FVec F S384x512 .f32) (v2303 : FVec F S1x512 .f32) (v2305 : FVec F S1x512 .f32) :
    Safe (F := F) c R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v2246 v2301 v2303 v2305) := by
  rw [k0_part78_eq_skeleton]; unfold k0_part78_skel; cases h
  repeat' first | (with_reducible first | refine safe_bind ?_ fun _ => ?_ | exact safe_load (by assumption) | exact safe_load (Wr.rd (by assumption)) | exact safe_store (by assumption) | exact safe_ret _) | exact safe_smem (by assumption)

theorem s79 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2339 : IVec S128x256 32) (v2340 : IVec S128x256 32) (c64_i32_1176 : BitVec 32) :
    Safe (F := F) c R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2339 v2340 c64_i32_1176) := by
  rw [k0_part79_eq_skeleton]; unfold k0_part79_skel; cases h
  repeat' first | (with_reducible first | refine safe_bind ?_ fun _ => ?_ | exact safe_load (by assumption) | exact safe_load (Wr.rd (by assumption)) | exact safe_store (by assumption) | exact safe_ret _) | exact safe_smem (by assumption)

theorem s80 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2328 : FVec F S128x256 .f32) (v2335 : FVec F S128x256 .f32) (v2338 : FVec F S128x256 .f32) (v2364 : IVec S128x256 32) (v2366 : IVec S128x256 32) (v2385 : IVec S128x256 1) (v2387 : IVec S128x256 32) :
    Safe (F := F) c R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2328 v2335 v2338 v2364 v2366 v2385 v2387) := by
  rw [k0_part80_eq_skeleton]; unfold k0_part80_skel; cases h
  repeat' first | (with_reducible first | refine safe_bind ?_ fun _ => ?_ | exact safe_load (by assumption) | exact safe_load (Wr.rd (by assumption)) | exact safe_store (by assumption) | exact safe_ret _) | exact safe_smem (by assumption)

theorem s81 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v53 : FVec F S768x128 .bf16) (v56 : FVec F S768x128 .bf16) (v2275 : FVec F S128x128 .f32) (v2423 : FVec F S128x128 .f32) (v2428 : FVec F S128x128 .f32) :
    Safe (F := F) c R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v53 v56 v2275 v2423 v2428) := by
  rw [k0_part81_eq_skeleton]; unfold k0_part81_skel; cases h
  repeat' first | (with_reducible first | refine safe_bind ?_ fun _ => ?_ | exact safe_load (by assumption) | exact safe_load (Wr.rd (by assumption)) | exact safe_store (by assumption) | exact safe_ret _) | exact safe_smem (by assumption)

theorem s82 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v50 : FVec F S768x128 .bf16) (v61 : IVec S128x128 1) (v2279 : FVec F S128x128 .f32) (v2310 : FVec F S384x512 .bf16) (v2312 : FVec F S1x512 .f32) (v2458 : FVec F S128x128 .f32) (v2462 : FVec F S128x128 .bf16) (v2464 : FVec F S128x128 .f32) :
    Safe (F := F) c R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v50 v61 v2279 v2310 v2312 v2458 v2462 v2464) := by
  rw [k0_part82_eq_skeleton]; unfold k0_part82_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixPartsE.lean ====
module

public import proofs.«01_k».proof.Proof.MixSafe

/-!
  The mixer's parts 83 to 101 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s83 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v18 : FVec F S128x512 .f32) (v61 : IVec S128x128 1) (v2454 : FVec F S384x256 .f32) (v2456 : FVec F S384x256 .f32) (v2500 : Vec F S128x128 .bf16) (v2501 : Vec F S128x128 .bf16) :
    Safe (F := F) c R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v18 v61 v2454 v2456 v2500 v2501) := by
  rw [k0_part83_eq_skeleton]; unfold k0_part83_skel; cases h
  repeat' first | (with_reducible first | refine safe_bind ?_ fun _ => ?_ | exact safe_load (by assumption) | exact safe_load (Wr.rd (by assumption)) | exact safe_store (by assumption) | exact safe_ret _) | exact safe_smem (by assumption)

theorem s84 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v2475 : FVec F S128x512 .bf16) (v2543 : FVec F S128x128 .f32) :
    Safe (F := F) c R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v2475 v2543) := by
  rw [k0_part84_eq_skeleton]; unfold k0_part84_skel; cases h
  repeat' first | (with_reducible first | refine safe_bind ?_ fun _ => ?_ | exact safe_load (by assumption) | exact safe_load (Wr.rd (by assumption)) | exact safe_store (by assumption) | exact safe_ret _) | exact safe_smem (by assumption)

theorem s85 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2564 : FVec F S128x256 .f32) (v2567 : FVec F S128x256 .f32) (v2568 : IVec S128x256 32) (v2569 : IVec S128x256 32) (c64_i32_1291 : BitVec 32) (v2571 : IVec S128x256 32) (v2578 : IVec S128x256 32) :
    Safe (F := F) c R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2564 v2567 v2568 v2569 c64_i32_1291 v2571 v2578) := by
  rw [k0_part85_eq_skeleton]; unfold k0_part85_skel; cases h
  repeat' first | (with_reducible first | refine safe_bind ?_ fun _ => ?_ | exact safe_load (by assumption) | exact safe_load (Wr.rd (by assumption)) | exact safe_store (by assumption) | exact safe_ret _) | exact safe_smem (by assumption)

theorem s86 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2557 : FVec F S128x256 .f32) (v2621 : FVec F S128x256 .f32) :
    Safe (F := F) c R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2557 v2621) := by
  rw [k0_part86_eq_skeleton]; unfold k0_part86_skel; cases h
  repeat' first | (with_reducible first | refine safe_bind ?_ fun _ => ?_ | exact safe_load (by assumption) | exact safe_load (Wr.rd (by assumption)) | exact safe_store (by assumption) | exact safe_ret _) | exact safe_smem (by assumption)

theorem s87 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v28 : FVec F S768x128 .bf16) (v31 : FVec F S768x128 .bf16) (v2504 : FVec F S128x128 .f32) (v2508 : FVec F S128x128 .f32) (v2658 : FVec F S128x128 .f32) (v2665 : FVec F S128x1 .f32) :
    Safe (F := F) c R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v28 v31 v2504 v2508 v2658 v2665) := by
  rw [k0_part87_eq_skeleton]; unfold k0_part87_skel; cases h
  repeat' first | (with_reducible first | refine safe_bind ?_ fun _ => ?_ | exact safe_load (by assumption) | exact safe_load (Wr.rd (by assumption)) | exact safe_store (by assumption) | exact safe_ret _) | exact safe_smem (by assumption)

theorem s88 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v58 : FVec F S768x128 .bf16) (v61 : IVec S128x128 1) (v2539 : FVec F S384x512 .bf16) (v2541 : FVec F S1x512 .f32) (v2683 : FVec F S384x256 .f32) (v2685 : FVec F S384x256 .f32) (v2687 : FVec F S128x128 .f32) (v2691 : FVec F S128x128 .bf16) (v2695 : FVec F S128x128 .bf16) (v2699 : FVec F S128x128 .bf16) :
    Safe (F := F) c R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v58 v61 v2539 v2541 v2683 v2685 v2687 v2691 v2695 v2699) := by
  rw [k0_part88_eq_skeleton]; unfold k0_part88_skel; cases h
  repeat' first | (with_reducible first | refine safe_bind ?_ fun _ => ?_ | exact safe_load (by assumption) | exact safe_load (Wr.rd (by assumption)) | exact safe_store (by assumption) | exact safe_ret _) | exact safe_smem (by assumption)

theorem s89 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v24 : FVec F S128x512 .f32) (v2738 : FVec F S384x512 .f32) :
    Safe (F := F) c R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v24 v2738) := by
  rw [k0_part89_eq_skeleton]; unfold k0_part89_skel; cases h
  repeat' first | (with_reducible first | refine safe_bind ?_ fun _ => ?_ | exact safe_load (by assumption) | exact safe_load (Wr.rd (by assumption)) | exact safe_store (by assumption) | exact safe_ret _) | exact safe_smem (by assumption)

theorem s90 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v2704 : FVec F S128x512 .bf16) (v2772 : FVec F S128x128 .f32) (v2773 : Vec F S128x256 .bf16) (v2774 : FVec F S128x256 .bf16) (v2776 : FVec F S64x256 .bf16) :
    Safe (F := F) c R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v2704 v2772 v2773 v2774 v2776) := by
  rw [k0_part90_eq_skeleton]; unfold k0_part90_skel; cases h
  repeat' first | (with_reducible first | refine safe_bind ?_ fun _ => ?_ | exact safe_load (by assumption) | exact safe_load (Wr.rd (by assumption)) | exact safe_store (by assumption) | exact safe_ret _) | exact safe_smem (by assumption)

theorem s91 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2786 : FVec F S128x256 .f32) (v2793 : FVec F S128x256 .f32) (v2796 : FVec F S128x256 .f32) (v2798 : IVec S128x256 32) (v2800 : IVec S128x256 32) (v2814 : IVec S128x256 1) (v2816 : IVec S128x256 32) :
    Safe (F := F) c R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2786 v2793 v2796 v2798 v2800 v2814 v2816) := by
  rw [k0_part91_eq_skeleton]; unfold k0_part91_skel; cases h
  repeat' first | (with_reducible first | refine safe_bind ?_ fun _ => ?_ | exact safe_load (by assumption) | exact safe_load (Wr.rd (by assumption)) | exact safe_store (by assumption) | exact safe_ret _) | exact safe_smem (by assumption)

theorem s92 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v2786 : FVec F S128x256 .f32) (v2860 : FVec F S128x128 .f32) :
    Safe (F := F) c R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v2786 v2860) := by
  rw [k0_part92_eq_skeleton]; unfold k0_part92_skel; cases h
  repeat' first | (with_reducible first | refine safe_bind ?_ fun _ => ?_ | exact safe_load (by assumption) | exact safe_load (Wr.rd (by assumption)) | exact safe_store (by assumption) | exact safe_ret _) | exact safe_smem (by assumption)

theorem s93 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v33 : FVec F S768x128 .bf16) (v36 : FVec F S768x128 .bf16) (v39 : FVec F S768x128 .bf16) (v2733 : FVec F S128x128 .f32) (v2737 : FVec F S128x128 .f32) (v2768 : FVec F S384x512 .bf16) (v2900 : FVec F S128x128 .f32) (v2901 : Vec F S128x128 .bf16) :
    Safe (F := F) c R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v33 v36 v39 v2733 v2737 v2768 v2900 v2901) := by
  rw [k0_part93_eq_skeleton]; unfold k0_part93_skel; cases h
  repeat' first | (with_reducible first | refine safe_bind ?_ fun _ => ?_ | exact safe_load (by assumption) | exact safe_load (Wr.rd (by assumption)) | exact safe_store (by assumption) | exact safe_ret _) | exact safe_smem (by assumption)

theorem s94 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v61 : IVec S128x128 1) (v2770 : FVec F S1x512 .f32) (v2912 : FVec F S384x256 .f32) (v2914 : FVec F S384x256 .f32) (v2936 : FVec F S64x512 .f32) (v2937 : FVec F S1x512 .f32) :
    Safe (F := F) c R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v61 v2770 v2912 v2914 v2936 v2937) := by
  rw [k0_part94_eq_skeleton]; unfold k0_part94_skel; cases h
  repeat' first | (with_reducible first | refine safe_bind ?_ fun _ => ?_ | exact safe_load (by assumption) | exact safe_load (Wr.rd (by assumption)) | exact safe_store (by assumption) | exact safe_ret _) | exact safe_smem (by assumption)

theorem s95 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v24 : FVec F S128x512 .f32) (v64 : IVec S128x256 1) (v67 : IVec S64x256 1) (v2967 : FVec F S384x512 .f32) (v2969 : FVec F S384x128 .f32) (v2971 : FVec F S384x128 .f32) (v2972 : Vec F S1x384x128 .f32) :
    Safe (F := F) c R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v24 v64 v67 v2967 v2969 v2971 v2972) := by
  rw [k0_part95_eq_skeleton]; unfold k0_part95_skel; cases h
  repeat' first | (with_reducible first | refine safe_bind ?_ fun _ => ?_ | exact safe_load (by assumption) | exact safe_load (Wr.rd (by assumption)) | exact safe_store (by assumption) | exact safe_ret _) | exact safe_smem (by assumption)

theorem s96 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v67 : IVec S64x256 1) (v2933 : FVec F S128x512 .bf16) (v3001 : FVec F S128x128 .f32) (v3002 : Vec F S128x256 .bf16) (v3005 : FVec F S64x256 .bf16) (v3006 : FVec F S64x256 .bf16) (v3007 : Vec F S128x256 .bf16) (v3008 : FVec F S128x256 .bf16) (v3011 : FVec F S128x256 .bf16) (v3012 : FVec F S64x256 .bf16) :
    Safe (F := F) c R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v67 v2933 v3001 v3002 v3005 v3006 v3007 v3008 v3011 v3012) := by
  rw [k0_part96_eq_skeleton]; unfold k0_part96_skel; cases h
  repeat' first | (with_reducible first | refine safe_bind ?_ fun _ => ?_ | exact safe_load (by assumption) | exact safe_load (Wr.rd (by assumption)) | exact safe_store (by assumption) | exact safe_ret _) | exact safe_smem (by assumption)

theorem s97 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3015 : FVec F S128x256 .f32) (v3022 : FVec F S128x256 .f32) (v3025 : FVec F S128x256 .f32) (v3027 : IVec S128x256 32) (v3051 : IVec S128x256 32) (c128_i32_1528 : BitVec 32) (v3053 : IVec S128x256 32) :
    Safe (F := F) c R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3015 v3022 v3025 v3027 v3051 c128_i32_1528 v3053) := by
  rw [k0_part97_eq_skeleton]; unfold k0_part97_skel; cases h
  repeat' first | (with_reducible first | refine safe_bind ?_ fun _ => ?_ | exact safe_load (by assumption) | exact safe_load (Wr.rd (by assumption)) | exact safe_store (by assumption) | exact safe_ret _) | exact safe_smem (by assumption)

theorem s98 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3015 : FVec F S128x256 .f32) (v3089 : FVec F S128x128 .f32) (v3097 : FVec F S128x1 .f32) :
    Safe (F := F) c R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3015 v3089 v3097) := by
  rw [k0_part98_eq_skeleton]; unfold k0_part98_skel; cases h
  repeat' first | (with_reducible first | refine safe_bind ?_ fun _ => ?_ | exact safe_load (by assumption) | exact safe_load (Wr.rd (by assumption)) | exact safe_store (by assumption) | exact safe_ret _) | exact safe_smem (by assumption)

theorem s99 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v41 : FVec F S768x128 .bf16) (v45 : FVec F S768x128 .bf16) (v48 : FVec F S768x128 .bf16) (v2962 : FVec F S128x128 .f32) (v2966 : FVec F S128x128 .f32) (v2997 : FVec F S384x512 .bf16) (v2999 : FVec F S1x512 .f32) :
    Safe (F := F) c R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v41 v45 v48 v2962 v2966 v2997 v2999) := by
  rw [k0_part99_eq_skeleton]; unfold k0_part99_skel; cases h
  repeat' first | (with_reducible first | refine safe_bind ?_ fun _ => ?_ | exact safe_load (by assumption) | exact safe_load (Wr.rd (by assumption)) | exact safe_store (by assumption) | exact safe_ret _) | exact safe_smem (by assumption)

theorem s100 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v61 : IVec S128x128 1) (v3141 : FVec F S384x256 .f32) (v3143 : FVec F S384x256 .f32) (v3174 : FVec F S128x256 .f32) (v3176 : FVec F S128x128 .f32) :
    Safe (F := F) c R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v61 v3141 v3143 v3174 v3176) := by
  rw [k0_part100_eq_skeleton]; unfold k0_part100_skel; cases h
  repeat' first | (with_reducible first | refine safe_bind ?_ fun _ => ?_ | exact safe_load (by assumption) | exact safe_load (Wr.rd (by assumption)) | exact safe_store (by assumption) | exact safe_ret _) | exact safe_smem (by assumption)

theorem s101 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v24 : FVec F S128x512 .f32) (v64 : IVec S128x256 1) (v67 : IVec S64x256 1) (v3162 : FVec F S128x512 .bf16) (v3196 : FVec F S384x512 .f32) (v3205 : FVec F S384x512 .f32) (v3209 : FVec F S128x512 .f32) :
    Safe (F := F) c R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v24 v64 v67 v3162 v3196 v3205 v3209) := by
  rw [k0_part101_eq_skeleton]; unfold k0_part101_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixPartsF.lean ====
module

public import proofs.«01_k».proof.Proof.MixSafe

/-!
  The mixer's parts 102 to 115 keep the resource: each only loads from and stores to the buffers it may.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem s102 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3230 : FVec F S128x128 .f32) (v3231 : Vec F S128x256 .bf16) (v3246 : FVec F S128x128 .f32) :
    Safe (F := F) c R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3230 v3231 v3246) := by
  rw [k0_part102_eq_skeleton]; unfold k0_part102_skel; cases h
  repeat' first | (with_reducible first | refine safe_bind ?_ fun _ => ?_ | exact safe_load (by assumption) | exact safe_load (Wr.rd (by assumption)) | exact safe_store (by assumption) | exact safe_ret _) | exact safe_smem (by assumption)

theorem s103 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3244 : FVec F S128x256 .f32) (v3251 : FVec F S128x256 .f32) (v3254 : FVec F S128x256 .f32) (v3256 : IVec S128x256 32) (v3280 : IVec S128x256 32) (c128_i32_1643 : BitVec 32) (v3282 : IVec S128x256 32) (v3289 : IVec S128x256 32) (v3290 : BitVec 1) :
    Safe (F := F) c R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3244 v3251 v3254 v3256 v3280 c128_i32_1643 v3282 v3289 v3290) := by
  rw [k0_part103_eq_skeleton]; unfold k0_part103_skel; cases h
  repeat' first | (with_reducible first | refine safe_bind ?_ fun _ => ?_ | exact safe_load (by assumption) | exact safe_load (Wr.rd (by assumption)) | exact safe_store (by assumption) | exact safe_ret _) | exact safe_smem (by assumption)

theorem s104 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v53 : FVec F S768x128 .bf16) (v56 : FVec F S768x128 .bf16) (v3244 : FVec F S128x256 .f32) (v3331 : FVec F S128x128 .f32) (v3333 : FVec F S128x128 .f32) :
    Safe (F := F) c R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v53 v56 v3244 v3331 v3333) := by
  rw [k0_part104_eq_skeleton]; unfold k0_part104_skel; cases h
  repeat' first | (with_reducible first | refine safe_bind ?_ fun _ => ?_ | exact safe_load (by assumption) | exact safe_load (Wr.rd (by assumption)) | exact safe_store (by assumption) | exact safe_ret _) | exact safe_smem (by assumption)

theorem s105 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v50 : FVec F S768x128 .bf16) (v3191 : FVec F S128x128 .f32) (v3195 : FVec F S128x128 .f32) (v3226 : FVec F S384x512 .bf16) (v3228 : FVec F S1x512 .f32) :
    Safe (F := F) c R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v50 v3191 v3195 v3226 v3228) := by
  rw [k0_part105_eq_skeleton]; unfold k0_part105_skel; cases h
  repeat' first | (with_reducible first | refine safe_bind ?_ fun _ => ?_ | exact safe_load (by assumption) | exact safe_load (Wr.rd (by assumption)) | exact safe_store (by assumption) | exact safe_ret _) | exact safe_smem (by assumption)

theorem s106 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v16 : FVec F S128x512 .f32) (v24 : FVec F S128x512 .f32) (v61 : IVec S128x128 1) (v3370 : FVec F S384x256 .f32) (v3372 : FVec F S384x256 .f32) (v3412 : FVec F S128x128 .bf16) :
    Safe (F := F) c R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v16 v24 v61 v3370 v3372 v3412) := by
  rw [k0_part106_eq_skeleton]; unfold k0_part106_skel; cases h
  repeat' first | (with_reducible first | refine safe_bind ?_ fun _ => ?_ | exact safe_load (by assumption) | exact safe_load (Wr.rd (by assumption)) | exact safe_store (by assumption) | exact safe_ret _) | exact safe_smem (by assumption)

theorem s107 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v64 : IVec S128x256 1) (v67 : IVec S64x256 1) (v3391 : FVec F S128x512 .bf16) (v3446 : FVec F S384x512 .f32) :
    Safe (F := F) c R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v64 v67 v3391 v3446) := by
  rw [k0_part107_eq_skeleton]; unfold k0_part107_skel; cases h
  repeat' first | (with_reducible first | refine safe_bind ?_ fun _ => ?_ | exact safe_load (by assumption) | exact safe_load (Wr.rd (by assumption)) | exact safe_store (by assumption) | exact safe_ret _) | exact safe_smem (by assumption)

theorem s108 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3477 : FVec F S128x256 .f32) (v3481 : Vec F S1x128x256 .f32) :
    Safe (F := F) c R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3477 v3481) := by
  rw [k0_part108_eq_skeleton]; unfold k0_part108_skel; cases h
  repeat' first | (with_reducible first | refine safe_bind ?_ fun _ => ?_ | exact safe_load (by assumption) | exact safe_load (Wr.rd (by assumption)) | exact safe_store (by assumption) | exact safe_ret _) | exact safe_smem (by assumption)

theorem s109 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3473 : FVec F S128x256 .f32) (v3480 : FVec F S128x256 .f32) (v3483 : FVec F S128x256 .f32) (v3509 : IVec S128x256 32) (v3511 : IVec S128x256 32) (v3525 : IVec S128x256 1) (v3527 : IVec S128x256 32) (v3528 : IVec S128x256 32) :
    Safe (F := F) c R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3473 v3480 v3483 v3509 v3511 v3525 v3527 v3528) := by
  rw [k0_part109_eq_skeleton]; unfold k0_part109_skel; cases h
  repeat' first | (with_reducible first | refine safe_bind ?_ fun _ => ?_ | exact safe_load (by assumption) | exact safe_load (Wr.rd (by assumption)) | exact safe_store (by assumption) | exact safe_ret _) | exact safe_smem (by assumption)

theorem s110 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3420 : FVec F S128x128 .f32) (v3424 : FVec F S128x128 .f32) (v3568 : FVec F S128x128 .f32) (v3569 : FVec F S128 .f32) :
    Safe (F := F) c R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3420 v3424 v3568 v3569) := by
  rw [k0_part110_eq_skeleton]; unfold k0_part110_skel; cases h
  repeat' first | (with_reducible first | refine safe_bind ?_ fun _ => ?_ | exact safe_load (by assumption) | exact safe_load (Wr.rd (by assumption)) | exact safe_store (by assumption) | exact safe_ret _) | exact safe_smem (by assumption)

theorem s111 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v58 : FVec F S768x128 .bf16) (v64 : IVec S128x256 1) (v3455 : FVec F S384x512 .bf16) (v3457 : FVec F S1x512 .f32) (v3596 : FVec F S128x128 .f32) (v3600 : FVec F S128x128 .bf16) (v3604 : FVec F S128x128 .bf16) (v3607 : FVec F S128x128 .f32) :
    Safe (F := F) c R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v58 v64 v3455 v3457 v3596 v3600 v3604 v3607) := by
  rw [k0_part111_eq_skeleton]; unfold k0_part111_skel; cases h
  repeat' first | (with_reducible first | refine safe_bind ?_ fun _ => ?_ | exact safe_load (by assumption) | exact safe_load (Wr.rd (by assumption)) | exact safe_store (by assumption) | exact safe_ret _) | exact safe_smem (by assumption)

theorem s112 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v67 : IVec S64x256 1) (v3613 : FVec F S128x512 .bf16) (v3639 : FVec F S128x128 .f32) (v3640 : Vec F S128x256 .bf16) (v3643 : FVec F S64x256 .bf16) (v3644 : FVec F S64x256 .bf16) (v3645 : Vec F S128x256 .bf16) (v3646 : FVec F S128x256 .bf16) :
    Safe (F := F) c R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v67 v3613 v3639 v3640 v3643 v3644 v3645 v3646) := by
  rw [k0_part112_eq_skeleton]; unfold k0_part112_skel; cases h
  repeat' first | (with_reducible first | refine safe_bind ?_ fun _ => ?_ | exact safe_load (by assumption) | exact safe_load (Wr.rd (by assumption)) | exact safe_store (by assumption) | exact safe_ret _) | exact safe_smem (by assumption)

theorem s113 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3653 : FVec F S128x256 .f32) (v3660 : FVec F S128x256 .f32) (v3663 : FVec F S128x256 .f32) (v3665 : IVec S128x256 32) (v3667 : IVec S128x256 32) (v3686 : IVec S128x256 1) :
    Safe (F := F) c R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3653 v3660 v3663 v3665 v3667 v3686) := by
  rw [k0_part113_eq_skeleton]; unfold k0_part113_skel; cases h
  repeat' first | (with_reducible first | refine safe_bind ?_ fun _ => ?_ | exact safe_load (by assumption) | exact safe_load (Wr.rd (by assumption)) | exact safe_store (by assumption) | exact safe_ret _) | exact safe_smem (by assumption)

theorem s114 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3653 : FVec F S128x256 .f32) (v3727 : FVec F S128x128 .f32) (v3730 : FVec F S128x1 .f32) :
    Safe (F := F) c R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3653 v3727 v3730) := by
  rw [k0_part114_eq_skeleton]; unfold k0_part114_skel; cases h
  repeat' first | (with_reducible first | refine safe_bind ?_ fun _ => ?_ | exact safe_load (by assumption) | exact safe_load (Wr.rd (by assumption)) | exact safe_store (by assumption) | exact safe_ret _) | exact safe_smem (by assumption)

theorem s115 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (v3771 : FVec F S128x128 .bf16) :
    Safe (F := F) c R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 v3771) := by
  rw [k0_part115_eq_skeleton]; unfold k0_part115_skel; cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixWhole.lean ====
module

public import proofs.«01_k».proof.Proof.MixPartsA
public import proofs.«01_k».proof.Proof.MixPartsB
public import proofs.«01_k».proof.Proof.MixPartsC
public import proofs.«01_k».proof.Proof.MixPartsD
public import proofs.«01_k».proof.Proof.MixPartsE
public import proofs.«01_k».proof.Proof.MixPartsF

/-!
  The mixer keeps the resource, given that its transfers of the weights do.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

theorem safe_pre {R : sProp 𝕄} {β : Type} {p1 p2 p3 p4 : Prog (TpuEff nD τ sig (Elt F) Λ₀ .tc) PUnit} {k : PUnit → Prog (TpuEff nD τ sig (Elt F) Λ₀ .tc) β}
    (hd : Safe (F := F) c R (p1 >>= fun _ => p2 >>= fun _ => p3 >>= fun _ => p4)) (hk : ∀ a, Safe (F := F) c R (k a)) :
    Safe (F := F) c R (p1 >>= fun _ => p2 >>= fun _ => p3 >>= fun _ => p4 >>= k) := by
  unfold Safe at *
  simp only [wp_bind] at hd ⊢
  exact hd.trans (wp_mono _ _ _ fun _ => wp_mono _ _ _ fun _ => wp_mono _ _ _ fun _ => wp_mono _ _ _ hk)

theorem s18 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (k0_h1 : k0_cond1 i = 1#1) (hd : Safe (F := F) c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1)) :
    Safe (F := F) c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1) := by
  rw [k0_part18_eq_skeleton]; unfold k0_part18_skel
  refine safe_pre hd fun _ => ?_
  refine safe_bind (s5 h) ?_; rintro ⟨_, _, _, _, _⟩; dsimp only
  refine safe_bind (s6 h _ _ _) ?_; rintro ⟨_, _, _, _, _⟩; dsimp only
  refine safe_bind (s7 h _ _ _ _ _ _) fun _ => ?_
  refine safe_bind (s8 h _ _) ?_; rintro ⟨_, _⟩; dsimp only
  refine safe_bind (s9 h _ _) ?_; rintro ⟨_, _, _, _, _⟩; dsimp only
  refine safe_bind (s10 h _ _ _ _ _ _) ?_; rintro ⟨_, _⟩; dsimp only
  refine safe_bind (s11 h _ _ _) ?_; rintro ⟨_, _, _, _, _, _, _⟩; dsimp only
  refine safe_bind (s12 h _ _ _ _ _ _ _) fun _ => ?_
  refine safe_bind (s13 h _ _) ?_; rintro ⟨_, _, _, _⟩; dsimp only
  refine safe_bind (s14 h _ _ _ _) ?_; rintro ⟨_, _, _, _, _, _⟩; dsimp only
  refine safe_bind (s15 h _ _ _ _ _ _ _) fun _ => ?_
  refine safe_bind (s16 h _ _) ?_; rintro ⟨_, _, _, _⟩; dsimp only
  refine safe_bind (s17 h _ _ _ _ _) fun _ => ?_
  cases h
  repeat' first | (with_reducible first | refine safe_bind ?_ fun _ => ?_ | exact safe_load (by assumption) | exact safe_load (Wr.rd (by assumption)) | exact safe_store (by assumption) | exact safe_ret _) | exact safe_smem (by assumption)

theorem s19 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (hd : ∀ k0_h1 : k0_cond1 i = 1#1, Safe (F := F) c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1)) :
    Safe (F := F) c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36) := by
  rw [k0_part19_eq_skeleton]; unfold k0_part19_skel
  dsimp only
  have h' := h
  cases h'
  refine safe_dite (fun k0_h1 => ?_) (fun _ => ?_)
  · refine safe_bind (s18 h k0_h1 (hd k0_h1)) fun _ => ?_
    refine safe_bind (safe_store (by assumption)) fun _ => ?_
    refine safe_dite (fun _ => ?_) (fun _ => ?_)
    · repeat' first | (with_reducible first | refine safe_bind ?_ fun _ => ?_ | exact safe_load (by assumption) | exact safe_load (Wr.rd (by assumption)) | exact safe_store (by assumption) | exact safe_ret _) | exact safe_smem (by assumption)
    · repeat' first | (with_reducible first | refine safe_bind ?_ fun _ => ?_ | exact safe_load (by assumption) | exact safe_load (Wr.rd (by assumption)) | exact safe_store (by assumption) | exact safe_ret _) | exact safe_smem (by assumption)
  · refine safe_dite (fun _ => ?_) (fun _ => ?_)
    · repeat' first | (with_reducible first | refine safe_bind ?_ fun _ => ?_ | exact safe_load (by assumption) | exact safe_load (Wr.rd (by assumption)) | exact safe_store (by assumption) | exact safe_ret _) | exact safe_smem (by assumption)
    · repeat' first | (with_reducible first | refine safe_bind ?_ fun _ => ?_ | exact safe_load (by assumption) | exact safe_load (Wr.rd (by assumption)) | exact safe_store (by assumption) | exact safe_ret _) | exact safe_smem (by assumption)

theorem s116 {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (hd : ∀ k0_h1 : k0_cond1 i = 1#1, Safe (F := F) c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1)) :
    Safe (F := F) c R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36) := by
  rw [k0_part116_eq_skeleton]; unfold k0_part116_skel
  refine safe_bind (s19 h hd) ?_; rintro ⟨_, _, _, _, _, _, _, _, _, _, _⟩; dsimp only
  refine safe_bind (s20 h _ _ _ _ _ _ _) ?_; rintro ⟨_, _, _, _, _, _, _, _, _, _, _, _, _, _, _, _⟩; dsimp only
  refine safe_bind (s21 h _ _ _ _ _ _) ?_; rintro ⟨_, _, _, _⟩; dsimp only
  refine safe_bind (s22 h _ _ _ _ _ _ _) ?_; rintro ⟨_, _, _, _, _, _⟩; dsimp only
  refine safe_bind (s23 h _ _ _ _ _ _) ?_; rintro ⟨_, _, _, _, _, _⟩; dsimp only
  refine safe_bind (s24 h _ _ _ _ _ _ _ _) ?_; rintro ⟨_, _, _, _, _, _, _, _, _, _⟩; dsimp only
  refine safe_bind (s25 h _ _ _ _ _ _ _ _ _ _) ?_; rintro ⟨_, _, _, _, _, _, _⟩; dsimp only
  refine safe_bind (s26 h _ _ _ _ _ _ _) ?_; rintro ⟨_, _⟩; dsimp only
  refine safe_bind (s27 h _ _ _) fun _ => ?_
  refine safe_bind (s28 h _ _ _ _ _ _ _) ?_; rintro ⟨_, _, _, _, _⟩; dsimp only
  refine safe_bind (s29 h _ _ _ _ _ _) ?_; rintro ⟨_, _, _, _, _⟩; dsimp only
  refine safe_bind (s30 h _ _ _ _ _ _ _) ?_; rintro ⟨_, _, _, _, _, _⟩; dsimp only
  refine safe_bind (s31 h _ _ _) ?_; rintro ⟨_, _, _, _, _, _, _, _⟩; dsimp only
  refine safe_bind (s32 h _ _ _ _ _ _ _ _ _) ?_; rintro ⟨_, _⟩; dsimp only
  refine safe_bind (s33 h _ _ _ _ _) ?_; rintro ⟨_, _⟩; dsimp only
  refine safe_bind (s34 h _ _ _ _ _) ?_; rintro ⟨_, _⟩; dsimp only
  refine safe_bind (s35 h _ _ _ _ _ _) ?_; rintro ⟨_, _, _⟩; dsimp only
  refine safe_bind (s36 h _ _ _ _) ?_; rintro ⟨_, _, _, _, _, _⟩; dsimp only
  refine safe_bind (s37 h _ _) ?_; rintro ⟨_, _, _, _, _, _⟩; dsimp only
  refine safe_bind (s38 h _ _ _ _ _ _ _ _) ?_; rintro ⟨_, _⟩; dsimp only
  refine safe_bind (s39 h _ _ _ _ _) ?_; rintro ⟨_, _, _, _⟩; dsimp only
  refine safe_bind (s40 h _ _ _ _ _ _) ?_; rintro ⟨_, _, _⟩; dsimp only
  refine safe_bind (s41 h _ _ _ _ _ _ _) ?_; rintro ⟨_, _, _, _⟩; dsimp only
  refine safe_bind (s42 h _ _ _ _) ?_; rintro ⟨_, _, _, _, _, _, _, _, _⟩; dsimp only
  refine safe_bind (s43 h _ _ _ _ _ _ _) fun _ => ?_
  refine safe_bind (s44 h _ _) ?_; rintro ⟨_, _, _⟩; dsimp only
  refine safe_bind (s45 h _ _ _ _ _ _ _) ?_; rintro ⟨_, _, _, _, _, _⟩; dsimp only
  refine safe_bind (s46 h _ _ _ _ _ _ _ _) ?_; rintro ⟨_, _, _, _, _⟩; dsimp only
  refine safe_bind (s47 h _ _ _ _ _ _ _) ?_; rintro ⟨_, _, _, _, _, _⟩; dsimp only
  refine safe_bind (s48 h _ _ _ _ _ _) ?_; rintro ⟨_, _, _, _, _, _, _, _, _, _⟩; dsimp only
  refine safe_bind (s49 h _ _ _ _ _ _ _ _ _ _) ?_; rintro ⟨_, _⟩; dsimp only
  refine safe_bind (s50 h _ _ _) ?_; rintro ⟨_, _⟩; dsimp only
  refine safe_bind (s51 h _ _ _ _ _ _) ?_; rintro ⟨_, _, _⟩; dsimp only
  refine safe_bind (s52 h _ _ _ _ _ _) ?_; rintro ⟨_, _, _, _, _⟩; dsimp only
  refine safe_bind (s53 h _ _ _ _ _ _) ?_; rintro ⟨_, _, _, _, _, _, _, _⟩; dsimp only
  refine safe_bind (s54 h _ _ _ _ _ _ _ _) ?_; rintro ⟨_, _, _, _, _, _, _⟩; dsimp only
  refine safe_bind (s55 h _ _ _ _ _ _ _) ?_; rintro ⟨_, _, _⟩; dsimp only
  refine safe_bind (s56 h _ _ _ _) ?_; rintro ⟨_, _⟩; dsimp only
  refine safe_bind (s57 h _ _ _ _ _ _ _ _ _) ?_; rintro ⟨_, _, _, _⟩; dsimp only
  refine safe_bind (s58 h _ _ _ _) ?_; rintro ⟨_, _, _, _, _, _, _⟩; dsimp only
  refine safe_bind (s59 h _ _ _ _ _ _ _ _ _ _) ?_; rintro ⟨_, _, _, _, _⟩; dsimp only
  refine safe_bind (s60 h _ _) ?_; rintro ⟨_, _, _, _, _, _, _, _⟩; dsimp only
  refine safe_bind (s61 h _ _ _ _ _ _ _ _ _) ?_; rintro ⟨_, _⟩; dsimp only
  refine safe_bind (s62 h _ _ _ _) ?_; rintro ⟨_, _⟩; dsimp only
  refine safe_bind (s63 h _ _ _ _ _ _ _ _) ?_; rintro ⟨_, _, _, _, _⟩; dsimp only
  refine safe_bind (s64 h _ _ _ _ _ _) ?_; rintro ⟨_, _, _, _, _⟩; dsimp only
  refine safe_bind (s65 h _ _ _ _ _ _ _) ?_; rintro ⟨_, _, _, _, _, _, _⟩; dsimp only
  refine safe_bind (s66 h _ _ _ _) ?_; rintro ⟨_, _, _, _, _, _, _, _⟩; dsimp only
  refine safe_bind (s67 h _ _ _ _ _ _ _ _ _) fun _ => ?_
  refine safe_bind (s68 h _ _ _ _) ?_; rintro ⟨_, _, _⟩; dsimp only
  refine safe_bind (s69 h _ _ _ _ _ _) fun _ => ?_
  refine safe_bind (s70 h) ?_; rintro ⟨_, _⟩; dsimp only
  refine safe_bind (s71 h _ _ _ _ _ _) ?_; rintro ⟨_, _, _, _, _, _⟩; dsimp only
  refine safe_bind (s72 h _ _ _ _ _ _ _ _) ?_; rintro ⟨_, _, _, _, _, _⟩; dsimp only
  refine safe_bind (s73 h _ _ _) ?_; rintro ⟨_, _, _, _, _, _, _, _⟩; dsimp only
  refine safe_bind (s74 h _ _ _ _ _ _ _ _ _) ?_; rintro ⟨_, _⟩; dsimp only
  refine safe_bind (s75 h _ _ _ _ _) ?_; rintro ⟨_, _, _⟩; dsimp only
  refine safe_bind (s76 h _ _ _ _ _ _) fun _ => ?_
  refine safe_bind (s77 h _ _ _ _ _) ?_; rintro ⟨_, _, _, _, _⟩; dsimp only
  refine safe_bind (s78 h _ _ _ _ _ _) ?_; rintro ⟨_, _, _, _, _, _, _, _⟩; dsimp only
  exact safe_ret _

theorem smix {R : sProp 𝕄} (h : Ok (F := F) c R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36) (hd : ∀ k0_h1 : k0_cond1 i = 1#1, Safe (F := F) c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1 >>= fun _ => k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36 k0_h1)) :
    Safe (F := F) c R (cc0_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 harg29 arg30 harg30 arg31 harg31 arg32 harg32 arg33 harg33 arg34 harg34 arg35 harg35 arg36 harg36) := by
  rw [cc0_mixer_eq_skeleton]; unfold cc0_mixer_skel
  refine safe_bind (s116 h hd) ?_; rintro ⟨_, _, _, _, _, _, _, _, _, _, _, _, _, _, _, _, _, _, _, _, _, _, _, _, _, _, _, _⟩; dsimp only
  refine safe_bind (s79 h _ _ _) ?_; rintro ⟨_, _, _, _⟩; dsimp only
  refine safe_bind (s80 h _ _ _ _ _ _ _) ?_; rintro ⟨_, _⟩; dsimp only
  refine safe_bind (s81 h _ _ _ _ _) ?_; rintro ⟨_, _, _, _, _⟩; dsimp only
  refine safe_bind (s82 h _ _ _ _ _ _ _ _) ?_; rintro ⟨_, _, _, _⟩; dsimp only
  refine safe_bind (s83 h _ _ _ _ _ _ _) ?_; rintro ⟨_, _, _, _⟩; dsimp only
  refine safe_bind (s84 h _ _ _ _) ?_; rintro ⟨_, _, _, _, _, _, _, _⟩; dsimp only
  refine safe_bind (s85 h _ _ _ _ _ _ _) fun _ => ?_
  refine safe_bind (s86 h _ _) ?_; rintro ⟨_, _⟩; dsimp only
  refine safe_bind (s87 h _ _ _ _ _ _) ?_; rintro ⟨_, _, _, _, _, _⟩; dsimp only
  refine safe_bind (s88 h _ _ _ _ _ _ _ _ _ _) ?_; rintro ⟨_, _, _, _⟩; dsimp only
  refine safe_bind (s89 h _ _ _) ?_; rintro ⟨_, _, _, _, _, _⟩; dsimp only
  refine safe_bind (s90 h _ _ _ _ _ _ _) ?_; rintro ⟨_, _, _, _, _, _, _⟩; dsimp only
  refine safe_bind (s91 h _ _ _ _ _ _ _) fun _ => ?_
  refine safe_bind (s92 h _ _) ?_; rintro ⟨_, _⟩; dsimp only
  refine safe_bind (s93 h _ _ _ _ _ _ _ _) ?_; rintro ⟨_, _, _, _, _⟩; dsimp only
  refine safe_bind (s94 h _ _ _ _ _ _) ?_; rintro ⟨_, _, _, _, _, _⟩; dsimp only
  refine safe_bind (s95 h _ _ _ _ _ _ _ _) ?_; rintro ⟨_, _, _, _, _, _, _, _, _, _⟩; dsimp only
  refine safe_bind (s96 h _ _ _ _ _ _ _ _ _ _) ?_; rintro ⟨_, _, _, _, _, _, _⟩; dsimp only
  refine safe_bind (s97 h _ _ _ _ _ _ _) ?_; rintro ⟨_, _⟩; dsimp only
  refine safe_bind (s98 h _ _ _) fun _ => ?_
  refine safe_bind (s99 h _ _ _ _ _ _ _) ?_; rintro ⟨_, _, _, _, _⟩; dsimp only
  refine safe_bind (s100 h _ _ _ _ _ _) ?_; rintro ⟨_, _, _, _, _⟩; dsimp only
  refine safe_bind (s101 h _ _ _ _ _ _ _) ?_; rintro ⟨_, _, _, _, _, _⟩; dsimp only
  refine safe_bind (s102 h _ _ _) ?_; rintro ⟨_, _, _, _, _, _, _, _⟩; dsimp only
  refine safe_bind (s103 h _ _ _ _ _ _ _ _ _) ?_; rintro ⟨_, _⟩; dsimp only
  refine safe_bind (s104 h _ _ _ _ _) ?_; rintro ⟨_, _⟩; dsimp only
  refine safe_bind (s105 h _ _ _ _ _) ?_; rintro ⟨_, _⟩; dsimp only
  refine safe_bind (s106 h _ _ _ _ _ _) ?_; rintro ⟨_, _, _⟩; dsimp only
  refine safe_bind (s107 h _ _ _ _) ?_; rintro ⟨_, _, _, _, _, _⟩; dsimp only
  refine safe_bind (s108 h _ _) ?_; rintro ⟨_, _, _, _, _, _⟩; dsimp only
  refine safe_bind (s109 h _ _ _ _ _ _ _ _) ?_; rintro ⟨_, _⟩; dsimp only
  refine safe_bind (s110 h _ _ _ _) ?_; rintro ⟨_, _, _, _⟩; dsimp only
  refine safe_bind (s111 h _ _ _ _ _ _ _ _) ?_; rintro ⟨_, _, _, _, _, _, _⟩; dsimp only
  refine safe_bind (s112 h _ _ _ _ _ _ _ _) ?_; rintro ⟨_, _, _, _, _, _⟩; dsimp only
  refine safe_bind (s113 h _ _ _ _ _ _) ?_; rintro ⟨_, _⟩; dsimp only
  refine safe_bind (s114 h _ _ _) fun _ => ?_
  refine safe_bind (s115 h _) ?_; rintro ⟨_, _, _⟩; dsimp only
  cases h
  repeat' first | (with_reducible first | refine safe_bind ?_ fun _ => ?_ | exact safe_load (by assumption) | exact safe_load (Wr.rd (by assumption)) | exact safe_store (by assumption) | exact safe_ret _) | exact safe_smem (by assumption)

end Cert.Kernel.Hand
-- ==== Proof.MixStep.lean ====
module

public import proofs.«01_k».proof.Proof.MixLoad
public import proofs.«01_k».proof.Proof.MixWhole
public import Idealize.ShloMosaic.Lib.Pipeline.TableIdle

/-!
  The mixer's grid step on what the launch gives it: the input windows' blocks, the output window, the scratch buffers.
-/

@[expose] public section

set_option maxRecDepth 65536
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

section
variable {c : Dev nD} {cs : CoreSpace} {s : Shape} {e : EltTy} {m : Memref sig .tc cs s e}

theorem Rd.tail {P Q : sProp 𝕄} (h : Rd (F := F) c Q m) : Rd (F := F) c iprop(P ∗ Q) m := by
  unfold Rd at *
  iintro ⟨HP, HQ⟩
  ihave H := h $$ HQ
  icases H with ⟨%q, %f, H, Hk⟩
  iexists q, f
  isplitl [H]; · iexact H
  iintro H
  isplitl [HP]; · iexact HP
  iapply Hk; iexact H

theorem Wr.tail {P Q : sProp 𝕄} (h : Wr (F := F) c Q m) : Wr (F := F) c iprop(P ∗ Q) m := by
  unfold Wr at *
  iintro ⟨HP, HQ⟩
  ihave H := h $$ HQ
  icases H with ⟨%f, H, Hk⟩
  iexists f
  isplitl [H]; · iexact H
  iintro %f' H
  isplitl [HP]; · iexact HP
  iapply Hk; iexact H

theorem Rd.head {Q : sProp 𝕄} {X : s.Idx → Elt F e} : Rd (F := F) c iprop(owns (c : Thread nD τ) m fullShare X ∗ Q) m := by
  unfold Rd
  rw [owns_eq_rep]
  iintro ⟨H, HQ⟩
  iexists fullShare, _
  isplitl [H]; · iexact H
  iintro H
  isplitl [H]; · iexact H
  iexact HQ

theorem Wr.headO {Q : sProp 𝕄} : Wr (F := F) c iprop((∃ X, owns (c : Thread nD τ) m fullShare X) ∗ Q) m := by
  unfold Wr
  iintro ⟨⟨%X, H⟩, HQ⟩
  unfold owns
  icases H with ⟨%f, -, H⟩
  iexists f
  isplitl [H]; · iexact H
  iintro %f' H
  isplitl [H]
  · iexists _, f'
    isplitr
    swap; · iexact H
    ipureintro; rfl
  iexact HQ

theorem Wr.headS {Q : sProp 𝕄} : Wr (F := F) c iprop((∃ f, m.view.loc (c : Thread nD τ) ↦[m.view.set]{fullShare} f) ∗ Q) m := by
  unfold Wr
  iintro ⟨⟨%f, H⟩, HQ⟩
  iexists f
  isplitl [H]; · iexact H
  iintro %f' H
  isplitl [H]
  · iexists f'; iexact H
  iexact HQ

theorem whole_pt (c : Dev nD) (b : Ref sig .tc) :
    (iprop(∃ f, (Memref.whole b).view.loc (c : Thread nD τ) ↦[(Memref.whole b).view.set]{fullShare} f) : sProp 𝕄)
      = iprop(∃ f, ((c : Thread nD τ).loc b) ↦{fullShare} f) := by
  rw [show (Memref.whole b : Memref sig .tc _ _ _).view.set = Finset.univ from View.set_whole b]

theorem Safe.tail {α : Type} {P Q : sProp 𝕄} {p : Prog (TpuEff nD τ sig (Elt F) Λ₀ .tc) α} (h : Safe (F := F) c Q p) : Safe (F := F) c iprop(P ∗ Q) p := by
  unfold Safe at *
  exact (sep_mono .rfl h).trans (wp_frame_l _ _ _)

theorem Wr.headW {fw : Buf (Elt F) (hbW.view.loc (c : Thread nD τ))} : Wr (F := F) c (Zr c fw) scW := by
  have e : scW.view.set = Finset.univ := View.set_whole cc0_scratch0
  unfold Zr Wr
  rw [e]
  iintro ⟨⟨%f, H⟩, HQ⟩
  iexists f
  isplitl [H]; · iexact H
  iintro %f' H
  isplitl [H]
  · iexists f'; iexact H
  iexact HQ

end
variable {c : Dev nD} {i : grid0.Coords}
  {arg2 : Memref sig .tc .smem S8 .f32} {harg2 : arg2.IsWhole} {arg3 : Memref sig .tc .smem S8 .f32} {harg3 : arg3.IsWhole} {arg4 : Memref sig .tc .vmem S512x1024 .bf16} {harg4 : arg4.IsWhole}
  {arg5 : Memref sig .tc .vmem S128x512 .bf16} {harg5 : arg5.IsWhole} {arg6 : Memref sig .tc .vmem S512x512 .bf16} {harg6 : arg6.IsWhole} {arg7 : Memref sig .tc .vmem S128x512 .bf16} {harg7 : arg7.IsWhole}
  {arg8 : Memref sig .tc .vmem S16x384x128 .f32} {harg8 : arg8.IsWhole} {arg9 : Memref sig .tc .vmem S384x128 .f32} {harg9 : arg9.IsWhole} {arg10 : Memref sig .tc .vmem S4x1x512 .f32} {harg10 : arg10.IsWhole}
  {arg11 : Memref sig .tc .vmem S512x512 .bf16} {harg11 : arg11.IsWhole} {arg12 : Memref sig .tc .vmem S512x512 .bf16} {harg12 : arg12.IsWhole} {arg13 : Memref sig .tc .vmem S512x512 .bf16} {harg13 : arg13.IsWhole}
  {arg14 : Memref sig .tc .vmem S512x512 .bf16} {harg14 : arg14.IsWhole} {arg15 : Memref sig .tc .vmem S512x512 .bf16} {harg15 : arg15.IsWhole} {arg16 : Memref sig .tc .vmem S512x512 .bf16} {harg16 : arg16.IsWhole}
  {arg17 : Memref sig .tc .vmem S512x512 .bf16} {harg17 : arg17.IsWhole} {arg18 : Memref sig .tc .vmem S512x512 .bf16} {harg18 : arg18.IsWhole} {arg19 : Memref sig .tc .vmem S4x4x64x256 .bf16} {harg19 : arg19.IsWhole}
  {arg20 : Memref sig .tc .vmem S1x1024 .f32} {harg20 : arg20.IsWhole} {arg21 : Memref sig .tc .vmem S512x2048 .f32} {harg21 : arg21.IsWhole} {arg22 : Memref sig .tc .vmem S1x1024 .f32} {harg22 : arg22.IsWhole}
  {arg23 : Memref sig .tc .hbm S2048x2048 .f32} {harg23 : arg23.IsWhole} {arg24 : Memref sig .tc .vmem S1x2048 .f32} {harg24 : arg24.IsWhole} {arg25 : Memref sig .tc .vmem S512x2048 .f32} {harg25 : arg25.IsWhole}
  {arg26 : Memref sig .tc .vmem S2048x2048 .bf16} {harg26 : arg26.IsWhole} {arg27 : Memref sig .tc .vmem S3x2048x256 .f32} {harg27 : arg27.IsWhole} {arg28 : DmaSems sig S3}
  {arg29 : Memref sig .tc .vmem S512x1024 .bf16} {harg29 : arg29.IsWhole} {arg30 : Memref sig .tc .vmem S512x1024 .bf16} {harg30 : arg30.IsWhole} {arg31 : Memref sig .tc .vmem S4x128x256 .f32} {harg31 : arg31.IsWhole}
  {arg32 : Memref sig .tc .vmem S8x128x128 .f32} {harg32 : arg32.IsWhole} {arg33 : Memref sig .tc .vmem S4x128x128 .f32} {harg33 : arg33.IsWhole} {arg34 : Memref sig .tc .vmem S4x128x128 .f32} {harg34 : arg34.IsWhole}
  {arg35 : Memref sig .tc .vmem S4x128x128 .f32} {harg35 : arg35.IsWhole} {arg36 : Memref sig .tc .vmem S4x128x256 .f32} {harg36 : arg36.IsWhole}

/-- What a grid step runs from and to: the input windows at their blocks, everything else at some contents. -/
def Res (c : Dev nD) (arg2 : Memref sig .tc .smem S8 .f32) (arg3 : Memref sig .tc .smem S8 .f32) (arg4 : Memref sig .tc .vmem S512x1024 .bf16) (arg5 : Memref sig .tc .vmem S128x512 .bf16) (arg6 : Memref sig .tc .vmem S512x512 .bf16) (arg7 : Memref sig .tc .vmem S128x512 .bf16) (arg8 : Memref sig .tc .vmem S16x384x128 .f32) (arg9 : Memref sig .tc .vmem S384x128 .f32) (arg10 : Memref sig .tc .vmem S4x1x512 .f32) (arg11 : Memref sig .tc .vmem S512x512 .bf16) (arg12 : Memref sig .tc .vmem S512x512 .bf16) (arg13 : Memref sig .tc .vmem S512x512 .bf16) (arg14 : Memref sig .tc .vmem S512x512 .bf16) (arg15 : Memref sig .tc .vmem S512x512 .bf16) (arg16 : Memref sig .tc .vmem S512x512 .bf16) (arg17 : Memref sig .tc .vmem S512x512 .bf16) (arg18 : Memref sig .tc .vmem S512x512 .bf16) (arg19 : Memref sig .tc .vmem S4x4x64x256 .bf16) (arg20 : Memref sig .tc .vmem S1x1024 .f32) (arg21 : Memref sig .tc .vmem S512x2048 .f32) (arg22 : Memref sig .tc .vmem S1x1024 .f32) (arg24 : Memref sig .tc .vmem S1x2048 .f32) (arg25 : Memref sig .tc .vmem S512x2048 .f32) (arg29 : Memref sig .tc .vmem S512x1024 .bf16) (arg30 : Memref sig .tc .vmem S512x1024 .bf16) (arg31 : Memref sig .tc .vmem S4x128x256 .f32) (arg32 : Memref sig .tc .vmem S8x128x128 .f32) (arg33 : Memref sig .tc .vmem S4x128x128 .f32) (arg34 : Memref sig .tc .vmem S4x128x128 .f32) (arg35 : Memref sig .tc .vmem S4x128x128 .f32) (arg36 : Memref sig .tc .vmem S4x128x256 .f32)
    (X2 : S8.Idx → Elt F .f32) (X3 : S8.Idx → Elt F .f32) (X4 : S512x1024.Idx → Elt F .bf16) (X5 : S128x512.Idx → Elt F .bf16) (X6 : S512x512.Idx → Elt F .bf16) (X7 : S128x512.Idx → Elt F .bf16) (X8 : S16x384x128.Idx → Elt F .f32) (X9 : S384x128.Idx → Elt F .f32) (X10 : S4x1x512.Idx → Elt F .f32) (X11 : S512x512.Idx → Elt F .bf16) (X12 : S512x512.Idx → Elt F .bf16) (X13 : S512x512.Idx → Elt F .bf16) (X14 : S512x512.Idx → Elt F .bf16) (X15 : S512x512.Idx → Elt F .bf16) (X16 : S512x512.Idx → Elt F .bf16) (X17 : S512x512.Idx → Elt F .bf16) (X18 : S512x512.Idx → Elt F .bf16) (X19 : S4x4x64x256.Idx → Elt F .bf16) (X20 : S1x1024.Idx → Elt F .f32) (X21 : S512x2048.Idx → Elt F .f32) (X22 : S1x1024.Idx → Elt F .f32) (X24 : S1x2048.Idx → Elt F .f32) (fw : Buf (Elt F) (hbW.view.loc (c : Thread nD τ))) : sProp 𝕄 :=
  iprop((∃ r, prngReg c r)
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ owns (c : Thread nD τ) arg22 fullShare X22
    ∗ owns (c : Thread nD τ) arg24 fullShare X24
    ∗ (∃ X, owns (c : Thread nD τ) arg25 fullShare X)
    ∗ (∃ f, arg29.view.loc (c : Thread nD τ) ↦[arg29.view.set]{fullShare} f)
    ∗ (∃ f, arg30.view.loc (c : Thread nD τ) ↦[arg30.view.set]{fullShare} f)
    ∗ (∃ f, arg31.view.loc (c : Thread nD τ) ↦[arg31.view.set]{fullShare} f)
    ∗ (∃ f, arg32.view.loc (c : Thread nD τ) ↦[arg32.view.set]{fullShare} f)
    ∗ (∃ f, arg33.view.loc (c : Thread nD τ) ↦[arg33.view.set]{fullShare} f)
    ∗ (∃ f, arg34.view.loc (c : Thread nD τ) ↦[arg34.view.set]{fullShare} f)
    ∗ (∃ f, arg35.view.loc (c : Thread nD τ) ↦[arg35.view.set]{fullShare} f)
    ∗ (∃ f, arg36.view.loc (c : Thread nD τ) ↦[arg36.view.set]{fullShare} f)
    ∗ Zr c fw)

theorem res_ok {X2 : S8.Idx → Elt F .f32} {X3 : S8.Idx → Elt F .f32} {X4 : S512x1024.Idx → Elt F .bf16} {X5 : S128x512.Idx → Elt F .bf16} {X6 : S512x512.Idx → Elt F .bf16} {X7 : S128x512.Idx → Elt F .bf16} {X8 : S16x384x128.Idx → Elt F .f32} {X9 : S384x128.Idx → Elt F .f32} {X10 : S4x1x512.Idx → Elt F .f32} {X11 : S512x512.Idx → Elt F .bf16} {X12 : S512x512.Idx → Elt F .bf16} {X13 : S512x512.Idx → Elt F .bf16} {X14 : S512x512.Idx → Elt F .bf16} {X15 : S512x512.Idx → Elt F .bf16} {X16 : S512x512.Idx → Elt F .bf16} {X17 : S512x512.Idx → Elt F .bf16} {X18 : S512x512.Idx → Elt F .bf16} {X19 : S4x4x64x256.Idx → Elt F .bf16} {X20 : S1x1024.Idx → Elt F .f32} {X21 : S512x2048.Idx → Elt F .f32} {X22 : S1x1024.Idx → Elt F .f32} {X24 : S1x2048.Idx → Elt F .f32} {fw : Buf (Elt F) (hbW.view.loc (c : Thread nD τ))} :
    Ok (F := F) c (Res c arg2 arg3 arg4 arg5 arg6 arg7 arg8 arg9 arg10 arg11 arg12 arg13 arg14 arg15 arg16 arg17 arg18 arg19 arg20 arg21 arg22 arg24 arg25 arg29 arg30 arg31 arg32 arg33 arg34 arg35 arg36 X2 X3 X4 X5 X6 X7 X8 X9 X10 X11 X12 X13 X14 X15 X16 X17 X18 X19 X20 X21 X22 X24 fw) arg2 arg3 arg4 arg5 arg6 arg7 arg8 arg9 arg10 arg11 arg12 arg13 arg14 arg15 arg16 arg17 arg18 arg19 arg20 arg21 arg22 hbW arg24 arg25 scW scS cc0_scratch2 arg29 arg30 arg31 arg32 arg33 arg34 arg35 arg36 := by
  unfold Res
  constructor
  · exact Rd.tail Rd.head
  · exact Rd.tail (Rd.tail Rd.head)
  · exact Rd.tail (Rd.tail (Rd.tail Rd.head))
  · exact Rd.tail (Rd.tail (Rd.tail (Rd.tail Rd.head)))
  · exact Rd.tail (Rd.tail (Rd.tail (Rd.tail (Rd.tail Rd.head))))
  · exact Rd.tail (Rd.tail (Rd.tail (Rd.tail (Rd.tail (Rd.tail Rd.head)))))
  · exact Rd.tail (Rd.tail (Rd.tail (Rd.tail (Rd.tail (Rd.tail (Rd.tail Rd.head))))))
  · exact Rd.tail (Rd.tail (Rd.tail (Rd.tail (Rd.tail (Rd.tail (Rd.tail (Rd.tail Rd.head)))))))
  · exact Rd.tail (Rd.tail (Rd.tail (Rd.tail (Rd.tail (Rd.tail (Rd.tail (Rd.tail (Rd.tail Rd.head))))))))
  · exact Rd.tail (Rd.tail (Rd.tail (Rd.tail (Rd.tail (Rd.tail (Rd.tail (Rd.tail (Rd.tail (Rd.tail Rd.head)))))))))
  · exact Rd.tail (Rd.tail (Rd.tail (Rd.tail (Rd.tail (Rd.tail (Rd.tail (Rd.tail (Rd.tail (Rd.tail (Rd.tail Rd.head))))))))))
  · exact Rd.tail (Rd.tail (Rd.tail (Rd.tail (Rd.tail (Rd.tail (Rd.tail (Rd.tail (Rd.tail (Rd.tail (Rd.tail (Rd.tail Rd.head)))))))))))
  · exact Rd.tail (Rd.tail (Rd.tail (Rd.tail (Rd.tail (Rd.tail (Rd.tail (Rd.tail (Rd.tail (Rd.tail (Rd.tail (Rd.tail (Rd.tail Rd.head))))))))))))
  · exact Rd.tail (Rd.tail (Rd.tail (Rd.tail (Rd.tail (Rd.tail (Rd.tail (Rd.tail (Rd.tail (Rd.tail (Rd.tail (Rd.tail (Rd.tail (Rd.tail Rd.head)))))))))))))
  · exact Rd.tail (Rd.tail (Rd.tail (Rd.tail (Rd.tail (Rd.tail (Rd.tail (Rd.tail (Rd.tail (Rd.tail (Rd.tail (Rd.tail (Rd.tail (Rd.tail (Rd.tail Rd.head))))))))))))))
  · exact Rd.tail (Rd.tail (Rd.tail (Rd.tail (Rd.tail (Rd.tail (Rd.tail (Rd.tail (Rd.tail (Rd.tail (Rd.tail (Rd.tail (Rd.tail (Rd.tail (Rd.tail (Rd.tail Rd.head)))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail Rd.head))))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail Rd.head)))))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail Rd.head))))))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail Rd.head)))))))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail Rd.head))))))))))))))))))))
  · exact Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail (Rd.tail Rd.head)))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headO))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headW)))))))))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS)))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS)))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS))))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS)))))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS))))))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS)))))))))))))))))))))))))))))
  · exact Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail (Wr.tail Wr.headS))))))))))))))))))))))))))))))

theorem step_safe {X2 : S8.Idx → Elt F .f32} {X3 : S8.Idx → Elt F .f32} {X4 : S512x1024.Idx → Elt F .bf16} {X5 : S128x512.Idx → Elt F .bf16} {X6 : S512x512.Idx → Elt F .bf16} {X7 : S128x512.Idx → Elt F .bf16} {X8 : S16x384x128.Idx → Elt F .f32} {X9 : S384x128.Idx → Elt F .f32} {X10 : S4x1x512.Idx → Elt F .f32} {X11 : S512x512.Idx → Elt F .bf16} {X12 : S512x512.Idx → Elt F .bf16} {X13 : S512x512.Idx → Elt F .bf16} {X14 : S512x512.Idx → Elt F .bf16} {X15 : S512x512.Idx → Elt F .bf16} {X16 : S512x512.Idx → Elt F .bf16} {X17 : S512x512.Idx → Elt F .bf16} {X18 : S512x512.Idx → Elt F .bf16} {X19 : S4x4x64x256.Idx → Elt F .bf16} {X20 : S1x1024.Idx → Elt F .f32} {X21 : S512x2048.Idx → Elt F .f32} {X22 : S1x1024.Idx → Elt F .f32} {X24 : S1x2048.Idx → Elt F .f32} {fw : Buf (Elt F) (hbW.view.loc (c : Thread nD τ))} :
    Safe (F := F) c (Res c arg2 arg3 arg4 arg5 arg6 arg7 arg8 arg9 arg10 arg11 arg12 arg13 arg14 arg15 arg16 arg17 arg18 arg19 arg20 arg21 arg22 arg24 arg25 arg29 arg30 arg31 arg32 arg33 arg34 arg35 arg36 X2 X3 X4 X5 X6 X7 X8 X9 X10 X11 X12 X13 X14 X15 X16 X17 X18 X19 X20 X21 X22 X24 fw) (cc0_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hbW (Memref.isWhole_whole _) arg24 harg24 arg25 harg25 scW (Memref.isWhole_whole _) scS (Memref.isWhole_whole _) cc0_scratch2 arg29 harg29 arg30 harg30 arg31 harg31 arg32 harg32 arg33 harg33 arg34 harg34 arg35 harg35 arg36 harg36) := by
  refine smix (F := F) res_ok fun k0_h1 => ?_
  unfold Res
  exact Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail (Safe.tail ((load_safe k0_h1 fw)))))))))))))))))))))))))))))))))

end Cert.Kernel.Hand
-- ==== Proof.MixFrame.lean ====
module

public import proofs.«01_k».proof.Proof.MixStep
public import proofs.«01_k».proof.Proof.Gen.Kernel.Frame
public import Idealize.ShloMosaic.Lib.Pipeline.Frame

/-!
  The mixer's launch: every input window kept at its block, the result's window unnamed, the scratch buffers at some
  contents between steps; the run leaves every argument array as it was and the semaphores at zero.
-/

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## What an input window holds when a step starts -/

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S32768x5632.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10 {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11 {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12 {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13 {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14 {c : Dev nD} (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15 {c : Dev nD} (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before_16 {c : Dev nD} (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before_17 {c : Dev nD} (dat : Dat τ (Elt F) Unit ℕ (Pipeline.UD sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before_18 {c : Dev nD} (dat : Dat τ (Elt F) Unit ℕ (Pipeline.UD sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before_19 {c : Dev nD} (dat : Dat τ (Elt F) Unit ℕ (Pipeline.UD sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before_20 {c : Dev nD} (dat : Dat τ (Elt F) Unit ℕ (Pipeline.UD sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before_21 {c : Dev nD} (dat : Dat τ (Elt F) Unit ℕ (Pipeline.UD sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores, the weights left in HBM, the scratch buffers -/

abbrev osem0 : Fin 3 → SemLoc sig := fun j => (![SemLoc.dma 38, SemLoc.dma 39, SemLoc.dma 40] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2] (by decide) (by decide)]; rfl
def H0 : Finset (Ref sig .tc) := {main_arg10}
theorem H0_sub : H0 ⊆ Pipeline.restRefs sig spec0 := by decide
theorem hbmPts0_eq (c : Dev nD) :
    (bigSep H0 (fun b => ((c : Thread nD τ).loc b) ↦{fullShare} V m c b) : sProp 𝕄) = iprop(hbW.view.loc (c : Thread nD τ) ↦{fullShare} V m c main_arg10) := by
  rw [BI.bigSep_eq_bigSepL_of_eq [main_arg10] (by decide) (by decide)]; rfl

/-- Between steps: the scratch buffers at some contents, the semaphores at zero, the weights in HBM as launched. -/
def Inv (c : Dev nD) : sProp 𝕄 :=
  iprop(iprop((∃ f, scW.view.loc (c : Thread nD τ) ↦{fullShare} f) ∗ (∃ f, scS.view.loc (c : Thread nD τ) ↦{fullShare} f)
      ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f)) ∗ (∃ r, prngReg c r)
    ∗ iprop(semVal ((c : Thread nD τ), SemLoc.dma 38) 0 ∗ semVal ((c : Thread nD τ), SemLoc.dma 39) 0 ∗ semVal ((c : Thread nD τ), SemLoc.dma 40) 0)
    ∗ iprop(hbW.view.loc (c : Thread nD τ) ↦{fullShare} V m c main_arg10))
theorem PhiD0_eq (c : Dev nD) : (Pipeline.ΦD osem0 spec0 H0 (V m) c : sProp 𝕄) = Inv m c := by
  unfold Inv
  rw [Pipeline.ΦD_eq, scopedRest0_eq, ownSems00_eq, hbmPts0_eq]; try rfl

/-! ## The proof data -/

/-- The result's window, forgotten. -/
def forgets0 : Fin 23 → Bool := fun w => w = 22

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨n + 22, h⟩ => Pipeline.Dat.unnamed (cfg := cfg0) ⟨n + 22, h⟩ t
  Φ _ := Inv m c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ X, owns (c : Thread nD τ) (st0_22 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ (∃ X, owns (c : Thread nD τ) (st0_22 t) fullShare X))

/-- What the step runs from and to at a grid point. -/
abbrev ResAt (c : Dev nD) (t : Fin cfg0.N) : sProp 𝕄 :=
  Res c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (V m c main_arg10)

set_option maxHeartbeats 4000000 in
theorem pre_res (c : Dev nD) (t : Fin cfg0.N) : bodyPre m c t ⊢ ResAt m c t := by
  unfold bodyPre ResAt Res
  simp only [fun d => before_0 m (dats m 0 c) (A_eq m c 0) (after_0 m c) t d, fun d => before_1 m (dats m 0 c) (A_eq m c 1) (after_1 m c) t d, fun d => before_2 m (dats m 0 c) (A_eq m c 2) (after_2 m c) t d, fun d => before_3 m (dats m 0 c) (A_eq m c 3) (after_3 m c) t d, fun d => before_4 m (dats m 0 c) (A_eq m c 4) (after_4 m c) t d, fun d => before_5 m (dats m 0 c) (A_eq m c 5) (after_5 m c) t d, fun d => before_6 m (dats m 0 c) (A_eq m c 6) (after_6 m c) t d, fun d => before_7 m (dats m 0 c) (A_eq m c 7) (after_7 m c) t d, fun d => before_8 m (dats m 0 c) (A_eq m c 8) (after_8 m c) t d, fun d => before_9 m (dats m 0 c) (A_eq m c 9) (after_9 m c) t d, fun d => before_10 m (dats m 0 c) (A_eq m c 10) (after_10 m c) t d, fun d => before_11 m (dats m 0 c) (A_eq m c 11) (after_11 m c) t d, fun d => before_12 m (dats m 0 c) (A_eq m c 12) (after_12 m c) t d, fun d => before_13 m (dats m 0 c) (A_eq m c 13) (after_13 m c) t d, fun d => before_14 m (dats m 0 c) (A_eq m c 14) (after_14 m c) t d, fun d => before_15 m (dats m 0 c) (A_eq m c 15) (after_15 m c) t d, fun d => before_16 m (dats m 0 c) (A_eq m c 16) (after_16 m c) t d, fun d => before_17 m (dats m 0 c) (A_eq m c 17) (after_17 m c) t d, fun d => before_18 m (dats m 0 c) (A_eq m c 18) (after_18 m c) t d, fun d => before_19 m (dats m 0 c) (A_eq m c 19) (after_19 m c) t d, fun d => before_20 m (dats m 0 c) (A_eq m c 20) (after_20 m c) t d, fun d => before_21 m (dats m 0 c) (A_eq m c 21) (after_21 m c) t d]
  rw [show (dats m 0 c).Φ t.castSucc = Inv m c from rfl]
  unfold Dat.owesAt Pipeline.owesWithin
  rw [show (dats m 0 c).owed t.castSucc = 0 from rfl]
  unfold Inv Zr
  iintro ⟨⟨⟨HW, HS, S3, S4, S5, S6, S7, S8, S9, S10⟩, Hg, ⟨Hq0, Hq1, Hq2⟩, Hw⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, H22⟩
  ihave HT := (slots_in c) $$ HS
  icases HT with ⟨T0, T1, T2⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S3]; · iapply (Entails.of_eq (whole_pt c cc0_scratch3).symm); iexact S3
  isplitl [S4]; · iapply (Entails.of_eq (whole_pt c cc0_scratch4).symm); iexact S4
  isplitl [S5]; · iapply (Entails.of_eq (whole_pt c cc0_scratch5).symm); iexact S5
  isplitl [S6]; · iapply (Entails.of_eq (whole_pt c cc0_scratch6).symm); iexact S6
  isplitl [S7]; · iapply (Entails.of_eq (whole_pt c cc0_scratch7).symm); iexact S7
  isplitl [S8]; · iapply (Entails.of_eq (whole_pt c cc0_scratch8).symm); iexact S8
  isplitl [S9]; · iapply (Entails.of_eq (whole_pt c cc0_scratch9).symm); iexact S9
  isplitl [S10]; · iapply (Entails.of_eq (whole_pt c cc0_scratch10).symm); iexact S10
  isplitl [HW]; · iexact HW
  isplitl [Hw]; · iexact Hw
  isplitl [T0]; · iexact T0
  isplitl [T1]; · iexact T1
  isplitl [T2]; · iexact T2
  isplitl [Hq0]; · iexact Hq0
  isplitl [Hq1]; · iexact Hq1
  isplitl [Hq2]; · iexact Hq2
  iexists W; iexact HO

set_option maxHeartbeats 4000000 in
theorem res_post (c : Dev nD) (t : Fin cfg0.N) : ResAt m c t ⊢ bodyPost m c t := by
  unfold bodyPost ResAt Res
  rw [after_0, after_1, after_2, after_3, after_4, after_5, after_6, after_7, after_8, after_9, after_10, after_11, after_12, after_13, after_14, after_15, after_16, after_17, after_18, after_19, after_20, after_21, show (dats m 0 c).Φ t.succ = Inv m c from rfl]
  unfold Dat.owesAt Pipeline.owesWithin
  rw [show (dats m 0 c).owed t.succ = 0 from rfl]
  unfold Inv Zr
  iintro ⟨Hg, H0, H1, H2, H3, H4, H5, H6, H7, H8, H9, H10, H11, H12, H13, H14, H15, H16, H17, H18, H19, H20, H21, H22, S3, S4, S5, S6, S7, S8, S9, S10, HW, Hw, T0, T1, T2, Hq0, Hq1, Hq2, ⟨%W, HO⟩⟩
  isplitl [Hg S3 S4 S5 S6 S7 S8 S9 S10 HW Hw T0 T1 T2 Hq0 Hq1 Hq2]
  · isplitl [S3 S4 S5 S6 S7 S8 S9 S10 HW T0 T1 T2]
    · isplitl [HW]; · iexact HW
      isplitl [T0 T1 T2]
      · iapply (slots_out c)
        isplitl [T0]; · iexact T0
        isplitl [T1]; · iexact T1
        iexact T2
      isplitl [S3]; · iapply (Entails.of_eq (whole_pt c cc0_scratch3)); iexact S3
      isplitl [S4]; · iapply (Entails.of_eq (whole_pt c cc0_scratch4)); iexact S4
      isplitl [S5]; · iapply (Entails.of_eq (whole_pt c cc0_scratch5)); iexact S5
      isplitl [S6]; · iapply (Entails.of_eq (whole_pt c cc0_scratch6)); iexact S6
      isplitl [S7]; · iapply (Entails.of_eq (whole_pt c cc0_scratch7)); iexact S7
      isplitl [S8]; · iapply (Entails.of_eq (whole_pt c cc0_scratch8)); iexact S8
      isplitl [S9]; · iapply (Entails.of_eq (whole_pt c cc0_scratch9)); iexact S9
      iapply (Entails.of_eq (whole_pt c cc0_scratch10)); iexact S10
    isplitl [Hg]; · iexact Hg
    isplitl [Hq0 Hq1 Hq2]
    · isplitl [Hq0]; · iexact Hq0
      isplitl [Hq1]; · iexact Hq1
      iexact Hq2
    iexact Hw
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem sound_body (c : Dev nD) (t : Fin cfg0.N) :
    bodyPre m c t ⊢ wp frame (wpE (defs₀ (F := F)) Variants.none c none) Set.univ (bodyAt0 t) (fun _ => bodyPost m c t) :=
  (pre_res m c t).trans ((show ResAt m c t ⊢ wp frame (wpE (defs₀ (F := F)) Variants.none c none) Set.univ (bodyAt0 t) (fun _ => ResAt m c t) from step_safe (F := F)).trans
    (wp_mono frame _ _ fun _ => res_post m c t))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun _ _ _ => rfl)
    (howed := fun _ _ => rfl) (V := V m) (hmain := hmainD m Variants.none) (hA := A_eq m)
    (hin := fun c => Entails.of_eq (PhiD0_eq m c)) (hout := fun c => Entails.of_eq (PhiD0_eq m c).symm)

/-- A final state's array of a window kept: its contents after the last step. -/
theorem final_of {r : PUnit × MemSt nD τ sig (Elt F)} (h : Pipeline.RDat.FramePost (cfgs 0) (fun c => (dats m 0 c).toRForget forgets0) (V m) r)
    (c : Dev nD) (w : Fin 23) (hw : forgets0 w = false) :
    r.2.mem ((cfg0.spec w).arr.view.loc (c.tc : Thread nD τ)) = (dats m 0 c).arrAt w cfg0.N :=
  ((dats m 0 c).toRForget_arrAt_iff hw _ _).mp ((h c).1 w)

theorem args_of {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(final_of m h c 0 rfl).trans (((dats m 0 c).arrAt_in 0 rfl _).trans (A_eq m c 0)),
   (final_of m h c 1 rfl).trans (((dats m 0 c).arrAt_in 1 rfl _).trans (A_eq m c 1)),
   (final_of m h c 16 rfl).trans (((dats m 0 c).arrAt_in 16 rfl _).trans (A_eq m c 16)),
   (final_of m h c 17 rfl).trans (((dats m 0 c).arrAt_in 17 rfl _).trans (A_eq m c 17)),
   (final_of m h c 19 rfl).trans (((dats m 0 c).arrAt_in 19 rfl _).trans (A_eq m c 19)),
   (final_of m h c 6 rfl).trans (((dats m 0 c).arrAt_in 6 rfl _).trans (A_eq m c 6)),
   (final_of m h c 7 rfl).trans (((dats m 0 c).arrAt_in 7 rfl _).trans (A_eq m c 7)),
   (final_of m h c 8 rfl).trans (((dats m 0 c).arrAt_in 8 rfl _).trans (A_eq m c 8)),
   (final_of m h c 18 rfl).trans (((dats m 0 c).arrAt_in 18 rfl _).trans (A_eq m c 18)),
   (final_of m h c 20 rfl).trans (((dats m 0 c).arrAt_in 20 rfl _).trans (A_eq m c 20)),
   (h c).2 main_arg10 (Pipeline.mem_restRefs_of main_arg10 (by decide) (by decide)),
   (final_of m h c 21 rfl).trans (((dats m 0 c).arrAt_in 21 rfl _).trans (A_eq m c 21))⟩

end Cert.Kernel.Hand
-- ==== Proof.MixIdeal.lean ====
module

public import proofs.«01_k».proof.Proof.Gen.Kernel
public import proofs.«01_k».proof.Proof.MixFrame
public import proofs.«01_k».proof.Proof.Gen.KernelIdeal
public import Idealize.ShloMosaic.Lib.Tactic

/-!
  The mixer read at the extended reals is the same program: its run is the run of the program as written.
-/

@[expose] public section

noncomputable section
namespace Cert.KernelIdeal.Hand
open Idealize.ShloMosaic Idealize.ShloMosaic.TcCoe Idealize.ShloMosaic.Tactic Idealize.SL.Sem
section
attribute [local instance] Cert.Kernel.Gen.facts Cert.KernelIdeal.Gen.facts

/-- The program as written runs and keeps its arguments. -/
def RunsK (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

/-- The program printed for the extended reals runs and keeps its arguments. -/
def RunsI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

theorem runsK (F : FTy → Type) [FloatOps F] : RunsK F := fun m g =>
  (θ_run Cert.Kernel.defs _ _).mono (fun _ h => ⟨fun c => Cert.Kernel.Hand.args_of m h.1 c, h.2⟩) (Cert.Kernel.Hand.run_main (F := F) m g)

theorem runs_eq (F : FTy → Type) [FloatOps F] : RunsI F = RunsK F := by
  sl_kernel_rfl

theorem runsI (F : FTy → Type) [FloatOps F] : RunsI F := (runs_eq F).mpr (runsK F)

end
end Cert.KernelIdeal.Hand
end
-- ==== Proof.lean ====
/-
  The proof of `Cert.Claim`: the mixer's launch, as written and at the extended reals; the input projection's launch, as written and at the extended reals, the reference's run,
  and the equality of the projected rows.
-/
module

public import proofs.«01_k».proof.Defs
public import proofs.«01_k».proof.Proof.Ideal2
public import proofs.«01_k».proof.Proof.Value2
public import proofs.«01_k».proof.Proof.Ref2
public import proofs.«01_k».proof.Proof.MixIdeal
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal.Run
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.Kernel2.Gen.facts Cert.Kernel2Ideal.Gen.facts Cert.Reference2Ideal.Gen.facts

/-- The mixer's launch leaves its arguments as they were and its semaphores at zero. -/
theorem frame_1 : Cert.quiescent_Kernel (hKernel := Cert.Kernel.Gen.facts) :=
  fun m g _ => Cert.KernelIdeal.Hand.runsK Bits m g

theorem frame_1i : Cert.quiescent_KernelIdeal (hKernelIdeal := Cert.KernelIdeal.Gen.facts) :=
  fun m g _ => Cert.KernelIdeal.Hand.runsI Ideal m g

theorem frame_2 : Cert.quiescent_Kernel2 (hKernel2 := Cert.Kernel2.Gen.facts) := by
  intro m g _
  exact (θ_run Cert.Kernel2.defs _ _).mono (fun r h => ⟨fun c => Cert.Kernel2.Hand.args_of m h.1 c, h.2⟩)
    (Cert.Kernel2.Hand.run_main (F := Bits) m g)

theorem frame_2i : Cert.quiescent_Kernel2Ideal (hKernel2Ideal := Cert.Kernel2Ideal.Gen.facts) := by
  intro m g _
  exact (θ_run Cert.Kernel2Ideal.defs _ _).mono (fun r h => ⟨fun c => Cert.Kernel2.Hand.args_of m h.1 c, h.2⟩) (Cert.Kernel2Ideal.Hand.run_ideal (F := Ideal) m g)

theorem frame_r : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

/-- At the extended reals the launch and the reference leave the same projected rows. -/
theorem algebraic_2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2.Hand.projOf m c, ?_, ?_⟩
  · exact (θ_run Cert.Kernel2Ideal.defs _ _).mono (fun r h c =>
      ⟨(Cert.Kernel2.Hand.final_of m h.1 c 5 rfl).trans (Cert.Kernel2.Hand.final5 m c), Cert.Kernel2.Hand.args_of m h.1 c⟩)
      (Cert.Kernel2Ideal.Hand.run_ideal (F := Ideal) m g)
  · refine (θ_run Cert.Reference2Ideal.defs _ _).mono (fun r h c => ⟨(h c).1.trans ?_, (h c).2⟩) (Cert.Reference2Ideal.Value.run (F := Ideal) m' g')
    exact Cert.Reference2Ideal.Hand.res_eq m' c _ _ _ _ _ (hagree c).1 (hagree c).2.1 (hagree c).2.2.1 (hagree c).2.2.2.1 (hagree c).2.2.2.2.1

theorem claim : Cert.Claim :=
  ⟨Cert.Kernel.Gen.facts, Cert.KernelIdeal.Gen.facts, Cert.Kernel2.Gen.facts, Cert.Kernel2Ideal.Gen.facts, Cert.Reference2Ideal.Gen.facts,
    frame_1, frame_1i, frame_2, frame_2i, frame_r, trivial, trivial, algebraic_2⟩

end Cert.Proof

end
